-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_rope_layout [hPre_rope_layout : Cert.Pre_rope_layout.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_rope_layout.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).1 = (fun _ => 1#1)
    ∧ (Cert.Pre_rope_layout.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).2.1 = (fun _ => 1#1)
    ∧ (Cert.Pre_rope_layout.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_rope_layout [hPre_rope_layout : Cert.Pre_rope_layout.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_rope_layout.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).1 = (fun _ => 1#1)
    ∧ (Cert.Pre_rope_layout.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).2.1 = (fun _ => 1#1)
    ∧ (Cert.Pre_rope_layout.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Kernel6Ideal_pre_rope_layout [hKernel6Ideal : Cert.Kernel6Ideal.Facts] [hPre_rope_layout : Cert.Pre_rope_layout.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_rope_layout m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Reference6Ideal_pre_rope_layout [hReference6Ideal : Cert.Reference6Ideal.Facts] [hPre_rope_layout : Cert.Pre_rope_layout.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_rope_layout m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v42_0)) (v1 : (c : Dev Cert.Kernel5Ideal.nD) → Buf (Elt Ideal) ((c.tc : Thread Cert.Kernel5Ideal.nD Cert.Kernel5Ideal.τ).loc Cert.Kernel5Ideal.main_v42_1)) (v2 : (c : Dev Cert.Kernel5Ideal.nD) → Buf (Elt Ideal) ((c.tc : Thread Cert.Kernel5Ideal.nD Cert.Kernel5Ideal.τ).loc Cert.Kernel5Ideal.main_v42_2)) (v3 : (c : Dev Cert.Kernel5Ideal.nD) → Buf (Elt Ideal) ((c.tc : Thread Cert.Kernel5Ideal.nD Cert.Kernel5Ideal.τ).loc Cert.Kernel5Ideal.main_v42_3)) (v4 : (c : Dev Cert.Kernel5Ideal.nD) → Buf (Elt Ideal) ((c.tc : Thread Cert.Kernel5Ideal.nD Cert.Kernel5Ideal.τ).loc Cert.Kernel5Ideal.main_v42_4)) (v5 : (c : Dev Cert.Kernel5Ideal.nD) → Buf (Elt Ideal) ((c.tc : Thread Cert.Kernel5Ideal.nD Cert.Kernel5Ideal.τ).loc Cert.Kernel5Ideal.main_v42_5)) (v6 : (c : Dev Cert.Kernel5Ideal.nD) → Buf (Elt Ideal) ((c.tc : Thread Cert.Kernel5Ideal.nD Cert.Kernel5Ideal.τ).loc Cert.Kernel5Ideal.main_v42_6)) (v7 : (c : Dev Cert.Kernel5Ideal.nD) → Buf (Elt Ideal) ((c.tc : Thread Cert.Kernel5Ideal.nD Cert.Kernel5Ideal.τ).loc Cert.Kernel5Ideal.main_v42_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v42_0) = v0 c
          ∧ r.2.mem ((c.tc : Thread Cert.Kernel5Ideal.nD Cert.Kernel5Ideal.τ).loc Cert.Kernel5Ideal.main_v42_1) = v1 c
          ∧ r.2.mem ((c.tc : Thread Cert.Kernel5Ideal.nD Cert.Kernel5Ideal.τ).loc Cert.Kernel5Ideal.main_v42_2) = v2 c
          ∧ r.2.mem ((c.tc : Thread Cert.Kernel5Ideal.nD Cert.Kernel5Ideal.τ).loc Cert.Kernel5Ideal.main_v42_3) = v3 c
          ∧ r.2.mem ((c.tc : Thread Cert.Kernel5Ideal.nD Cert.Kernel5Ideal.τ).loc Cert.Kernel5Ideal.main_v42_4) = v4 c
          ∧ r.2.mem ((c.tc : Thread Cert.Kernel5Ideal.nD Cert.Kernel5Ideal.τ).loc Cert.Kernel5Ideal.main_v42_5) = v5 c
          ∧ r.2.mem ((c.tc : Thread Cert.Kernel5Ideal.nD Cert.Kernel5Ideal.τ).loc Cert.Kernel5Ideal.main_v42_6) = v6 c
          ∧ r.2.mem ((c.tc : Thread Cert.Kernel5Ideal.nD Cert.Kernel5Ideal.τ).loc Cert.Kernel5Ideal.main_v42_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v69) = v0 c
          ∧ r.2.mem ((c.tc : Thread Cert.Reference5Ideal.nD Cert.Reference5Ideal.τ).loc Cert.Reference5Ideal.main_v70) = v1 c
          ∧ r.2.mem ((c.tc : Thread Cert.Reference5Ideal.nD Cert.Reference5Ideal.τ).loc Cert.Reference5Ideal.main_v71) = v2 c
          ∧ r.2.mem ((c.tc : Thread Cert.Reference5Ideal.nD Cert.Reference5Ideal.τ).loc Cert.Reference5Ideal.main_v72) = v3 c
          ∧ r.2.mem ((c.tc : Thread Cert.Reference5Ideal.nD Cert.Reference5Ideal.τ).loc Cert.Reference5Ideal.main_v73) = v4 c
          ∧ r.2.mem ((c.tc : Thread Cert.Reference5Ideal.nD Cert.Reference5Ideal.τ).loc Cert.Reference5Ideal.main_v74) = v5 c
          ∧ r.2.mem ((c.tc : Thread Cert.Reference5Ideal.nD Cert.Reference5Ideal.τ).loc Cert.Reference5Ideal.main_v75) = v6 c
          ∧ r.2.mem ((c.tc : Thread Cert.Reference5Ideal.nD Cert.Reference5Ideal.τ).loc Cert.Reference5Ideal.main_v76) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  IdealRules.named_const.Statement Cert.Kernel6Ideal.κ "inv_qk" .f32 0x3C2AAAAB#32 ((1 / 96 : ℝ) : EReal)

def algebraic_Kernel6Ideal_Reference6Ideal_pre_rope_layout [hKernel6Ideal : Cert.Kernel6Ideal.Facts] [hReference6Ideal : Cert.Reference6Ideal.Facts] [hPre_rope_layout : Cert.Pre_rope_layout.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_rope_layout m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v77_0)) (v1 : (c : Dev Cert.Kernel6Ideal.nD) → Buf (Elt Ideal) ((c.tc : Thread Cert.Kernel6Ideal.nD Cert.Kernel6Ideal.τ).loc Cert.Kernel6Ideal.main_v77_1)) (v2 : (c : Dev Cert.Kernel6Ideal.nD) → Buf (Elt Ideal) ((c.tc : Thread Cert.Kernel6Ideal.nD Cert.Kernel6Ideal.τ).loc Cert.Kernel6Ideal.main_v77_2)) (v3 : (c : Dev Cert.Kernel6Ideal.nD) → Buf (Elt Ideal) ((c.tc : Thread Cert.Kernel6Ideal.nD Cert.Kernel6Ideal.τ).loc Cert.Kernel6Ideal.main_v77_3)) (v4 : (c : Dev Cert.Kernel6Ideal.nD) → Buf (Elt Ideal) ((c.tc : Thread Cert.Kernel6Ideal.nD Cert.Kernel6Ideal.τ).loc Cert.Kernel6Ideal.main_v77_4)) (v5 : (c : Dev Cert.Kernel6Ideal.nD) → Buf (Elt Ideal) ((c.tc : Thread Cert.Kernel6Ideal.nD Cert.Kernel6Ideal.τ).loc Cert.Kernel6Ideal.main_v77_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v77_0) = v0 c
          ∧ r.2.mem ((c.tc : Thread Cert.Kernel6Ideal.nD Cert.Kernel6Ideal.τ).loc Cert.Kernel6Ideal.main_v77_1) = v1 c
          ∧ r.2.mem ((c.tc : Thread Cert.Kernel6Ideal.nD Cert.Kernel6Ideal.τ).loc Cert.Kernel6Ideal.main_v77_2) = v2 c
          ∧ r.2.mem ((c.tc : Thread Cert.Kernel6Ideal.nD Cert.Kernel6Ideal.τ).loc Cert.Kernel6Ideal.main_v77_3) = v3 c
          ∧ r.2.mem ((c.tc : Thread Cert.Kernel6Ideal.nD Cert.Kernel6Ideal.τ).loc Cert.Kernel6Ideal.main_v77_4) = v4 c
          ∧ r.2.mem ((c.tc : Thread Cert.Kernel6Ideal.nD Cert.Kernel6Ideal.τ).loc Cert.Kernel6Ideal.main_v77_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v120) = v0 c
          ∧ r.2.mem ((c.tc : Thread Cert.Reference6Ideal.nD Cert.Reference6Ideal.τ).loc Cert.Reference6Ideal.main_v121) = v1 c
          ∧ r.2.mem ((c.tc : Thread Cert.Reference6Ideal.nD Cert.Reference6Ideal.τ).loc Cert.Reference6Ideal.main_v122) = v2 c
          ∧ r.2.mem ((c.tc : Thread Cert.Reference6Ideal.nD Cert.Reference6Ideal.τ).loc Cert.Reference6Ideal.main_v125) = v3 c
          ∧ r.2.mem ((c.tc : Thread Cert.Reference6Ideal.nD Cert.Reference6Ideal.τ).loc Cert.Reference6Ideal.main_v128) = v4 c
          ∧ r.2.mem ((c.tc : Thread Cert.Reference6Ideal.nD Cert.Reference6Ideal.τ).loc Cert.Reference6Ideal.main_v130) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_qk : Cert.Pre_finite_qk.Facts) (hPre_rope_layout : Cert.Pre_rope_layout.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_rope_layout (hKernel6Ideal := hKernel6Ideal) (hPre_rope_layout := hPre_rope_layout)
    ∧ quiescent_Reference6Ideal (hReference6Ideal := hReference6Ideal)
    ∧ quiescent_Reference6Ideal_pre_rope_layout (hReference6Ideal := hReference6Ideal) (hPre_rope_layout := hPre_rope_layout)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_rope_layout (hKernel6Ideal := hKernel6Ideal) (hReference6Ideal := hReference6Ideal) (hPre_rope_layout := hPre_rope_layout)
-- ==== Pre_finite_qk.lean ====
abbrev S32x2048x1024 : Shape := ⟨3, ![32, 2048, 1024]⟩
abbrev S32x2048x512 : Shape := ⟨3, ![32, 2048, 512]⟩
abbrev S_ : Shape := ⟨0, ![]⟩

class Facts : Prop where
  bitsLt_bf16_f32 : FTy.bits .bf16 < FTy.bits .f32
  bcast_S_S32x2048x1024 : S_.BroadcastsInDim S32x2048x1024 (![] : Fin 0 → Fin S32x2048x1024.rank)

variable [Facts]

def fn {F : FTy → Type} [FloatOps F] (main_arg0 : FVec F S32x2048x1024 .bf16) (main_arg1 : FVec F S32x2048x1024 .bf16) (main_arg2 : FVec F S32x2048x512 .bf16) : IVec S32x2048x1024 1 × IVec S32x2048x1024 1 :=
  let main_v0 : FVec F S32x2048x1024 .f32 := (extf .f32 · bitsLt_bf16_f32) main_arg0
  let main_v1 : FVec F S32x2048x1024 .f32 := Host.absf main_v0
  let main_cst : FVec F S_ .f32 := constant S_ .f32 0x7F800000#32
  let main_v2 : FVec F S32x2048x1024 .f32 := broadcastInDim S32x2048x1024 ![] bcast_S_S32x2048x1024 main_cst
  let main_v3 : IVec S32x2048x1024 1 := cmpf .olt main_v1 main_v2
  let main_v4 : FVec F S32x2048x1024 .f32 := (extf .f32 · bitsLt_bf16_f32) main_arg1
  let main_v5 : FVec F S32x2048x1024 .f32 := Host.absf main_v4
  let main_cst_0 : FVec F S_ .f32 := constant S_ .f32 0x7F800000#32
  let main_v6 : FVec F S32x2048x1024 .f32 := broadcastInDim S32x2048x1024 ![] bcast_S_S32x2048x1024 main_cst_0
  let main_v7 : IVec S32x2048x1024 1 := cmpf .olt main_v5 main_v6
  (main_v3, main_v7)
-- ==== Pre_rope_layout.lean ====
abbrev S65536x1024 : Shape := ⟨2, ![65536, 1024]⟩
abbrev S1024 : Shape := ⟨1, ![1024]⟩
abbrev S1024x3760 : Shape := ⟨2, ![1024, 3760]⟩
abbrev S65536x128 : Shape := ⟨2, ![65536, 128]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S96 : Shape := ⟨1, ![96]⟩
abbrev S65536x64 : Shape := ⟨2, ![65536, 64]⟩
abbrev S_ : Shape := ⟨0, ![]⟩
abbrev S65536x16 : Shape := ⟨2, ![65536, 16]⟩

class Facts : Prop where
  slices_S65536x128_S65536x64_0_0 : S65536x128.Slices ![0, 0] S65536x64
  bcast_S_S65536x64 : S_.BroadcastsInDim S65536x64 (![] : Fin 0 → Fin S65536x64.rank)
  slices_S65536x128_S65536x16_0_64 : S65536x128.Slices ![0, 64] S65536x16
  slices_S65536x128_S65536x16_0_80 : S65536x128.Slices ![0, 80] S65536x16

variable [Facts]

def fn {F : FTy → Type} [FloatOps F] (main_arg0 : FVec F S65536x1024 .f32) (main_arg1 : FVec F S1024 .f32) (main_arg2 : FVec F S1024x3760 .f32) (main_arg3 : FVec F S65536x128 .f32) (main_arg4 : FVec F S65536x128 .f32) (main_arg5 : FVec F S384 .f32) (main_arg6 : FVec F S384x768 .f32) (main_arg7 : FVec F S256 .f32) (main_arg8 : FVec F S256x1024 .f32) (main_arg9 : FVec F S96 .f32) (main_arg10 : FVec F S96 .f32) : IVec S65536x64 1 × IVec S65536x16 1 × IVec S65536x16 1 :=
  let main_v0 : FVec F S65536x64 .f32 := (extractStridedSlice S65536x64 ![0, 0] · slices_S65536x128_S65536x64_0_0) main_arg3
  let main_cst : FVec F S_ .f32 := constant S_ .f32 0x3F800000#32
  let main_v1 : FVec F S65536x64 .f32 := broadcastInDim S65536x64 ![] bcast_S_S65536x64 main_cst
  let main_v2 : IVec S65536x64 1 := cmpf .oeq main_v0 main_v1
  let main_v3 : FVec F S65536x16 .f32 := (extractStridedSlice S65536x16 ![0, 64] · slices_S65536x128_S65536x16_0_64) main_arg3
  let main_v4 : FVec F S65536x16 .f32 := (extractStridedSlice S65536x16 ![0, 80] · slices_S65536x128_S65536x16_0_80) main_arg3
  let main_v5 : IVec S65536x16 1 := cmpf .oeq main_v3 main_v4
  let main_v6 : FVec F S65536x16 .f32 := (extractStridedSlice S65536x16 ![0, 64] · slices_S65536x128_S65536x16_0_64) main_arg4
  let main_v7 : FVec F S65536x16 .f32 := (extractStridedSlice S65536x16 ![0, 80] · slices_S65536x128_S65536x16_0_80) main_arg4
  let main_v8 : FVec F S65536x16 .f32 := Host.negf main_v7
  let main_v9 : IVec S65536x16 1 := cmpf .oeq main_v6 main_v8
  (main_v2, main_v5, main_v9)
-- ==== Kernel.lean ====
abbrev S32x2048x1024 : Shape := ⟨3, ![32, 2048, 1024]⟩
abbrev S32x2048x512 : Shape := ⟨3, ![32, 2048, 512]⟩
abbrev S1x2048x256 : Shape := ⟨3, ![1, 2048, 256]⟩
abbrev S1x2048x128 : Shape := ⟨3, ![1, 2048, 128]⟩
abbrev S512x512 : Shape := ⟨2, ![512, 512]⟩
abbrev S512x128 : Shape := ⟨2, ![512, 128]⟩
abbrev S1x512x128 : Shape := ⟨3, ![1, 512, 128]⟩
abbrev S512 : Shape := ⟨1, ![512]⟩
abbrev S512x1 : Shape := ⟨2, ![512, 1]⟩
abbrev S512x256 : Shape := ⟨2, ![512, 256]⟩
abbrev S1x1024x128 : Shape := ⟨3, ![1, 1024, 128]⟩
abbrev S1024x128 : Shape := ⟨2, ![1024, 128]⟩
abbrev S512x1024 : Shape := ⟨2, ![512, 1024]⟩
abbrev S1024x256 : Shape := ⟨2, ![1024, 256]⟩
abbrev S1x1536x128 : Shape := ⟨3, ![1, 1536, 128]⟩
abbrev S1536x128 : Shape := ⟨2, ![1536, 128]⟩
abbrev S512x1536 : Shape := ⟨2, ![512, 1536]⟩
abbrev S1536x256 : Shape := ⟨2, ![1536, 256]⟩

abbrev nBuf : Space → Nat
  | .hbm => 4
  | .vmem => 8
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .bf16⟩
  | .hbm, ⟨2, _⟩ => ⟨S32x2048x512, .bf16⟩
  | .hbm, ⟨3, _⟩ => ⟨S32x2048x512, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S32x2048x1024 : Shape := ⟨3, ![32, 2048, 1024]⟩
abbrev S32x2048x512 : Shape := ⟨3, ![32, 2048, 512]⟩
abbrev S32x2048x8x128 : Shape := ⟨4, ![32, 2048, 8, 128]⟩
abbrev S32x2048x8x64 : Shape := ⟨4, ![32, 2048, 8, 64]⟩
abbrev S32x8x2048x2048 : Shape := ⟨4, ![32, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S32x8x2048 : Shape := ⟨3, ![32, 8, 2048]⟩
abbrev S32x8x2048x1 : Shape := ⟨4, ![32, 8, 2048, 1]⟩
abbrev S32x8x64x2048 : Shape := ⟨4, ![32, 8, 64, 2048]⟩

abbrev nBuf : Space → Nat
  | .hbm => 46
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .bf16⟩
  | .hbm, ⟨2, _⟩ => ⟨S32x2048x512, .bf16⟩
  | .hbm, ⟨3, _⟩ => ⟨S32x2048x1024, .f32⟩
  | .hbm, ⟨4, _⟩ => ⟨S32x2048x8x128, .f32⟩
  | .hbm, ⟨5, _⟩ => ⟨S32x2048x1024, .f32⟩
  | .hbm, ⟨6, _⟩ => ⟨S32x2048x8x128, .f32⟩
  | .hbm, ⟨7, _⟩ => ⟨S32x2048x512, .f32⟩
  | .hbm, ⟨8, _⟩ => ⟨S32x2048x8x64, .f32⟩
  | .hbm, ⟨9, _⟩ => ⟨S32x8x2048x2048, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S32x8x2048x2048, .f32⟩
  | .hbm, ⟨14, _⟩ => ⟨S32x8x2048x2048, .f32⟩
  | .hbm, ⟨15, _⟩ => ⟨S2048, .i32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .f32⟩
  | .hbm, ⟨22, _⟩ => ⟨S_, .f32⟩
  | .hbm, ⟨23, _⟩ => ⟨S32x8x2048x2048, .i1⟩
  | .hbm, ⟨24, _⟩ => ⟨S32x8x2048x2048, .f32⟩
  | .hbm, ⟨25, _⟩ => ⟨S32x8x2048x2048, .f32⟩
  | .hbm, ⟨26, _⟩ => ⟨S_, .f32⟩
  | .hbm, ⟨27, _⟩ => ⟨S32x8x2048, .f32⟩
  | .hbm, ⟨28, _⟩ => ⟨S_, .f32⟩
  | .hbm, ⟨29, _⟩ => ⟨S32x8x2048, .f32⟩
  | .hbm, ⟨30, _⟩ => ⟨S32x8x2048, .f32⟩
  | .hbm, ⟨31, _⟩ => ⟨S32x8x2048x1, .f32⟩
  | .hbm, ⟨32, _⟩ => ⟨S32x8x2048x2048, .f32⟩
  | .hbm, ⟨33, _⟩ => ⟨S32x8x2048x2048, .f32⟩
  | .hbm, ⟨34, _⟩ => ⟨S32x8x2048x2048, .f32⟩
  | .hbm, ⟨35, _⟩ => ⟨S_, .f32⟩
  | .hbm, ⟨36, _⟩ => ⟨S32x8x2048, .f32⟩
  | .hbm, ⟨37, _⟩ => ⟨S32x8x2048x1, .f32⟩
  | .hbm, ⟨38, _⟩ => ⟨S32x8x2048x2048, .f32⟩
  | .hbm, ⟨39, _⟩ => ⟨S32x8x2048x2048, .f32⟩
  | .hbm, ⟨40, _⟩ => ⟨S32x8x2048x2048, .bf16⟩
  | .hbm, ⟨41, _⟩ => ⟨S32x8x2048x2048, .f32⟩
  | .hbm, ⟨42, _⟩ => ⟨S32x8x64x2048, .f32⟩
  | .hbm, ⟨43, _⟩ => ⟨S32x2048x8x64, .f32⟩
  | .hbm, ⟨44, _⟩ => ⟨S32x2048x512, .f32⟩
  | .hbm, ⟨45, _⟩ => ⟨S32x2048x512, .bf16⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel2.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S65536x512 : Shape := ⟨2, ![65536, 512]⟩
abbrev S1024x1024 : Shape := ⟨2, ![1024, 1024]⟩
abbrev S512x1024 : Shape := ⟨2, ![512, 1024]⟩
abbrev S_ : Shape := ⟨0, ![]⟩
abbrev S1x1024 : Shape := ⟨2, ![1, 1024]⟩
abbrev S1024x512 : Shape := ⟨2, ![1024, 512]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 20
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S65536x512, .bf16⟩
  | .hbm, ⟨6, _⟩ => ⟨S65536x512, .bf16⟩
  | .hbm, ⟨7, _⟩ => ⟨S1024x1024, .f32⟩
  | .hbm, ⟨8, _⟩ => ⟨S512x1024, .f32⟩
  | .hbm, ⟨9, _⟩ => ⟨S512x1024, .f32⟩
  | .hbm, ⟨10, _⟩ => ⟨S1024x2816, .bf16⟩
  | .hbm, ⟨11, _⟩ => ⟨S1024x2816, .bf16⟩
  | .hbm, ⟨12, _⟩ => ⟨S_, .f32⟩
  | .hbm, ⟨13, _⟩ => ⟨S2816x1024, .f32⟩
  | .hbm, ⟨14, _⟩ => ⟨S2816x1024, .f32⟩
  | .hbm, ⟨15, _⟩ => ⟨S2816x1024, .bf16⟩
  | .hbm, ⟨16, _⟩ => ⟨S512x1024, .bf16⟩
  | .hbm, ⟨17, _⟩ => ⟨S512x1024, .bf16⟩
  | .hbm, ⟨18, _⟩ => ⟨S1x1024, .f32⟩
  | .hbm, ⟨19, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S65536x512 : Shape := ⟨2, ![65536, 512]⟩
abbrev S1024x1024 : Shape := ⟨2, ![1024, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 46
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S65536x512, .bf16⟩
  | .hbm, ⟨6, _⟩ => ⟨S65536x512, .bf16⟩
  | .hbm, ⟨7, _⟩ => ⟨S1024x1024, .f32⟩
  | .hbm, ⟨8, _⟩ => ⟨S65536x512, .f32⟩
  | .hbm, ⟨9, _⟩ => ⟨S65536x512, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S_, .f32⟩
  | .hbm, ⟨21, _⟩ => ⟨S65536x1, .f32⟩
  | .hbm, ⟨22, _⟩ => ⟨S65536x1, .f32⟩
  | .hbm, ⟨23, _⟩ => ⟨S65536x1, .f32⟩
  | .hbm, ⟨24, _⟩ => ⟨S65536x1024, .f32⟩
  | .hbm, ⟨25, _⟩ => ⟨S65536x1024, .f32⟩
  | .hbm, ⟨26, _⟩ => ⟨S1x1024, .f32⟩
  | .hbm, ⟨27, _⟩ => ⟨S65536x1024, .f32⟩
  | .hbm, ⟨28, _⟩ => ⟨S65536x1024, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S_, .f32⟩
  | .hbm, ⟨33, _⟩ => ⟨S65536x2816, .f32⟩
  | .hbm, ⟨34, _⟩ => ⟨S65536x2816, .f32⟩
  | .hbm, ⟨35, _⟩ => ⟨S_, .f32⟩
  | .hbm, ⟨36, _⟩ => ⟨S65536x2816, .f32⟩
  | .hbm, ⟨37, _⟩ => ⟨S65536x2816, .f32⟩
  | .hbm, ⟨38, _⟩ => ⟨S65536x2816, .f32⟩
  | .hbm, ⟨39, _⟩ => ⟨S65536x2816, .f32⟩
  | .hbm, ⟨40, _⟩ => ⟨S65536x2816, .f32⟩
  | .hbm, ⟨41, _⟩ => ⟨S65536x1024, .f32⟩
  | .hbm, ⟨42, _⟩ => ⟨S_, .f32⟩
  | .hbm, ⟨43, _⟩ => ⟨S65536x1024, .f32⟩
  | .hbm, ⟨44, _⟩ => ⟨S65536x1024, .f32⟩
  | .hbm, ⟨45, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩

abbrev nD : Nat := 1
abbrev τ : Topo := Topo.v7x

variable {F : FTy → Type} [FloatOps F]
-- ==== Kernel3.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S65536x512 : Shape := ⟨2, ![65536, 512]⟩
abbrev S1536x1024 : Shape := ⟨2, ![1536, 1024]⟩
abbrev S1024x1024 : Shape := ⟨2, ![1024, 1024]⟩
abbrev S512x1024 : Shape := ⟨2, ![512, 1024]⟩
abbrev S_ : Shape := ⟨0, ![]⟩
abbrev S1x1024 : Shape := ⟨2, ![1, 1024]⟩
abbrev S1024x512 : Shape := ⟨2, ![1024, 512]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 20
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S65536x1024, .bf16⟩
  | .hbm, ⟨6, _⟩ => ⟨S65536x512, .bf16⟩
  | .hbm, ⟨7, _⟩ => ⟨S1536x1024, .f32⟩
  | .hbm, ⟨8, _⟩ => ⟨S1024x1024, .f32⟩
  | .hbm, ⟨9, _⟩ => ⟨S512x1024, .f32⟩
  | .hbm, ⟨10, _⟩ => ⟨S1024x2816, .bf16⟩
  | .hbm, ⟨11, _⟩ => ⟨S1024x2816, .bf16⟩
  | .hbm, ⟨12, _⟩ => ⟨S_, .f32⟩
  | .hbm, ⟨13, _⟩ => ⟨S2816x1024, .f32⟩
  | .hbm, ⟨14, _⟩ => ⟨S2816x1024, .f32⟩
  | .hbm, ⟨15, _⟩ => ⟨S2816x1024, .bf16⟩
  | .hbm, ⟨16, _⟩ => ⟨S1024x1024, .bf16⟩
  | .hbm, ⟨17, _⟩ => ⟨S512x1024, .bf16⟩
  | .hbm, ⟨18, _⟩ => ⟨S1x1024, .f32⟩
  | .hbm, ⟨19, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x1024, .bf16⟩
  | .local _ .vmem, ⟨11, _⟩ => ⟨S512x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S65536x512 : Shape := ⟨2, ![65536, 512]⟩
abbrev S1536x1024 : Shape := ⟨2, ![1536, 1024]⟩
abbrev S65536x1536 : Shape := ⟨2, ![65536, 1536]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 46
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S65536x1024, .bf16⟩
  | .hbm, ⟨6, _⟩ => ⟨S65536x512, .bf16⟩
  | .hbm, ⟨7, _⟩ => ⟨S1536x1024, .f32⟩
  | .hbm, ⟨8, _⟩ => ⟨S65536x1024, .f32⟩
  | .hbm, ⟨9, _⟩ => ⟨S65536x512, .f32⟩
  | .hbm, ⟨10, _⟩ => ⟨S65536x1536, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S_, .f32⟩
  | .hbm, ⟨21, _⟩ => ⟨S65536x1, .f32⟩
  | .hbm, ⟨22, _⟩ => ⟨S65536x1, .f32⟩
  | .hbm, ⟨23, _⟩ => ⟨S65536x1, .f32⟩
  | .hbm, ⟨24, _⟩ => ⟨S65536x1024, .f32⟩
  | .hbm, ⟨25, _⟩ => ⟨S65536x1024, .f32⟩
  | .hbm, ⟨26, _⟩ => ⟨S1x1024, .f32⟩
  | .hbm, ⟨27, _⟩ => ⟨S65536x1024, .f32⟩
  | .hbm, ⟨28, _⟩ => ⟨S65536x1024, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S_, .f32⟩
  | .hbm, ⟨33, _⟩ => ⟨S65536x2816, .f32⟩
  | .hbm, ⟨34, _⟩ => ⟨S65536x2816, .f32⟩
  | .hbm, ⟨35, _⟩ => ⟨S_, .f32⟩
  | .hbm, ⟨36, _⟩ => ⟨S65536x2816, .f32⟩
  | .hbm, ⟨37, _⟩ => ⟨S65536x2816, .f32⟩
  | .hbm, ⟨38, _⟩ => ⟨S65536x2816, .f32⟩
  | .hbm, ⟨39, _⟩ => ⟨S65536x2816, .f32⟩
  | .hbm, ⟨40, _⟩ => ⟨S65536x2816, .f32⟩
  | .hbm, ⟨41, _⟩ => ⟨S65536x1024, .f32⟩
  | .hbm, ⟨42, _⟩ => ⟨S_, .f32⟩
  | .hbm, ⟨43, _⟩ => ⟨S65536x1024, .f32⟩
  | .hbm, ⟨44, _⟩ => ⟨S65536x1024, .f32⟩
  | .hbm, ⟨45, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩

abbrev nD : Nat := 1
abbrev τ : Topo := Topo.v7x

variable {F : FTy → Type} [FloatOps F]
-- ==== Kernel4.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 13
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x2816, .bf16⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S2816x1024, .bf16⟩
  | .hbm, ⟨11, _⟩ => ⟨S1x1024, .f32⟩
  | .hbm, ⟨12, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 38
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x2816, .f32⟩
  | .hbm, ⟨22, _⟩ => ⟨S65536x2816, .f32⟩
  | .hbm, ⟨23, _⟩ => ⟨S65536x2816, .f32⟩
  | .hbm, ⟨24, _⟩ => ⟨S_, .f32⟩
  | .hbm, ⟨25, _⟩ => ⟨S65536x2816, .f32⟩
  | .hbm, ⟨26, _⟩ => ⟨S65536x2816, .f32⟩
  | .hbm, ⟨27, _⟩ => ⟨S_, .f32⟩
  | .hbm, ⟨28, _⟩ => ⟨S65536x2816, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x1024, .f32⟩
  | .hbm, ⟨34, _⟩ => ⟨S_, .f32⟩
  | .hbm, ⟨35, _⟩ => ⟨S65536x1024, .f32⟩
  | .hbm, ⟨36, _⟩ => ⟨S65536x1024, .f32⟩
  | .hbm, ⟨37, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Kernel5.lean ====
abbrev S65536x1024 : Shape := ⟨2, ![65536, 1024]⟩
abbrev S1024 : Shape := ⟨1, ![1024]⟩
abbrev S1024x2320 : Shape := ⟨2, ![1024, 2320]⟩
abbrev S64 : Shape := ⟨1, ![64]⟩
abbrev S1024x512 : Shape := ⟨2, ![1024, 512]⟩
abbrev S1024x128 : Shape := ⟨2, ![1024, 128]⟩
abbrev S1024x256 : Shape := ⟨2, ![1024, 256]⟩
abbrev S1024x16 : Shape := ⟨2, ![1024, 16]⟩
abbrev S1024x2x1x64 : Shape := ⟨4, ![1024, 2, 1, 64]⟩
abbrev S1024x2x1x2x64 : Shape := ⟨5, ![1024, 2, 1, 2, 64]⟩
abbrev S1024x2x2x64 : Shape := ⟨4, ![1024, 2, 2, 64]⟩
abbrev S1024x8x64 : Shape := ⟨3, ![1024, 8, 64]⟩
abbrev S_ : Shape := ⟨0, ![]⟩
abbrev S1024x8x128 : Shape := ⟨3, ![1024, 8, 128]⟩
abbrev S1024x1024 : Shape := ⟨2, ![1024, 1024]⟩
abbrev S1024x2x64 : Shape := ⟨3, ![1024, 2, 64]⟩
abbrev S1024x2x128 : Shape := ⟨3, ![1024, 2, 128]⟩
abbrev S1024x4x64 : Shape := ⟨3, ![1024, 4, 64]⟩
abbrev S1024x4x128 : Shape := ⟨3, ![1024, 4, 128]⟩
abbrev S1x64 : Shape := ⟨2, ![1, 64]⟩
abbrev S1x128 : Shape := ⟨2, ![1, 128]⟩
abbrev S1x1024 : Shape := ⟨2, ![1, 1024]⟩
abbrev S65536x256 : Shape := ⟨2, ![65536, 256]⟩
abbrev S65536x512 : Shape := ⟨2, ![65536, 512]⟩
abbrev S65536x128 : Shape := ⟨2, ![65536, 128]⟩
abbrev S1024x1 : Shape := ⟨2, ![1024, 1]⟩

abbrev nBuf : Space → Nat
  | .hbm => 71
  | .vmem => 29
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2320, .f32⟩
  | .hbm, ⟨3, _⟩ => ⟨S64, .f32⟩
  | .hbm, ⟨4, _⟩ => ⟨S64, .f32⟩
  | .hbm, ⟨5, _⟩ => ⟨S1024x512, .f32⟩
  | .hbm, ⟨6, _⟩ => ⟨S1024x128, .f32⟩
  | .hbm, ⟨7, _⟩ => ⟨S1024x128, .f32⟩
  | .hbm, ⟨8, _⟩ => ⟨S1024x256, .f32⟩
  | .hbm, ⟨9, _⟩ => ⟨S1024x256, .f32⟩
  | .hbm, ⟨10, _⟩ => ⟨S1024x512, .f32⟩
  | .hbm, ⟨11, _⟩ => ⟨S1024x16, .f32⟩
  | .hbm, ⟨12, _⟩ => ⟨S1024x512, .f32⟩
  | .hbm, ⟨13, _⟩ => ⟨S1024x2x1x64, .f32⟩
  | .hbm, ⟨14, _⟩ => ⟨S1024x2x1x2x64, .f32⟩
  | .hbm, ⟨15, _⟩ => ⟨S1024x2x2x64, .f32⟩
  | .hbm, ⟨16, _⟩ => ⟨S1024x256, .f32⟩
  | .hbm, ⟨17, _⟩ => ⟨S1024x8x64, .f32⟩
  | .hbm, ⟨18, _⟩ => ⟨S_, .i32⟩
  | .hbm, ⟨19, _⟩ => ⟨S_, .f32⟩
  | .hbm, ⟨20, _⟩ => ⟨S1024x8x128, .f32⟩
  | .hbm, ⟨21, _⟩ => ⟨S1024x1024, .f32⟩
  | .hbm, ⟨22, _⟩ => ⟨S1024x2x64, .f32⟩
  | .hbm, ⟨23, _⟩ => ⟨S_, .i32⟩
  | .hbm, ⟨24, _⟩ => ⟨S_, .f32⟩
  | .hbm, ⟨25, _⟩ => ⟨S1024x2x128, .f32⟩
  | .hbm, ⟨26, _⟩ => ⟨S1024x256, .f32⟩
  | .hbm, ⟨27, _⟩ => ⟨S_, .f32⟩
  | .hbm, ⟨28, _⟩ => ⟨S1024x256, .f32⟩
  | .hbm, ⟨29, _⟩ => ⟨S1024x256, .f32⟩
  | .hbm, ⟨30, _⟩ => ⟨S1024x4x64, .f32⟩
  | .hbm, ⟨31, _⟩ => ⟨S_, .i32⟩
  | .hbm, ⟨32, _⟩ => ⟨S_, .f32⟩
  | .hbm, ⟨33, _⟩ => ⟨S1024x4x128, .f32⟩
  | .hbm, ⟨34, _⟩ => ⟨S1024x512, .f32⟩
  | .hbm, ⟨35, _⟩ => ⟨S1024x4x64, .f32⟩
  | .hbm, ⟨36, _⟩ => ⟨S_, .i32⟩
  | .hbm, ⟨37, _⟩ => ⟨S_, .f32⟩
  | .hbm, ⟨38, _⟩ => ⟨S1024x4x128, .f32⟩
  | .hbm, ⟨39, _⟩ => ⟨S1024x512, .f32⟩
  | .hbm, ⟨40, _⟩ => ⟨S_, .i32⟩
  | .hbm, ⟨41, _⟩ => ⟨S_, .f32⟩
  | .hbm, ⟨42, _⟩ => ⟨S1024x128, .f32⟩
  | .hbm, ⟨43, _⟩ => ⟨S1024x1024, .bf16⟩
  | .hbm, ⟨44, _⟩ => ⟨S1024x256, .bf16⟩
  | .hbm, ⟨45, _⟩ => ⟨S1024x256, .bf16⟩
  | .hbm, ⟨46, _⟩ => ⟨S1024x512, .bf16⟩
  | .hbm, ⟨47, _⟩ => ⟨S1024x512, .bf16⟩
  | .hbm, ⟨48, _⟩ => ⟨S1024x512, .bf16⟩
  | .hbm, ⟨49, _⟩ => ⟨S1024x128, .bf16⟩
  | .hbm, ⟨50, _⟩ => ⟨S1024x512, .bf16⟩
  | .hbm, ⟨51, _⟩ => ⟨S1x64, .f32⟩
  | .hbm, ⟨52, _⟩ => ⟨S_, .f32⟩
  | .hbm, ⟨53, _⟩ => ⟨S1x64, .f32⟩
  | .hbm, ⟨54, _⟩ => ⟨S1x64, .f32⟩
  | .hbm, ⟨55, _⟩ => ⟨S_, .i32⟩
  | .hbm, ⟨56, _⟩ => ⟨S_, .f32⟩
  | .hbm, ⟨57, _⟩ => ⟨S1x128, .f32⟩
  | .hbm, ⟨58, _⟩ => ⟨S1x64, .f32⟩
  | .hbm, ⟨59, _⟩ => ⟨S_, .i32⟩
  | .hbm, ⟨60, _⟩ => ⟨S_, .f32⟩
  | .hbm, ⟨61, _⟩ => ⟨S1x128, .f32⟩
  | .hbm, ⟨62, _⟩ => ⟨S1x1024, .f32⟩
  | .hbm, ⟨63, _⟩ => ⟨S65536x1024, .bf16⟩
  | .hbm, ⟨64, _⟩ => ⟨S65536x256, .bf16⟩
  | .hbm, ⟨65, _⟩ => ⟨S65536x256, .bf16⟩
  | .hbm, ⟨66, _⟩ => ⟨S65536x512, .bf16⟩
  | .hbm, ⟨67, _⟩ => ⟨S65536x512, .bf16⟩
  | .hbm, ⟨68, _⟩ => ⟨S65536x512, .bf16⟩
  | .hbm, ⟨69, _⟩ => ⟨S65536x128, .bf16⟩
  | .hbm, ⟨70, _⟩ => ⟨S65536x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x256, .bf16⟩
  | .local _ .vmem, ⟨5, _⟩ => ⟨S1024x256, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x128, .bf16⟩
  | .local _ .vmem, ⟨10, _⟩ => ⟨S1024x512, .bf16⟩
  | .local _ .vmem, ⟨11, _⟩ => ⟨S1x128, .f32⟩
  | .local _ .vmem, ⟨12, _⟩ => ⟨S1x128, .f32⟩
  | .local _ .vmem, ⟨13, _⟩ => ⟨S1024x1024, .bf16⟩
  | .local _ .vmem, ⟨14, _⟩ => ⟨S1024x1024, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x128, .bf16⟩
  | .local _ .vmem, ⟨26, _⟩ => ⟨S1024x128, .bf16⟩
  | .local _ .vmem, ⟨27, _⟩ => ⟨S1024x512, .bf16⟩
  | .local _ .vmem, ⟨28, _⟩ => ⟨S1024x512, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_call1_v0 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_call2_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_call3_v0 : Ref sig .tc := ⟨.hbm, 37, rfl⟩
abbrev main_v24 : Ref sig .tc := ⟨.hbm, 38, rfl⟩
abbrev main_v25 : Ref sig .tc := ⟨.hbm, 39, rfl⟩
abbrev main_c_3 : Ref sig .tc := ⟨.hbm, 40, rfl⟩
abbrev main_call4_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_call5_v0 : Ref sig .tc := ⟨.hbm, 56, rfl⟩
abbrev main_v38 : Ref sig .tc := ⟨.hbm, 57, rfl⟩
abbrev main_v39 : Ref sig .tc := ⟨.hbm, 58, rfl⟩
abbrev main_c_6 : Ref sig .tc := ⟨.hbm, 59, rfl⟩
abbrev main_call6_v0 : Ref sig .tc := ⟨.hbm, 60, rfl⟩
abbrev main_v40 : Ref sig .tc := ⟨.hbm, 61, rfl⟩
abbrev main_v41 : Ref sig .tc := ⟨.hbm, 62, rfl⟩
abbrev main_v42_0 : Ref sig .tc := ⟨.hbm, 63, rfl⟩
abbrev main_v42_1 : Ref sig .tc := ⟨.hbm, 64, rfl⟩
abbrev main_v42_2 : Ref sig .tc := ⟨.hbm, 65, rfl⟩
abbrev main_v42_3 : Ref sig .tc := ⟨.hbm, 66, rfl⟩
abbrev main_v42_4 : Ref sig .tc := ⟨.hbm, 67, rfl⟩
abbrev main_v42_5 : Ref sig .tc := ⟨.hbm, 68, rfl⟩
abbrev main_v42_6 : Ref sig .tc := ⟨.hbm, 69, rfl⟩
abbrev main_v42_7 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference5Ideal.lean ====
abbrev S65536x1024 : Shape := ⟨2, ![65536, 1024]⟩
abbrev S1024 : Shape := ⟨1, ![1024]⟩
abbrev S1024x2320 : Shape := ⟨2, ![1024, 2320]⟩
abbrev S64 : Shape := ⟨1, ![64]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2320 : Shape := ⟨2, ![65536, 2320]⟩
abbrev S65536x512 : Shape := ⟨2, ![65536, 512]⟩
abbrev S65536x128 : Shape := ⟨2, ![65536, 128]⟩
abbrev S65536x256 : Shape := ⟨2, ![65536, 256]⟩
abbrev S65536x16 : Shape := ⟨2, ![65536, 16]⟩
abbrev S65536x8x64 : Shape := ⟨3, ![65536, 8, 64]⟩
abbrev S65536x8 : Shape := ⟨2, ![65536, 8]⟩
abbrev S65536x8x1 : Shape := ⟨3, ![65536, 8, 1]⟩
abbrev S1x1x64 : Shape := ⟨3, ![1, 1, 64]⟩
abbrev S65536x2x64 : Shape := ⟨3, ![65536, 2, 64]⟩
abbrev S65536x2 : Shape := ⟨2, ![65536, 2]⟩
abbrev S65536x2x1 : Shape := ⟨3, ![65536, 2, 1]⟩
abbrev S65536x2x2x64 : Shape := ⟨4, ![65536, 2, 2, 64]⟩
abbrev S65536x4x64 : Shape := ⟨3, ![65536, 4, 64]⟩
abbrev S65536x8x128 : Shape := ⟨3, ![65536, 8, 128]⟩
abbrev S65536x2x128 : Shape := ⟨3, ![65536, 2, 128]⟩
abbrev S65536x4x128 : Shape := ⟨3, ![65536, 4, 128]⟩

abbrev nBuf : Space → Nat
  | .hbm => 103
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2320, .f32⟩
  | .hbm, ⟨3, _⟩ => ⟨S64, .f32⟩
  | .hbm, ⟨4, _⟩ => ⟨S64, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x2320, .f32⟩
  | .hbm, ⟨22, _⟩ => ⟨S65536x512, .f32⟩
  | .hbm, ⟨23, _⟩ => ⟨S65536x128, .f32⟩
  | .hbm, ⟨24, _⟩ => ⟨S65536x128, .f32⟩
  | .hbm, ⟨25, _⟩ => ⟨S65536x256, .f32⟩
  | .hbm, ⟨26, _⟩ => ⟨S65536x256, .f32⟩
  | .hbm, ⟨27, _⟩ => ⟨S65536x512, .f32⟩
  | .hbm, ⟨28, _⟩ => ⟨S65536x16, .f32⟩
  | .hbm, ⟨29, _⟩ => ⟨S65536x512, .f32⟩
  | .hbm, ⟨30, _⟩ => ⟨S65536x8x64, .f32⟩
  | .hbm, ⟨31, _⟩ => ⟨S65536x8x64, .f32⟩
  | .hbm, ⟨32, _⟩ => ⟨S_, .f32⟩
  | .hbm, ⟨33, _⟩ => ⟨S65536x8, .f32⟩
  | .hbm, ⟨34, _⟩ => ⟨S65536x8x1, .f32⟩
  | .hbm, ⟨35, _⟩ => ⟨S_, .f32⟩
  | .hbm, ⟨36, _⟩ => ⟨S65536x8x1, .f32⟩
  | .hbm, ⟨37, _⟩ => ⟨S65536x8x1, .f32⟩
  | .hbm, ⟨38, _⟩ => ⟨S_, .f32⟩
  | .hbm, ⟨39, _⟩ => ⟨S65536x8x1, .f32⟩
  | .hbm, ⟨40, _⟩ => ⟨S65536x8x1, .f32⟩
  | .hbm, ⟨41, _⟩ => ⟨S65536x8x1, .f32⟩
  | .hbm, ⟨42, _⟩ => ⟨S65536x8x64, .f32⟩
  | .hbm, ⟨43, _⟩ => ⟨S65536x8x64, .f32⟩
  | .hbm, ⟨44, _⟩ => ⟨S1x1x64, .f32⟩
  | .hbm, ⟨45, _⟩ => ⟨S65536x8x64, .f32⟩
  | .hbm, ⟨46, _⟩ => ⟨S65536x8x64, .f32⟩
  | .hbm, ⟨47, _⟩ => ⟨S_, .f32⟩
  | .hbm, ⟨48, _⟩ => ⟨S65536x8x64, .f32⟩
  | .hbm, ⟨49, _⟩ => ⟨S65536x8x64, .f32⟩
  | .hbm, ⟨50, _⟩ => ⟨S65536x2x64, .f32⟩
  | .hbm, ⟨51, _⟩ => ⟨S65536x2x64, .f32⟩
  | .hbm, ⟨52, _⟩ => ⟨S_, .f32⟩
  | .hbm, ⟨53, _⟩ => ⟨S65536x2, .f32⟩
  | .hbm, ⟨54, _⟩ => ⟨S65536x2x1, .f32⟩
  | .hbm, ⟨55, _⟩ => ⟨S_, .f32⟩
  | .hbm, ⟨56, _⟩ => ⟨S65536x2x1, .f32⟩
  | .hbm, ⟨57, _⟩ => ⟨S65536x2x1, .f32⟩
  | .hbm, ⟨58, _⟩ => ⟨S_, .f32⟩
  | .hbm, ⟨59, _⟩ => ⟨S65536x2x1, .f32⟩
  | .hbm, ⟨60, _⟩ => ⟨S65536x2x1, .f32⟩
  | .hbm, ⟨61, _⟩ => ⟨S65536x2x1, .f32⟩
  | .hbm, ⟨62, _⟩ => ⟨S65536x2x64, .f32⟩
  | .hbm, ⟨63, _⟩ => ⟨S65536x2x64, .f32⟩
  | .hbm, ⟨64, _⟩ => ⟨S1x1x64, .f32⟩
  | .hbm, ⟨65, _⟩ => ⟨S65536x2x64, .f32⟩
  | .hbm, ⟨66, _⟩ => ⟨S65536x2x64, .f32⟩
  | .hbm, ⟨67, _⟩ => ⟨S65536x2x64, .f32⟩
  | .hbm, ⟨68, _⟩ => ⟨S65536x2x2x64, .f32⟩
  | .hbm, ⟨69, _⟩ => ⟨S65536x4x64, .f32⟩
  | .hbm, ⟨70, _⟩ => ⟨S65536x256, .f32⟩
  | .hbm, ⟨71, _⟩ => ⟨S65536x4x64, .f32⟩
  | .hbm, ⟨72, _⟩ => ⟨S_, .f32⟩
  | .hbm, ⟨73, _⟩ => ⟨S65536x4x64, .f32⟩
  | .hbm, ⟨74, _⟩ => ⟨S65536x4x64, .f32⟩
  | .hbm, ⟨75, _⟩ => ⟨S65536x4x64, .f32⟩
  | .hbm, ⟨76, _⟩ => ⟨S_, .i32⟩
  | .hbm, ⟨77, _⟩ => ⟨S_, .f32⟩
  | .hbm, ⟨78, _⟩ => ⟨S65536x128, .f32⟩
  | .hbm, ⟨79, _⟩ => ⟨S_, .i32⟩
  | .hbm, ⟨80, _⟩ => ⟨S_, .f32⟩
  | .hbm, ⟨81, _⟩ => ⟨S65536x8x128, .f32⟩
  | .hbm, ⟨82, _⟩ => ⟨S65536x1024, .f32⟩
  | .hbm, ⟨83, _⟩ => ⟨S_, .i32⟩
  | .hbm, ⟨84, _⟩ => ⟨S_, .f32⟩
  | .hbm, ⟨85, _⟩ => ⟨S65536x2x128, .f32⟩
  | .hbm, ⟨86, _⟩ => ⟨S65536x256, .f32⟩
  | .hbm, ⟨87, _⟩ => ⟨S_, .i32⟩
  | .hbm, ⟨88, _⟩ => ⟨S_, .f32⟩
  | .hbm, ⟨89, _⟩ => ⟨S65536x4x128, .f32⟩
  | .hbm, ⟨90, _⟩ => ⟨S65536x512, .f32⟩
  | .hbm, ⟨91, _⟩ => ⟨S_, .i32⟩
  | .hbm, ⟨92, _⟩ => ⟨S_, .f32⟩
  | .hbm, ⟨93, _⟩ => ⟨S65536x4x128, .f32⟩
  | .hbm, ⟨94, _⟩ => ⟨S65536x512, .f32⟩
  | .hbm, ⟨95, _⟩ => ⟨S65536x1024, .bf16⟩
  | .hbm, ⟨96, _⟩ => ⟨S65536x256, .bf16⟩
  | .hbm, ⟨97, _⟩ => ⟨S65536x256, .bf16⟩
  | .hbm, ⟨98, _⟩ => ⟨S65536x512, .bf16⟩
  | .hbm, ⟨99, _⟩ => ⟨S65536x512, .bf16⟩
  | .hbm, ⟨100, _⟩ => ⟨S65536x512, .bf16⟩
  | .hbm, ⟨101, _⟩ => ⟨S65536x128, .bf16⟩
  | .hbm, ⟨102, _⟩ => ⟨S65536x512, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_9 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c : Ref sig .tc := ⟨.hbm, 76, rfl⟩
abbrev main_call0_v0 : Ref sig .tc := ⟨.hbm, 77, rfl⟩
abbrev main_v60 : Ref sig .tc := ⟨.hbm, 78, rfl⟩
abbrev main_c_10 : Ref sig .tc := ⟨.hbm, 79, rfl⟩
abbrev main_call1_v0 : Ref sig .tc := ⟨.hbm, 80, rfl⟩
abbrev main_v61 : Ref sig .tc := ⟨.hbm, 81, rfl⟩
abbrev main_v62 : Ref sig .tc := ⟨.hbm, 82, rfl⟩
abbrev main_c_11 : Ref sig .tc := ⟨.hbm, 83, rfl⟩
abbrev main_call2_v0 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_call3_v0 : Ref sig .tc := ⟨.hbm, 88, rfl⟩
abbrev main_v65 : Ref sig .tc := ⟨.hbm, 89, rfl⟩
abbrev main_v66 : Ref sig .tc := ⟨.hbm, 90, rfl⟩
abbrev main_c_13 : Ref sig .tc := ⟨.hbm, 91, rfl⟩
abbrev main_call4_v0 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩

abbrev nD : Nat := 1
abbrev τ : Topo := Topo.v7x

variable {F : FTy → Type} [FloatOps F]
-- ==== Kernel6.lean ====
abbrev S65536x1024 : Shape := ⟨2, ![65536, 1024]⟩
abbrev S1024 : Shape := ⟨1, ![1024]⟩
abbrev S1024x3760 : Shape := ⟨2, ![1024, 3760]⟩
abbrev S65536x128 : Shape := ⟨2, ![65536, 128]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S96 : Shape := ⟨1, ![96]⟩
abbrev S128 : Shape := ⟨1, ![128]⟩
abbrev S1024x1024 : Shape := ⟨2, ![1024, 1024]⟩
abbrev S1024x2048 : Shape := ⟨2, ![1024, 2048]⟩
abbrev S1024x16 : Shape := ⟨2, ![1024, 16]⟩
abbrev S1024x384 : Shape := ⟨2, ![1024, 384]⟩
abbrev S1024x256 : Shape := ⟨2, ![1024, 256]⟩
abbrev S1024x32 : Shape := ⟨2, ![1024, 32]⟩
abbrev S_ : Shape := ⟨0, ![]⟩
abbrev S1024x128 : Shape := ⟨2, ![1024, 128]⟩
abbrev S1024x1x128 : Shape := ⟨3, ![1024, 1, 128]⟩
abbrev S128x1 : Shape := ⟨2, ![128, 1]⟩
abbrev S1x1x128 : Shape := ⟨3, ![1, 1, 128]⟩
abbrev S384x8x96 : Shape := ⟨3, ![384, 8, 96]⟩
abbrev S384x8x128 : Shape := ⟨3, ![384, 8, 128]⟩
abbrev S384x1024 : Shape := ⟨2, ![384, 1024]⟩
abbrev S384x2048 : Shape := ⟨2, ![384, 2048]⟩
abbrev S256x8x128 : Shape := ⟨3, ![256, 8, 128]⟩
abbrev S256x8x64 : Shape := ⟨3, ![256, 8, 64]⟩
abbrev S256x512 : Shape := ⟨2, ![256, 512]⟩
abbrev S1x384 : Shape := ⟨2, ![1, 384]⟩
abbrev S1x256 : Shape := ⟨2, ![1, 256]⟩
abbrev S1x96 : Shape := ⟨2, ![1, 96]⟩
abbrev S1x128 : Shape := ⟨2, ![1, 128]⟩
abbrev S1x1024 : Shape := ⟨2, ![1, 1024]⟩
abbrev S65536x2048 : Shape := ⟨2, ![65536, 2048]⟩
abbrev S65536x512 : Shape := ⟨2, ![65536, 512]⟩
abbrev S1024x512 : Shape := ⟨2, ![1024, 512]⟩
abbrev S1024x1 : Shape := ⟨2, ![1024, 1]⟩

abbrev nBuf : Space → Nat
  | .hbm => 122
  | .vmem => 32
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3760, .f32⟩
  | .hbm, ⟨3, _⟩ => ⟨S65536x128, .f32⟩
  | .hbm, ⟨4, _⟩ => ⟨S65536x128, .f32⟩
  | .hbm, ⟨5, _⟩ => ⟨S384, .f32⟩
  | .hbm, ⟨6, _⟩ => ⟨S384x768, .f32⟩
  | .hbm, ⟨7, _⟩ => ⟨S256, .f32⟩
  | .hbm, ⟨8, _⟩ => ⟨S256x1024, .f32⟩
  | .hbm, ⟨9, _⟩ => ⟨S96, .f32⟩
  | .hbm, ⟨10, _⟩ => ⟨S96, .f32⟩
  | .hbm, ⟨11, _⟩ => ⟨S128, .f32⟩
  | .hbm, ⟨12, _⟩ => ⟨S128, .i32⟩
  | .hbm, ⟨13, _⟩ => ⟨S128, .i1⟩
  | .hbm, ⟨14, _⟩ => ⟨S128, .f32⟩
  | .hbm, ⟨15, _⟩ => ⟨S128, .i32⟩
  | .hbm, ⟨16, _⟩ => ⟨S128, .i1⟩
  | .hbm, ⟨17, _⟩ => ⟨S128, .f32⟩
  | .hbm, ⟨18, _⟩ => ⟨S128, .i32⟩
  | .hbm, ⟨19, _⟩ => ⟨S128, .i1⟩
  | .hbm, ⟨20, _⟩ => ⟨S128, .f32⟩
  | .hbm, ⟨21, _⟩ => ⟨S128, .i32⟩
  | .hbm, ⟨22, _⟩ => ⟨S128, .i1⟩
  | .hbm, ⟨23, _⟩ => ⟨S1024x1024, .f32⟩
  | .hbm, ⟨24, _⟩ => ⟨S1024x2048, .f32⟩
  | .hbm, ⟨25, _⟩ => ⟨S1024x16, .f32⟩
  | .hbm, ⟨26, _⟩ => ⟨S1024x384, .f32⟩
  | .hbm, ⟨27, _⟩ => ⟨S1024x256, .f32⟩
  | .hbm, ⟨28, _⟩ => ⟨S1024x32, .f32⟩
  | .hbm, ⟨29, _⟩ => ⟨S_, .i32⟩
  | .hbm, ⟨30, _⟩ => ⟨S_, .f32⟩
  | .hbm, ⟨31, _⟩ => ⟨S1024x128, .f32⟩
  | .hbm, ⟨32, _⟩ => ⟨S_, .i32⟩
  | .hbm, ⟨33, _⟩ => ⟨S_, .f32⟩
  | .hbm, ⟨34, _⟩ => ⟨S1024x128, .f32⟩
  | .hbm, ⟨35, _⟩ => ⟨S1024x1x128, .f32⟩
  | .hbm, ⟨36, _⟩ => ⟨S_, .i32⟩
  | .hbm, ⟨37, _⟩ => ⟨S128, .i32⟩
  | .hbm, ⟨38, _⟩ => ⟨S128, .i32⟩
  | .hbm, ⟨39, _⟩ => ⟨S128, .i32⟩
  | .hbm, ⟨40, _⟩ => ⟨S128x1, .i32⟩
  | .hbm, ⟨41, _⟩ => ⟨S1024x1x128, .f32⟩
  | .hbm, ⟨42, _⟩ => ⟨S1x1x128, .f32⟩
  | .hbm, ⟨43, _⟩ => ⟨S1024x1x128, .f32⟩
  | .hbm, ⟨44, _⟩ => ⟨S1024x1x128, .f32⟩
  | .hbm, ⟨45, _⟩ => ⟨S1024x128, .f32⟩
  | .hbm, ⟨46, _⟩ => ⟨S1024x256, .f32⟩
  | .hbm, ⟨47, _⟩ => ⟨S1024x1024, .bf16⟩
  | .hbm, ⟨48, _⟩ => ⟨S1024x2048, .bf16⟩
  | .hbm, ⟨49, _⟩ => ⟨S1024x128, .bf16⟩
  | .hbm, ⟨50, _⟩ => ⟨S1024x384, .bf16⟩
  | .hbm, ⟨51, _⟩ => ⟨S1024x256, .bf16⟩
  | .hbm, ⟨52, _⟩ => ⟨S1024x256, .bf16⟩
  | .hbm, ⟨53, _⟩ => ⟨S384x8x96, .f32⟩
  | .hbm, ⟨54, _⟩ => ⟨S_, .i32⟩
  | .hbm, ⟨55, _⟩ => ⟨S_, .f32⟩
  | .hbm, ⟨56, _⟩ => ⟨S384x8x128, .f32⟩
  | .hbm, ⟨57, _⟩ => ⟨S384x1024, .f32⟩
  | .hbm, ⟨58, _⟩ => ⟨S384x8x128, .f32⟩
  | .hbm, ⟨59, _⟩ => ⟨S_, .i32⟩
  | .hbm, ⟨60, _⟩ => ⟨S128, .i32⟩
  | .hbm, ⟨61, _⟩ => ⟨S128, .i32⟩
  | .hbm, ⟨62, _⟩ => ⟨S128, .i32⟩
  | .hbm, ⟨63, _⟩ => ⟨S128x1, .i32⟩
  | .hbm, ⟨64, _⟩ => ⟨S384x8x128, .f32⟩
  | .hbm, ⟨65, _⟩ => ⟨S1x1x128, .f32⟩
  | .hbm, ⟨66, _⟩ => ⟨S384x8x128, .f32⟩
  | .hbm, ⟨67, _⟩ => ⟨S384x8x128, .f32⟩
  | .hbm, ⟨68, _⟩ => ⟨S384x1024, .f32⟩
  | .hbm, ⟨69, _⟩ => ⟨S384x2048, .f32⟩
  | .hbm, ⟨70, _⟩ => ⟨S384x2048, .bf16⟩
  | .hbm, ⟨71, _⟩ => ⟨S256x8x128, .f32⟩
  | .hbm, ⟨72, _⟩ => ⟨S256x8x64, .f32⟩
  | .hbm, ⟨73, _⟩ => ⟨S256x512, .f32⟩
  | .hbm, ⟨74, _⟩ => ⟨S256x8x64, .f32⟩
  | .hbm, ⟨75, _⟩ => ⟨S_, .i32⟩
  | .hbm, ⟨76, _⟩ => ⟨S_, .f32⟩
  | .hbm, ⟨77, _⟩ => ⟨S256x8x128, .f32⟩
  | .hbm, ⟨78, _⟩ => ⟨S256x1024, .f32⟩
  | .hbm, ⟨79, _⟩ => ⟨S256x1024, .bf16⟩
  | .hbm, ⟨80, _⟩ => ⟨S256x8x64, .f32⟩
  | .hbm, ⟨81, _⟩ => ⟨S256x512, .f32⟩
  | .hbm, ⟨82, _⟩ => ⟨S256x512, .bf16⟩
  | .hbm, ⟨83, _⟩ => ⟨S1x384, .f32⟩
  | .hbm, ⟨84, _⟩ => ⟨S1x256, .f32⟩
  | .hbm, ⟨85, _⟩ => ⟨S1x96, .f32⟩
  | .hbm, ⟨86, _⟩ => ⟨S_, .i32⟩
  | .hbm, ⟨87, _⟩ => ⟨S_, .f32⟩
  | .hbm, ⟨88, _⟩ => ⟨S1x128, .f32⟩
  | .hbm, ⟨89, _⟩ => ⟨S1x1x128, .f32⟩
  | .hbm, ⟨90, _⟩ => ⟨S_, .i32⟩
  | .hbm, ⟨91, _⟩ => ⟨S128, .i32⟩
  | .hbm, ⟨92, _⟩ => ⟨S128, .i32⟩
  | .hbm, ⟨93, _⟩ => ⟨S128, .i32⟩
  | .hbm, ⟨94, _⟩ => ⟨S128x1, .i32⟩
  | .hbm, ⟨95, _⟩ => ⟨S1x1x128, .f32⟩
  | .hbm, ⟨96, _⟩ => ⟨S1x1x128, .f32⟩
  | .hbm, ⟨97, _⟩ => ⟨S1x1x128, .f32⟩
  | .hbm, ⟨98, _⟩ => ⟨S1x128, .f32⟩
  | .hbm, ⟨99, _⟩ => ⟨S1x256, .f32⟩
  | .hbm, ⟨100, _⟩ => ⟨S1x96, .f32⟩
  | .hbm, ⟨101, _⟩ => ⟨S_, .i32⟩
  | .hbm, ⟨102, _⟩ => ⟨S_, .f32⟩
  | .hbm, ⟨103, _⟩ => ⟨S1x128, .f32⟩
  | .hbm, ⟨104, _⟩ => ⟨S1x1x128, .f32⟩
  | .hbm, ⟨105, _⟩ => ⟨S_, .i32⟩
  | .hbm, ⟨106, _⟩ => ⟨S128, .i32⟩
  | .hbm, ⟨107, _⟩ => ⟨S128, .i32⟩
  | .hbm, ⟨108, _⟩ => ⟨S128, .i32⟩
  | .hbm, ⟨109, _⟩ => ⟨S128x1, .i32⟩
  | .hbm, ⟨110, _⟩ => ⟨S1x1x128, .f32⟩
  | .hbm, ⟨111, _⟩ => ⟨S1x1x128, .f32⟩
  | .hbm, ⟨112, _⟩ => ⟨S1x1x128, .f32⟩
  | .hbm, ⟨113, _⟩ => ⟨S1x128, .f32⟩
  | .hbm, ⟨114, _⟩ => ⟨S1x256, .f32⟩
  | .hbm, ⟨115, _⟩ => ⟨S1x1024, .f32⟩
  | .hbm, ⟨116, _⟩ => ⟨S65536x1024, .bf16⟩
  | .hbm, ⟨117, _⟩ => ⟨S65536x2048, .bf16⟩
  | .hbm, ⟨118, _⟩ => ⟨S65536x128, .f32⟩
  | .hbm, ⟨119, _⟩ => ⟨S65536x1024, .bf16⟩
  | .hbm, ⟨120, _⟩ => ⟨S65536x1024, .bf16⟩
  | .hbm, ⟨121, _⟩ => ⟨S65536x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x2048, .bf16⟩
  | .local _ .vmem, ⟨5, _⟩ => ⟨S1024x128, .bf16⟩
  | .local _ .vmem, ⟨6, _⟩ => ⟨S1024x384, .bf16⟩
  | .local _ .vmem, ⟨7, _⟩ => ⟨S1024x256, .bf16⟩
  | .local _ .vmem, ⟨8, _⟩ => ⟨S1024x256, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1x384, .f32⟩
  | .local _ .vmem, ⟨14, _⟩ => ⟨S1x256, .f32⟩
  | .local _ .vmem, ⟨15, _⟩ => ⟨S384x2048, .bf16⟩
  | .local _ .vmem, ⟨16, _⟩ => ⟨S256x1024, .bf16⟩
  | .local _ .vmem, ⟨17, _⟩ => ⟨S256x512, .bf16⟩
  | .local _ .vmem, ⟨18, _⟩ => ⟨S1x256, .f32⟩
  | .local _ .vmem, ⟨19, _⟩ => ⟨S1x256, .f32⟩
  | .local _ .vmem, ⟨20, _⟩ => ⟨S1024x1024, .bf16⟩
  | .local _ .vmem, ⟨21, _⟩ => ⟨S1024x1024, .bf16⟩
  | .local _ .vmem, ⟨22, _⟩ => ⟨S1024x2048, .bf16⟩
  | .local _ .vmem, ⟨23, _⟩ => ⟨S1024x2048, .bf16⟩
  | .local _ .vmem, ⟨24, _⟩ => ⟨S1024x128, .f32⟩
  | .local _ .vmem, ⟨25, _⟩ => ⟨S1024x128, .f32⟩
  | .local _ .vmem, ⟨26, _⟩ => ⟨S1024x1024, .bf16⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1024x512, .bf16⟩
  | .local _ .vmem, ⟨31, _⟩ => ⟨S1024x512, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_c : Ref sig .tc := ⟨.hbm, 12, rfl⟩
abbrev main_c_0 : Ref sig .tc := ⟨.hbm, 13, rfl⟩
abbrev main_cst_1 : Ref sig .tc := ⟨.hbm, 14, rfl⟩
abbrev main_c_2 : Ref sig .tc := ⟨.hbm, 15, rfl⟩
abbrev main_c_3 : Ref sig .tc := ⟨.hbm, 16, rfl⟩
abbrev main_cst_4 : Ref sig .tc := ⟨.hbm, 17, rfl⟩
abbrev main_c_5 : Ref sig .tc := ⟨.hbm, 18, rfl⟩
abbrev main_c_6 : Ref sig .tc := ⟨.hbm, 19, rfl⟩
abbrev main_cst_7 : Ref sig .tc := ⟨.hbm, 20, rfl⟩
abbrev main_c_8 : Ref sig .tc := ⟨.hbm, 21, rfl⟩
abbrev main_c_9 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_c_10 : Ref sig .tc := ⟨.hbm, 29, rfl⟩
abbrev main_call0_v0 : Ref sig .tc := ⟨.hbm, 30, rfl⟩
abbrev main_v6 : Ref sig .tc := ⟨.hbm, 31, rfl⟩
abbrev main_c_11 : Ref sig .tc := ⟨.hbm, 32, rfl⟩
abbrev main_call1_v0 : Ref sig .tc := ⟨.hbm, 33, rfl⟩
abbrev main_v7 : Ref sig .tc := ⟨.hbm, 34, rfl⟩
abbrev main_v8 : Ref sig .tc := ⟨.hbm, 35, rfl⟩
abbrev main_c_12 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_c_13 : Ref sig .tc := ⟨.hbm, 54, rfl⟩
abbrev main_call2_v0 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c_14 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_15 : Ref sig .tc := ⟨.hbm, 75, rfl⟩
abbrev main_call3_v0 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_16 : Ref sig .tc := ⟨.hbm, 86, rfl⟩
abbrev main_call4_v0 : Ref sig .tc := ⟨.hbm, 87, rfl⟩
abbrev main_v53 : Ref sig .tc := ⟨.hbm, 88, rfl⟩
abbrev main_v54 : Ref sig .tc := ⟨.hbm, 89, rfl⟩
abbrev main_c_17 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_c_18 : Ref sig .tc := ⟨.hbm, 101, rfl⟩
abbrev main_call5_v0 : Ref sig .tc := ⟨.hbm, 102, rfl⟩
abbrev main_v65 : Ref sig .tc := ⟨.hbm, 103, rfl⟩
abbrev main_v66 : Ref sig .tc := ⟨.hbm, 104, rfl⟩
abbrev main_c_19 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77_0 : Ref sig .tc := ⟨.hbm, 116, rfl⟩
abbrev main_v77_1 : Ref sig .tc := ⟨.hbm, 117, rfl⟩
abbrev main_v77_2 : Ref sig .tc := ⟨.hbm, 118, rfl⟩
abbrev main_v77_3 : Ref sig .tc := ⟨.hbm, 119, rfl⟩
abbrev main_v77_4 : Ref sig .tc := ⟨.hbm, 120, rfl⟩
abbrev main_v77_5 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S384x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1024x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1024x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1024x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Kernel6Ideal.lean ====
variable {F : FTy → Type} [FloatOps F] [Named F]
def κ : String → Option EReal := fun
  | "inv_qk" => some ((1 / 96 : ℝ) : EReal)
  | _ => none
-- ==== Reference6Ideal.lean ====
abbrev S65536x1024 : Shape := ⟨2, ![65536, 1024]⟩
abbrev S1024 : Shape := ⟨1, ![1024]⟩
abbrev S1024x3760 : Shape := ⟨2, ![1024, 3760]⟩
abbrev S65536x128 : Shape := ⟨2, ![65536, 128]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S96 : Shape := ⟨1, ![96]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3760 : Shape := ⟨2, ![65536, 3760]⟩
abbrev S65536x2048 : Shape := ⟨2, ![65536, 2048]⟩
abbrev S65536x16 : Shape := ⟨2, ![65536, 16]⟩
abbrev S65536x384 : Shape := ⟨2, ![65536, 384]⟩
abbrev S65536x288 : Shape := ⟨2, ![65536, 288]⟩
abbrev S1x384 : Shape := ⟨2, ![1, 384]⟩
abbrev S65536x768 : Shape := ⟨2, ![65536, 768]⟩
abbrev S65536x8x96 : Shape := ⟨3, ![65536, 8, 96]⟩
abbrev S65536x256 : Shape := ⟨2, ![65536, 256]⟩
abbrev S65536x32 : Shape := ⟨2, ![65536, 32]⟩
abbrev S1x256 : Shape := ⟨2, ![1, 256]⟩
abbrev S65536x8x128 : Shape := ⟨3, ![65536, 8, 128]⟩
abbrev S65536x8x64 : Shape := ⟨3, ![65536, 8, 64]⟩
abbrev S65536x1x32 : Shape := ⟨3, ![65536, 1, 32]⟩
abbrev S65536x8x32 : Shape := ⟨3, ![65536, 8, 32]⟩
abbrev S65536x8 : Shape := ⟨2, ![65536, 8]⟩
abbrev S65536x8x1 : Shape := ⟨3, ![65536, 8, 1]⟩
abbrev S1x1x96 : Shape := ⟨3, ![1, 1, 96]⟩
abbrev S65536x1x16 : Shape := ⟨3, ![65536, 1, 16]⟩
abbrev S65536x8x16 : Shape := ⟨3, ![65536, 8, 16]⟩
abbrev S65536x512 : Shape := ⟨2, ![65536, 512]⟩

abbrev nBuf : Space → Nat
  | .hbm => 164
  | .vmem => 0
  | .smem => 0
  | _ => 0

abbrev hbmTy0_0 (i : Nat) : BufTy := match i % 128 with
  | 0 => ⟨S65536x1024, .f32⟩
  | 1 => ⟨S1024, .f32⟩
  | 2 => ⟨S1024x3760, .f32⟩
  | 3 => ⟨S65536x128, .f32⟩
  | 4 => ⟨S65536x128, .f32⟩
  | 5 => ⟨S384, .f32⟩
  | 6 => ⟨S384x768, .f32⟩
  | 7 => ⟨S256, .f32⟩
  | 8 => ⟨S256x1024, .f32⟩
  | 9 => ⟨S96, .f32⟩
  | 10 => ⟨S96, .f32⟩
  | 11 => ⟨S65536x1024, .f32⟩
  | 12 => ⟨S_, .f32⟩
  | 13 => ⟨S65536, .f32⟩
  | 14 => ⟨S65536x1, .f32⟩
  | 15 => ⟨S_, .f32⟩
  | 16 => ⟨S65536x1, .f32⟩
  | 17 => ⟨S65536x1, .f32⟩
  | 18 => ⟨S_, .f32⟩
  | 19 => ⟨S65536x1, .f32⟩
  | 20 => ⟨S65536x1, .f32⟩
  | 21 => ⟨S65536x1, .f32⟩
  | 22 => ⟨S65536x1024, .f32⟩
  | 23 => ⟨S65536x1024, .f32⟩
  | 24 => ⟨S1x1024, .f32⟩
  | 25 => ⟨S65536x1024, .f32⟩
  | 26 => ⟨S65536x1024, .f32⟩
  | 27 => ⟨S65536x3760, .f32⟩
  | 28 => ⟨S65536x1024, .f32⟩
  | 29 => ⟨S65536x2048, .f32⟩
  | 30 => ⟨S65536x16, .f32⟩
  | 31 => ⟨S65536x384, .f32⟩
  | 32 => ⟨S65536x288, .f32⟩
  | 33 => ⟨S65536x384, .f32⟩
  | 34 => ⟨S_, .f32⟩
  | 35 => ⟨S65536, .f32⟩
  | 36 => ⟨S65536x1, .f32⟩
  | 37 => ⟨S_, .f32⟩
  | 38 => ⟨S65536x1, .f32⟩
  | 39 => ⟨S65536x1, .f32⟩
  | 40 => ⟨S_, .f32⟩
  | 41 => ⟨S65536x1, .f32⟩
  | 42 => ⟨S65536x1, .f32⟩
  | 43 => ⟨S65536x1, .f32⟩
  | 44 => ⟨S65536x384, .f32⟩
  | 45 => ⟨S65536x384, .f32⟩
  | 46 => ⟨S1x384, .f32⟩
  | 47 => ⟨S65536x384, .f32⟩
  | 48 => ⟨S65536x384, .f32⟩
  | 49 => ⟨S65536x768, .f32⟩
  | 50 => ⟨S65536x8x96, .f32⟩
  | 51 => ⟨S65536x256, .f32⟩
  | 52 => ⟨S65536x32, .f32⟩
  | 53 => ⟨S65536x256, .f32⟩
  | 54 => ⟨S_, .f32⟩
  | 55 => ⟨S65536, .f32⟩
  | 56 => ⟨S65536x1, .f32⟩
  | 57 => ⟨S_, .f32⟩
  | 58 => ⟨S65536x1, .f32⟩
  | 59 => ⟨S65536x1, .f32⟩
  | 60 => ⟨S_, .f32⟩
  | 61 => ⟨S65536x1, .f32⟩
  | 62 => ⟨S65536x1, .f32⟩
  | 63 => ⟨S65536x1, .f32⟩
  | 64 => ⟨S65536x256, .f32⟩
  | 65 => ⟨S65536x256, .f32⟩
  | 66 => ⟨S1x256, .f32⟩
  | 67 => ⟨S65536x256, .f32⟩
  | 68 => ⟨S65536x256, .f32⟩
  | 69 => ⟨S65536x1024, .f32⟩
  | 70 => ⟨S65536x8x128, .f32⟩
  | 71 => ⟨S65536x8x64, .f32⟩
  | 72 => ⟨S65536x8x64, .f32⟩
  | 73 => ⟨S65536x1x32, .f32⟩
  | 74 => ⟨S65536x8x32, .f32⟩
  | 75 => ⟨S65536x8x96, .f32⟩
  | 76 => ⟨S65536x8x96, .f32⟩
  | 77 => ⟨S_, .f32⟩
  | 78 => ⟨S65536x8, .f32⟩
  | 79 => ⟨S65536x8x1, .f32⟩
  | 80 => ⟨S_, .f32⟩
  | 81 => ⟨S65536x8x1, .f32⟩
  | 82 => ⟨S65536x8x1, .f32⟩
  | 83 => ⟨S_, .f32⟩
  | 84 => ⟨S65536x8x1, .f32⟩
  | 85 => ⟨S65536x8x1, .f32⟩
  | 86 => ⟨S65536x8x1, .f32⟩
  | 87 => ⟨S65536x8x96, .f32⟩
  | 88 => ⟨S65536x8x96, .f32⟩
  | 89 => ⟨S1x1x96, .f32⟩
  | 90 => ⟨S65536x8x96, .f32⟩
  | 91 => ⟨S65536x8x96, .f32⟩
  | 92 => ⟨S65536x8x96, .f32⟩
  | 93 => ⟨S_, .f32⟩
  | 94 => ⟨S65536x8, .f32⟩
  | 95 => ⟨S65536x8x1, .f32⟩
  | 96 => ⟨S_, .f32⟩
  | 97 => ⟨S65536x8x1, .f32⟩
  | 98 => ⟨S65536x8x1, .f32⟩
  | 99 => ⟨S_, .f32⟩
  | 100 => ⟨S65536x8x1, .f32⟩
  | 101 => ⟨S65536x8x1, .f32⟩
  | 102 => ⟨S65536x8x1, .f32⟩
  | 103 => ⟨S65536x8x96, .f32⟩
  | 104 => ⟨S65536x8x96, .f32⟩
  | 105 => ⟨S1x1x96, .f32⟩
  | 106 => ⟨S65536x8x96, .f32⟩
  | 107 => ⟨S65536x8x96, .f32⟩
  | 108 => ⟨S65536x16, .f32⟩
  | 109 => ⟨S65536x1x16, .f32⟩
  | 110 => ⟨S65536x16, .f32⟩
  | 111 => ⟨S65536x1x16, .f32⟩
  | 112 => ⟨S65536x8x64, .f32⟩
  | 113 => ⟨S65536x8x32, .f32⟩
  | 114 => ⟨S65536x8x16, .f32⟩
  | 115 => ⟨S65536x8x16, .f32⟩
  | 116 => ⟨S65536x8x16, .f32⟩
  | 117 => ⟨S65536x8x16, .f32⟩
  | 118 => ⟨S65536x8x16, .f32⟩
  | 119 => ⟨S65536x8x16, .f32⟩
  | 120 => ⟨S65536x8x16, .f32⟩
  | 121 => ⟨S65536x8x16, .f32⟩
  | 122 => ⟨S65536x8x16, .f32⟩
  | 123 => ⟨S65536x8x16, .f32⟩
  | 124 => ⟨S65536x8x16, .f32⟩
  | 125 => ⟨S65536x8x16, .f32⟩
  | 126 => ⟨S65536x8x32, .f32⟩
  | 127 => ⟨S65536x8x96, .f32⟩
  | _ => ⟨S65536x1024, .f32⟩

abbrev hbmTy0_1 (i : Nat) : BufTy := match i % 128 with
  | 0 => ⟨S65536x8x64, .f32⟩
  | 1 => ⟨S65536x8x32, .f32⟩
  | 2 => ⟨S65536x8x16, .f32⟩
  | 3 => ⟨S65536x8x16, .f32⟩
  | 4 => ⟨S65536x8x16, .f32⟩
  | 5 => ⟨S65536x8x16, .f32⟩
  | 6 => ⟨S65536x8x16, .f32⟩
  | 7 => ⟨S65536x8x16, .f32⟩
  | 8 => ⟨S65536x8x16, .f32⟩
  | 9 => ⟨S65536x8x16, .f32⟩
  | 10 => ⟨S65536x8x16, .f32⟩
  | 11 => ⟨S65536x8x16, .f32⟩
  | 12 => ⟨S65536x8x16, .f32⟩
  | 13 => ⟨S65536x8x16, .f32⟩
  | 14 => ⟨S65536x8x32, .f32⟩
  | 15 => ⟨S65536x8x96, .f32⟩
  | 16 => ⟨S_, .f32⟩
  | 17 => ⟨S65536x8x96, .f32⟩
  | 18 => ⟨S65536x8x96, .f32⟩
  | 19 => ⟨S65536x1024, .bf16⟩
  | 20 => ⟨S65536x2048, .bf16⟩
  | 21 => ⟨S_, .i32⟩
  | 22 => ⟨S_, .f32⟩
  | 23 => ⟨S65536x128, .f32⟩
  | 24 => ⟨S_, .i32⟩
  | 25 => ⟨S_, .f32⟩
  | 26 => ⟨S65536x8x128, .f32⟩
  | 27 => ⟨S65536x1024, .f32⟩
  | 28 => ⟨S65536x1024, .bf16⟩
  | 29 => ⟨S_, .i32⟩
  | 30 => ⟨S_, .f32⟩
  | 31 => ⟨S65536x8x128, .f32⟩
  | 32 => ⟨S65536x1024, .f32⟩
  | 33 => ⟨S65536x1024, .bf16⟩
  | 34 => ⟨S65536x512, .f32⟩
  | 35 => ⟨S65536x512, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_8 : Ref sig .tc := ⟨.hbm, 77, rfl⟩
abbrev main_v57 : Ref sig .tc := ⟨.hbm, 78, rfl⟩
abbrev main_v58 : Ref sig .tc := ⟨.hbm, 79, rfl⟩
abbrev main_cst_9 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_11 : Ref sig .tc := ⟨.hbm, 93, rfl⟩
abbrev main_v70 : Ref sig .tc := ⟨.hbm, 94, rfl⟩
abbrev main_v71 : Ref sig .tc := ⟨.hbm, 95, rfl⟩
abbrev main_cst_12 : Ref sig .tc := ⟨.hbm, 96, rfl⟩
abbrev main_v72 : Ref sig .tc := ⟨.hbm, 97, rfl⟩
abbrev main_v73 : Ref sig .tc := ⟨.hbm, 98, rfl⟩
abbrev main_cst_13 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_cst_14 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_c : Ref sig .tc := ⟨.hbm, 149, rfl⟩
abbrev main_call0_v0 : Ref sig .tc := ⟨.hbm, 150, rfl⟩
abbrev main_v122 : Ref sig .tc := ⟨.hbm, 151, rfl⟩
abbrev main_c_15 : Ref sig .tc := ⟨.hbm, 152, rfl⟩
abbrev main_call1_v0 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_c_16 : Ref sig .tc := ⟨.hbm, 157, rfl⟩
abbrev main_call2_v0 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩

abbrev nD : Nat := 1
abbrev τ : Topo := Topo.v7x

variable {F : FTy → Type} [FloatOps F]
-- ==== Proof.InEvenFrame.lean ====
/-
  The run of the even layer's input projection, the ideal form: what each window's buffer holds after the body, the body's
  triple, and the frame. The set-up is the usual one of a launch without state of its own.
-/
module

public import proofs.«01_k».proof.Proof.Gen.Kernel6Ideal.Launch
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- room for the membership in a rectangle of large extents (`View.cover_of_tiled`)
set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): the library's
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): the library's
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): the library's
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): the library's
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): the library's
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): the library's
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): the library's
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): the library's
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): the library's
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): the library's
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): the library's
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): the library's
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): the library's
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): the library's
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): the library's
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): the library's
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): the library's
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1380000 in
/-- THE FRAME from a frame run: for any proof data whose arrays are the region-entry contents (`hA`), a run to
    the library's `FramePost` read at the argument arrays — a staged input by the library's
    `Dat.arrAt_in`, an array no window stages by the post's second clause, each then by `V_…` — is the frame
    claim's post (`Cert.frame_Kernel6Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 8).trans (((dats 0 c).arrAt_in 8 rfl _).trans ((hA c 8).trans (V_main_arg3 m c))),
      ((h c).1 9).trans (((dats 0 c).arrAt_in 9 rfl _).trans ((hA c 9).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

abbrev r0_0 : Rect S1024x1024 := Rect.unit (s := S1024x1024) ![0, 0] S1024x1024.size inb_S1024x1024_S1024x1024_0_0
abbrev r0_1 : Rect S1x1024 := Rect.unit (s := S1x1024) ![0, 0] S1x1024.size inb_S1x1024_S1x1024_0_0
abbrev r0_2 : Rect S1024x2048 := Rect.unit (s := S1024x2048) ![0, 0] S1024x2048.size inb_S1024x2048_S1024x2048_0_0
abbrev r0_3 : Rect S1024x128 := Rect.unit (s := S1024x128) ![0, 0] S1024x128.size inb_S1024x128_S1024x128_0_0
abbrev r0_4 : Rect S1024x384 := Rect.unit (s := S1024x384) ![0, 0] S1024x384.size inb_S1024x384_S1024x384_0_0
abbrev r0_5 : Rect S1x384 := Rect.unit (s := S1x384) ![0, 0] S1x384.size inb_S1x384_S1x384_0_0
abbrev r0_6 : Rect S1024x256 := Rect.unit (s := S1024x256) ![0, 0] S1024x256.size inb_S1024x256_S1024x256_0_0
abbrev r0_7 : Rect S1x256 := Rect.unit (s := S1x256) ![0, 0] S1x256.size inb_S1x256_S1x256_0_0
abbrev r0_8 : Rect S1x256 := Rect.unit (s := S1x256) ![0, 0] S1x128.size inb_S1x256_S1x128_0_0
abbrev r0_9 : Rect S1x256 := Rect.unit (s := S1x256) ![0, 128] S1x128.size inb_S1x256_S1x128_0_128
abbrev r0_10 : Rect S384x2048 := Rect.unit (s := S384x2048) ![0, 0] S384x2048.size inb_S384x2048_S384x2048_0_0
abbrev r0_11 : Rect S256x1024 := Rect.unit (s := S256x1024) ![0, 0] S256x1024.size inb_S256x1024_S256x1024_0_0
abbrev r0_12 : Rect S256x512 := Rect.unit (s := S256x512) ![0, 0] S256x512.size inb_S256x512_S256x512_0_0
abbrev r0_13 : Rect S1024x512 := Rect.unit (s := S1024x512) ![0, 0] S1024x512.size inb_S1024x512_S1024x512_0_0
abbrev r0_14 : Rect S1024x1024 := Rect.unit (s := S1024x1024) ![0, 0] S1024x128.size inb_S1024x1024_S1024x128_0_0
abbrev r0_15 : Rect S1024x1024 := Rect.unit (s := S1024x1024) ![0, 128] S1024x128.size inb_S1024x1024_S1024x128_0_128
abbrev r0_16 : Rect S1024x1024 := Rect.unit (s := S1024x1024) ![0, 256] S1024x128.size inb_S1024x1024_S1024x128_0_256
abbrev r0_17 : Rect S1024x1024 := Rect.unit (s := S1024x1024) ![0, 384] S1024x128.size inb_S1024x1024_S1024x128_0_384
abbrev r0_18 : Rect S1024x1024 := Rect.unit (s := S1024x1024) ![0, 512] S1024x128.size inb_S1024x1024_S1024x128_0_512
abbrev r0_19 : Rect S1024x1024 := Rect.unit (s := S1024x1024) ![0, 640] S1024x128.size inb_S1024x1024_S1024x128_0_640
abbrev r0_20 : Rect S1024x1024 := Rect.unit (s := S1024x1024) ![0, 768] S1024x128.size inb_S1024x1024_S1024x128_0_768
abbrev r0_21 : Rect S1024x1024 := Rect.unit (s := S1024x1024) ![0, 896] S1024x128.size inb_S1024x1024_S1024x128_0_896

/-! ## What the body leaves in each output window's buffer -/

/-! ### Values of the body that the stores' payloads, spelt out, would write more than once

    Each is a vector the body binds (often a part call's result), stated over the input windows' blocks and
    numbered on from the skeleton's payload functions (`k0_pay45` …, after `k0_pay44`), so that
    `out0_W` and the values after it name it instead of spelling it out.
    The comment after each is the printed function's
    name for the value (a count appended where that name is bound again). -/

def k0_pay45 (x0 : Vec F S1024x1024 .f32) (x1 : Vec F S1x1024 .f32) (x2 : Vec F S1024x1024 .bf16) (x3 : Vec F S1024x2048 .bf16) (x4 : Vec F S1024x128 .bf16) (x5 : Vec F S1024x384 .bf16) (x6 : Vec F S1024x256 .bf16) (x7 : Vec F S1024x256 .bf16) (x8 : Vec F S1024x128 .f32) (x9 : Vec F S1024x128 .f32) (x10 : Vec F S1x384 .f32) (x11 : Vec F S1x256 .f32) (x12 : Vec F S384x2048 .bf16) (x13 : Vec F S256x1024 .bf16) (x14 : Vec F S256x512 .bf16) (x15 : Vec F S1x256 .f32) (x16 : Vec F S1x256 .f32) : FVec F S1024x1024 .bf16 :=
  k0_pay1 (View.ld x0 r0_0) (View.ld x1 r0_1) -- `v15`
def k0_pay46 (x0 : Vec F S1024x1024 .f32) (x1 : Vec F S1x1024 .f32) (x2 : Vec F S1024x1024 .bf16) (x3 : Vec F S1024x2048 .bf16) (x4 : Vec F S1024x128 .bf16) (x5 : Vec F S1024x384 .bf16) (x6 : Vec F S1024x256 .bf16) (x7 : Vec F S1024x256 .bf16) (x8 : Vec F S1024x128 .f32) (x9 : Vec F S1024x128 .f32) (x10 : Vec F S1x384 .f32) (x11 : Vec F S1x256 .f32) (x12 : Vec F S384x2048 .bf16) (x13 : Vec F S256x1024 .bf16) (x14 : Vec F S256x512 .bf16) (x15 : Vec F S1x256 .f32) (x16 : Vec F S1x256 .f32) : FVec F S1024x384 .bf16 :=
  k0_pay6 (k0_pay45 x0 x1 x2 x3 x4 x5 x6 x7 x8 x9 x10 x11 x12 x13 x14 x15 x16) (k0_pay5 (View.ld x5 r0_4)) (View.ld x10 r0_5) -- `v47`
def k0_pay47 (x0 : Vec F S1024x1024 .f32) (x1 : Vec F S1x1024 .f32) (x2 : Vec F S1024x1024 .bf16) (x3 : Vec F S1024x2048 .bf16) (x4 : Vec F S1024x128 .bf16) (x5 : Vec F S1024x384 .bf16) (x6 : Vec F S1024x256 .bf16) (x7 : Vec F S1024x256 .bf16) (x8 : Vec F S1024x128 .f32) (x9 : Vec F S1024x128 .f32) (x10 : Vec F S1x384 .f32) (x11 : Vec F S1x256 .f32) (x12 : Vec F S384x2048 .bf16) (x13 : Vec F S256x1024 .bf16) (x14 : Vec F S256x512 .bf16) (x15 : Vec F S1x256 .f32) (x16 : Vec F S1x256 .f32) : FVec F S1024x256 .bf16 :=
  k0_pay7 (k0_pay45 x0 x1 x2 x3 x4 x5 x6 x7 x8 x9 x10 x11 x12 x13 x14 x15 x16) (View.ld x6 r0_6) (View.ld x11 r0_7) -- `v65`
def k0_pay48 (x0 : Vec F S1024x1024 .f32) (x1 : Vec F S1x1024 .f32) (x2 : Vec F S1024x1024 .bf16) (x3 : Vec F S1024x2048 .bf16) (x4 : Vec F S1024x128 .bf16) (x5 : Vec F S1024x384 .bf16) (x6 : Vec F S1024x256 .bf16) (x7 : Vec F S1024x256 .bf16) (x8 : Vec F S1024x128 .f32) (x9 : Vec F S1024x128 .f32) (x10 : Vec F S1x384 .f32) (x11 : Vec F S1x256 .f32) (x12 : Vec F S384x2048 .bf16) (x13 : Vec F S256x1024 .bf16) (x14 : Vec F S256x512 .bf16) (x15 : Vec F S1x256 .f32) (x16 : Vec F S1x256 .f32) : FVec F S1024x256 .f32 :=
  k0_pay8 (k0_pay45 x0 x1 x2 x3 x4 x5 x6 x7 x8 x9 x10 x11 x12 x13 x14 x15 x16) (View.ld x7 r0_6) -- `v68`
def k0_pay49 (x0 : Vec F S1024x1024 .f32) (x1 : Vec F S1x1024 .f32) (x2 : Vec F S1024x1024 .bf16) (x3 : Vec F S1024x2048 .bf16) (x4 : Vec F S1024x128 .bf16) (x5 : Vec F S1024x384 .bf16) (x6 : Vec F S1024x256 .bf16) (x7 : Vec F S1024x256 .bf16) (x8 : Vec F S1024x128 .f32) (x9 : Vec F S1024x128 .f32) (x10 : Vec F S1x384 .f32) (x11 : Vec F S1x256 .f32) (x12 : Vec F S384x2048 .bf16) (x13 : Vec F S256x1024 .bf16) (x14 : Vec F S256x512 .bf16) (x15 : Vec F S1x256 .f32) (x16 : Vec F S1x256 .f32) : FVec F S1024x128 .f32 :=
  k0_pay9 (View.ld x8 r0_3) (View.ld x15 r0_8) -- `v76`
def k0_pay50 (x0 : Vec F S1024x1024 .f32) (x1 : Vec F S1x1024 .f32) (x2 : Vec F S1024x1024 .bf16) (x3 : Vec F S1024x2048 .bf16) (x4 : Vec F S1024x128 .bf16) (x5 : Vec F S1024x384 .bf16) (x6 : Vec F S1024x256 .bf16) (x7 : Vec F S1024x256 .bf16) (x8 : Vec F S1024x128 .f32) (x9 : Vec F S1024x128 .f32) (x10 : Vec F S1x384 .f32) (x11 : Vec F S1x256 .f32) (x12 : Vec F S384x2048 .bf16) (x13 : Vec F S256x1024 .bf16) (x14 : Vec F S256x512 .bf16) (x15 : Vec F S1x256 .f32) (x16 : Vec F S1x256 .f32) : FVec F S1024x128 .f32 :=
  k0_pay10 (View.ld x9 r0_3) (View.ld x15 r0_9) -- `v82`
def k0_pay51 (x0 : Vec F S1024x1024 .f32) (x1 : Vec F S1x1024 .f32) (x2 : Vec F S1024x1024 .bf16) (x3 : Vec F S1024x2048 .bf16) (x4 : Vec F S1024x128 .bf16) (x5 : Vec F S1024x384 .bf16) (x6 : Vec F S1024x256 .bf16) (x7 : Vec F S1024x256 .bf16) (x8 : Vec F S1024x128 .f32) (x9 : Vec F S1024x128 .f32) (x10 : Vec F S1x384 .f32) (x11 : Vec F S1x256 .f32) (x12 : Vec F S384x2048 .bf16) (x13 : Vec F S256x1024 .bf16) (x14 : Vec F S256x512 .bf16) (x15 : Vec F S1x256 .f32) (x16 : Vec F S1x256 .f32) : FVec F S1024x128 .f32 :=
  k0_pay11 (View.ld x8 r0_3) (View.ld x16 r0_8) -- `v86`
def k0_pay52 (x0 : Vec F S1024x1024 .f32) (x1 : Vec F S1x1024 .f32) (x2 : Vec F S1024x1024 .bf16) (x3 : Vec F S1024x2048 .bf16) (x4 : Vec F S1024x128 .bf16) (x5 : Vec F S1024x384 .bf16) (x6 : Vec F S1024x256 .bf16) (x7 : Vec F S1024x256 .bf16) (x8 : Vec F S1024x128 .f32) (x9 : Vec F S1024x128 .f32) (x10 : Vec F S1x384 .f32) (x11 : Vec F S1x256 .f32) (x12 : Vec F S384x2048 .bf16) (x13 : Vec F S256x1024 .bf16) (x14 : Vec F S256x512 .bf16) (x15 : Vec F S1x256 .f32) (x16 : Vec F S1x256 .f32) : FVec F S1024x128 .f32 :=
  k0_pay12 (k0_pay48 x0 x1 x2 x3 x4 x5 x6 x7 x8 x9 x10 x11 x12 x13 x14 x15 x16) -- `v87`
def k0_pay53 (x0 : Vec F S1024x1024 .f32) (x1 : Vec F S1x1024 .f32) (x2 : Vec F S1024x1024 .bf16) (x3 : Vec F S1024x2048 .bf16) (x4 : Vec F S1024x128 .bf16) (x5 : Vec F S1024x384 .bf16) (x6 : Vec F S1024x256 .bf16) (x7 : Vec F S1024x256 .bf16) (x8 : Vec F S1024x128 .f32) (x9 : Vec F S1024x128 .f32) (x10 : Vec F S1x384 .f32) (x11 : Vec F S1x256 .f32) (x12 : Vec F S384x2048 .bf16) (x13 : Vec F S256x1024 .bf16) (x14 : Vec F S256x512 .bf16) (x15 : Vec F S1x256 .f32) (x16 : Vec F S1x256 .f32) : FVec F S1024x128 .f32 :=
  k0_pay13 (k0_pay48 x0 x1 x2 x3 x4 x5 x6 x7 x8 x9 x10 x11 x12 x13 x14 x15 x16) (View.ld x9 r0_3) (View.ld x16 r0_9) -- `v93`
def k0_pay54 (x0 : Vec F S1024x1024 .f32) (x1 : Vec F S1x1024 .f32) (x2 : Vec F S1024x1024 .bf16) (x3 : Vec F S1024x2048 .bf16) (x4 : Vec F S1024x128 .bf16) (x5 : Vec F S1024x384 .bf16) (x6 : Vec F S1024x256 .bf16) (x7 : Vec F S1024x256 .bf16) (x8 : Vec F S1024x128 .f32) (x9 : Vec F S1024x128 .f32) (x10 : Vec F S1x384 .f32) (x11 : Vec F S1x256 .f32) (x12 : Vec F S384x2048 .bf16) (x13 : Vec F S256x1024 .bf16) (x14 : Vec F S256x512 .bf16) (x15 : Vec F S1x256 .f32) (x16 : Vec F S1x256 .f32) : FVec F S1024x2048 .f32 :=
  k0_pay14 (k0_pay46 x0 x1 x2 x3 x4 x5 x6 x7 x8 x9 x10 x11 x12 x13 x14 x15 x16) (View.ld x12 r0_10) -- `v96`
def k0_pay55 (x0 : Vec F S1024x1024 .f32) (x1 : Vec F S1x1024 .f32) (x2 : Vec F S1024x1024 .bf16) (x3 : Vec F S1024x2048 .bf16) (x4 : Vec F S1024x128 .bf16) (x5 : Vec F S1024x384 .bf16) (x6 : Vec F S1024x256 .bf16) (x7 : Vec F S1024x256 .bf16) (x8 : Vec F S1024x128 .f32) (x9 : Vec F S1024x128 .f32) (x10 : Vec F S1x384 .f32) (x11 : Vec F S1x256 .f32) (x12 : Vec F S384x2048 .bf16) (x13 : Vec F S256x1024 .bf16) (x14 : Vec F S256x512 .bf16) (x15 : Vec F S1x256 .f32) (x16 : Vec F S1x256 .f32) : FVec F S1024x1024 .f32 :=
  k0_pay15 (k0_pay47 x0 x1 x2 x3 x4 x5 x6 x7 x8 x9 x10 x11 x12 x13 x14 x15 x16) (View.ld x13 r0_11) -- `v99`

/-- Window 17's staging buffer after the body, from the input windows' blocks: its 1 store as pieces, LAST
    FIRST. -/
def out0_17 (x0 : Vec F S1024x1024 .f32) (x1 : Vec F S1x1024 .f32) (x2 : Vec F S1024x1024 .bf16) (x3 : Vec F S1024x2048 .bf16) (x4 : Vec F S1024x128 .bf16) (x5 : Vec F S1024x384 .bf16) (x6 : Vec F S1024x256 .bf16) (x7 : Vec F S1024x256 .bf16) (x8 : Vec F S1024x128 .f32) (x9 : Vec F S1024x128 .f32) (x10 : Vec F S1x384 .f32) (x11 : Vec F S1x256 .f32) (x12 : Vec F S384x2048 .bf16) (x13 : Vec F S256x1024 .bf16) (x14 : Vec F S256x512 .bf16) (x15 : Vec F S1x256 .f32) (x16 : Vec F S1x256 .f32) : Vec F S1024x1024 .bf16 :=
  View.canon [⟨r0_0, k0_pay2 (View.ld x0 r0_0) (View.ld x1 r0_1) (View.ld x2 r0_0)⟩]

/-- Its stores tile the buffer (checked by evaluation), so they cover it. -/
theorem cover0_17 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-- Window 18's staging buffer after the body, from the input windows' blocks: its 1 store as pieces, LAST
    FIRST. -/
def out0_18 (x0 : Vec F S1024x1024 .f32) (x1 : Vec F S1x1024 .f32) (x2 : Vec F S1024x1024 .bf16) (x3 : Vec F S1024x2048 .bf16) (x4 : Vec F S1024x128 .bf16) (x5 : Vec F S1024x384 .bf16) (x6 : Vec F S1024x256 .bf16) (x7 : Vec F S1024x256 .bf16) (x8 : Vec F S1024x128 .f32) (x9 : Vec F S1024x128 .f32) (x10 : Vec F S1x384 .f32) (x11 : Vec F S1x256 .f32) (x12 : Vec F S384x2048 .bf16) (x13 : Vec F S256x1024 .bf16) (x14 : Vec F S256x512 .bf16) (x15 : Vec F S1x256 .f32) (x16 : Vec F S1x256 .f32) : Vec F S1024x2048 .bf16 :=
  View.canon [⟨r0_2, k0_pay3 (View.ld x0 r0_0) (View.ld x1 r0_1) (View.ld x3 r0_2)⟩]

/-- Its stores tile the buffer (checked by evaluation), so they cover it. -/
theorem cover0_18 (p0 : Vec F S1024x2048 .bf16) (y : S1024x2048.Idx) :
    ∃ pc ∈ ([⟨r0_2, p0⟩] : List (View.Piece (Elt F) S1024x2048 .bf16)), y ∈ pc.1.set :=
  View.cover_of_tiled [⟨r0_2, p0⟩] S1024x2048.size (by rfl) y

/-- Window 19's staging buffer after the body, from the input windows' blocks: its 1 store as pieces, LAST
    FIRST. -/
def out0_19 (x0 : Vec F S1024x1024 .f32) (x1 : Vec F S1x1024 .f32) (x2 : Vec F S1024x1024 .bf16) (x3 : Vec F S1024x2048 .bf16) (x4 : Vec F S1024x128 .bf16) (x5 : Vec F S1024x384 .bf16) (x6 : Vec F S1024x256 .bf16) (x7 : Vec F S1024x256 .bf16) (x8 : Vec F S1024x128 .f32) (x9 : Vec F S1024x128 .f32) (x10 : Vec F S1x384 .f32) (x11 : Vec F S1x256 .f32) (x12 : Vec F S384x2048 .bf16) (x13 : Vec F S256x1024 .bf16) (x14 : Vec F S256x512 .bf16) (x15 : Vec F S1x256 .f32) (x16 : Vec F S1x256 .f32) : Vec F S1024x128 .f32 :=
  View.canon [⟨r0_3, k0_pay4 (View.ld x0 r0_0) (View.ld x1 r0_1) (View.ld x4 r0_3)⟩]

/-- Its stores tile the buffer (checked by evaluation), so they cover it. -/
theorem cover0_19 (p0 : Vec F S1024x128 .f32) (y : S1024x128.Idx) :
    ∃ pc ∈ ([⟨r0_3, p0⟩] : List (View.Piece (Elt F) S1024x128 .f32)), y ∈ pc.1.set :=
  View.cover_of_tiled [⟨r0_3, p0⟩] S1024x128.size (by rfl) y

/-- Window 20's staging buffer after the body, from the input windows' blocks: its 8 stores as pieces, LAST
    FIRST. -/
def out0_20 (x0 : Vec F S1024x1024 .f32) (x1 : Vec F S1x1024 .f32) (x2 : Vec F S1024x1024 .bf16) (x3 : Vec F S1024x2048 .bf16) (x4 : Vec F S1024x128 .bf16) (x5 : Vec F S1024x384 .bf16) (x6 : Vec F S1024x256 .bf16) (x7 : Vec F S1024x256 .bf16) (x8 : Vec F S1024x128 .f32) (x9 : Vec F S1024x128 .f32) (x10 : Vec F S1x384 .f32) (x11 : Vec F S1x256 .f32) (x12 : Vec F S384x2048 .bf16) (x13 : Vec F S256x1024 .bf16) (x14 : Vec F S256x512 .bf16) (x15 : Vec F S1x256 .f32) (x16 : Vec F S1x256 .f32) : Vec F S1024x1024 .bf16 :=
  View.canon [⟨r0_21, k0_pay43 (k0_pay49 x0 x1 x2 x3 x4 x5 x6 x7 x8 x9 x10 x11 x12 x13 x14 x15 x16) (k0_pay50 x0 x1 x2 x3 x4 x5 x6 x7 x8 x9 x10 x11 x12 x13 x14 x15 x16) (k0_pay54 x0 x1 x2 x3 x4 x5 x6 x7 x8 x9 x10 x11 x12 x13 x14 x15 x16)⟩,
    ⟨r0_20, k0_pay38 (k0_pay49 x0 x1 x2 x3 x4 x5 x6 x7 x8 x9 x10 x11 x12 x13 x14 x15 x16) (k0_pay50 x0 x1 x2 x3 x4 x5 x6 x7 x8 x9 x10 x11 x12 x13 x14 x15 x16) (k0_pay54 x0 x1 x2 x3 x4 x5 x6 x7 x8 x9 x10 x11 x12 x13 x14 x15 x16)⟩,
    ⟨r0_19, k0_pay36 (k0_pay49 x0 x1 x2 x3 x4 x5 x6 x7 x8 x9 x10 x11 x12 x13 x14 x15 x16) (k0_pay50 x0 x1 x2 x3 x4 x5 x6 x7 x8 x9 x10 x11 x12 x13 x14 x15 x16) (k0_pay54 x0 x1 x2 x3 x4 x5 x6 x7 x8 x9 x10 x11 x12 x13 x14 x15 x16)⟩,
    ⟨r0_18, k0_pay34 (k0_pay31 (k0_pay54 x0 x1 x2 x3 x4 x5 x6 x7 x8 x9 x10 x11 x12 x13 x14 x15 x16)) (k0_pay32 (k0_pay49 x0 x1 x2 x3 x4 x5 x6 x7 x8 x9 x10 x11 x12 x13 x14 x15 x16) (k0_pay54 x0 x1 x2 x3 x4 x5 x6 x7 x8 x9 x10 x11 x12 x13 x14 x15 x16)) (k0_pay33 (k0_pay50 x0 x1 x2 x3 x4 x5 x6 x7 x8 x9 x10 x11 x12 x13 x14 x15 x16) (k0_pay54 x0 x1 x2 x3 x4 x5 x6 x7 x8 x9 x10 x11 x12 x13 x14 x15 x16))⟩,
    ⟨r0_17, k0_pay29 (k0_pay49 x0 x1 x2 x3 x4 x5 x6 x7 x8 x9 x10 x11 x12 x13 x14 x15 x16) (k0_pay50 x0 x1 x2 x3 x4 x5 x6 x7 x8 x9 x10 x11 x12 x13 x14 x15 x16) (k0_pay54 x0 x1 x2 x3 x4 x5 x6 x7 x8 x9 x10 x11 x12 x13 x14 x15 x16)⟩,
    ⟨r0_16, k0_pay24 (k0_pay49 x0 x1 x2 x3 x4 x5 x6 x7 x8 x9 x10 x11 x12 x13 x14 x15 x16) (k0_pay50 x0 x1 x2 x3 x4 x5 x6 x7 x8 x9 x10 x11 x12 x13 x14 x15 x16) (k0_pay54 x0 x1 x2 x3 x4 x5 x6 x7 x8 x9 x10 x11 x12 x13 x14 x15 x16)⟩,
    ⟨r0_15, k0_pay22 (k0_pay49 x0 x1 x2 x3 x4 x5 x6 x7 x8 x9 x10 x11 x12 x13 x14 x15 x16) (k0_pay50 x0 x1 x2 x3 x4 x5 x6 x7 x8 x9 x10 x11 x12 x13 x14 x15 x16) (k0_pay54 x0 x1 x2 x3 x4 x5 x6 x7 x8 x9 x10 x11 x12 x13 x14 x15 x16)⟩,
    ⟨r0_14, k0_pay20 (k0_pay17 (k0_pay46 x0 x1 x2 x3 x4 x5 x6 x7 x8 x9 x10 x11 x12 x13 x14 x15 x16) (View.ld x12 r0_10)) (k0_pay18 (k0_pay46 x0 x1 x2 x3 x4 x5 x6 x7 x8 x9 x10 x11 x12 x13 x14 x15 x16) (View.ld x8 r0_3) (View.ld x15 r0_8) (View.ld x12 r0_10)) (k0_pay19 (k0_pay46 x0 x1 x2 x3 x4 x5 x6 x7 x8 x9 x10 x11 x12 x13 x14 x15 x16) (View.ld x9 r0_3) (View.ld x15 r0_9) (View.ld x12 r0_10))⟩]

/-- Its stores tile the buffer (checked by evaluation), so they cover it. -/
theorem cover0_20 (p0 : Vec F S1024x128 .bf16) (p1 : Vec F S1024x128 .bf16) (p2 : Vec F S1024x128 .bf16) (p3 : Vec F S1024x128 .bf16) (p4 : Vec F S1024x128 .bf16) (p5 : Vec F S1024x128 .bf16) (p6 : Vec F S1024x128 .bf16) (p7 : Vec F S1024x128 .bf16) (y : S1024x1024.Idx) :
    ∃ pc ∈ ([⟨r0_21, p0⟩, ⟨r0_20, p1⟩, ⟨r0_19, p2⟩, ⟨r0_18, p3⟩, ⟨r0_17, p4⟩, ⟨r0_16, p5⟩, ⟨r0_15, p6⟩, ⟨r0_14, p7⟩] : List (View.Piece (Elt F) S1024x1024 .bf16)), y ∈ pc.1.set :=
  View.cover_of_tiled [⟨r0_21, p0⟩, ⟨r0_20, p1⟩, ⟨r0_19, p2⟩, ⟨r0_18, p3⟩, ⟨r0_17, p4⟩, ⟨r0_16, p5⟩, ⟨r0_15, p6⟩, ⟨r0_14, p7⟩] S1024x128.size (by rfl) y

/-- Window 21's staging buffer after the body, from the input windows' blocks: its 8 stores as pieces, LAST
    FIRST. -/
def out0_21 (x0 : Vec F S1024x1024 .f32) (x1 : Vec F S1x1024 .f32) (x2 : Vec F S1024x1024 .bf16) (x3 : Vec F S1024x2048 .bf16) (x4 : Vec F S1024x128 .bf16) (x5 : Vec F S1024x384 .bf16) (x6 : Vec F S1024x256 .bf16) (x7 : Vec F S1024x256 .bf16) (x8 : Vec F S1024x128 .f32) (x9 : Vec F S1024x128 .f32) (x10 : Vec F S1x384 .f32) (x11 : Vec F S1x256 .f32) (x12 : Vec F S384x2048 .bf16) (x13 : Vec F S256x1024 .bf16) (x14 : Vec F S256x512 .bf16) (x15 : Vec F S1x256 .f32) (x16 : Vec F S1x256 .f32) : Vec F S1024x1024 .bf16 :=
  View.canon [⟨r0_21, k0_pay44 (k0_pay51 x0 x1 x2 x3 x4 x5 x6 x7 x8 x9 x10 x11 x12 x13 x14 x15 x16) (k0_pay52 x0 x1 x2 x3 x4 x5 x6 x7 x8 x9 x10 x11 x12 x13 x14 x15 x16) (k0_pay53 x0 x1 x2 x3 x4 x5 x6 x7 x8 x9 x10 x11 x12 x13 x14 x15 x16) (k0_pay55 x0 x1 x2 x3 x4 x5 x6 x7 x8 x9 x10 x11 x12 x13 x14 x15 x16)⟩,
    ⟨r0_20, k0_pay42 (k0_pay40 (k0_pay51 x0 x1 x2 x3 x4 x5 x6 x7 x8 x9 x10 x11 x12 x13 x14 x15 x16) (k0_pay52 x0 x1 x2 x3 x4 x5 x6 x7 x8 x9 x10 x11 x12 x13 x14 x15 x16) (k0_pay53 x0 x1 x2 x3 x4 x5 x6 x7 x8 x9 x10 x11 x12 x13 x14 x15 x16) (k0_pay55 x0 x1 x2 x3 x4 x5 x6 x7 x8 x9 x10 x11 x12 x13 x14 x15 x16)) (k0_pay41 (k0_pay52 x0 x1 x2 x3 x4 x5 x6 x7 x8 x9 x10 x11 x12 x13 x14 x15 x16) (k0_pay55 x0 x1 x2 x3 x4 x5 x6 x7 x8 x9 x10 x11 x12 x13 x14 x15 x16))⟩,
    ⟨r0_19, k0_pay37 (k0_pay51 x0 x1 x2 x3 x4 x5 x6 x7 x8 x9 x10 x11 x12 x13 x14 x15 x16) (k0_pay52 x0 x1 x2 x3 x4 x5 x6 x7 x8 x9 x10 x11 x12 x13 x14 x15 x16) (k0_pay53 x0 x1 x2 x3 x4 x5 x6 x7 x8 x9 x10 x11 x12 x13 x14 x15 x16) (k0_pay55 x0 x1 x2 x3 x4 x5 x6 x7 x8 x9 x10 x11 x12 x13 x14 x15 x16)⟩,
    ⟨r0_18, k0_pay35 (k0_pay51 x0 x1 x2 x3 x4 x5 x6 x7 x8 x9 x10 x11 x12 x13 x14 x15 x16) (k0_pay52 x0 x1 x2 x3 x4 x5 x6 x7 x8 x9 x10 x11 x12 x13 x14 x15 x16) (k0_pay53 x0 x1 x2 x3 x4 x5 x6 x7 x8 x9 x10 x11 x12 x13 x14 x15 x16) (k0_pay55 x0 x1 x2 x3 x4 x5 x6 x7 x8 x9 x10 x11 x12 x13 x14 x15 x16)⟩,
    ⟨r0_17, k0_pay30 (k0_pay51 x0 x1 x2 x3 x4 x5 x6 x7 x8 x9 x10 x11 x12 x13 x14 x15 x16) (k0_pay52 x0 x1 x2 x3 x4 x5 x6 x7 x8 x9 x10 x11 x12 x13 x14 x15 x16) (k0_pay53 x0 x1 x2 x3 x4 x5 x6 x7 x8 x9 x10 x11 x12 x13 x14 x15 x16) (k0_pay55 x0 x1 x2 x3 x4 x5 x6 x7 x8 x9 x10 x11 x12 x13 x14 x15 x16)⟩,
    ⟨r0_16, k0_pay28 (k0_pay26 (k0_pay51 x0 x1 x2 x3 x4 x5 x6 x7 x8 x9 x10 x11 x12 x13 x14 x15 x16) (k0_pay52 x0 x1 x2 x3 x4 x5 x6 x7 x8 x9 x10 x11 x12 x13 x14 x15 x16) (k0_pay53 x0 x1 x2 x3 x4 x5 x6 x7 x8 x9 x10 x11 x12 x13 x14 x15 x16) (k0_pay55 x0 x1 x2 x3 x4 x5 x6 x7 x8 x9 x10 x11 x12 x13 x14 x15 x16)) (k0_pay27 (k0_pay52 x0 x1 x2 x3 x4 x5 x6 x7 x8 x9 x10 x11 x12 x13 x14 x15 x16) (k0_pay55 x0 x1 x2 x3 x4 x5 x6 x7 x8 x9 x10 x11 x12 x13 x14 x15 x16))⟩,
    ⟨r0_15, k0_pay23 (k0_pay51 x0 x1 x2 x3 x4 x5 x6 x7 x8 x9 x10 x11 x12 x13 x14 x15 x16) (k0_pay52 x0 x1 x2 x3 x4 x5 x6 x7 x8 x9 x10 x11 x12 x13 x14 x15 x16) (k0_pay53 x0 x1 x2 x3 x4 x5 x6 x7 x8 x9 x10 x11 x12 x13 x14 x15 x16) (k0_pay55 x0 x1 x2 x3 x4 x5 x6 x7 x8 x9 x10 x11 x12 x13 x14 x15 x16)⟩,
    ⟨r0_14, k0_pay21 (k0_pay51 x0 x1 x2 x3 x4 x5 x6 x7 x8 x9 x10 x11 x12 x13 x14 x15 x16) (k0_pay52 x0 x1 x2 x3 x4 x5 x6 x7 x8 x9 x10 x11 x12 x13 x14 x15 x16) (k0_pay53 x0 x1 x2 x3 x4 x5 x6 x7 x8 x9 x10 x11 x12 x13 x14 x15 x16) (k0_pay55 x0 x1 x2 x3 x4 x5 x6 x7 x8 x9 x10 x11 x12 x13 x14 x15 x16)⟩]

/-- Its stores tile the buffer (checked by evaluation), so they cover it. -/
theorem cover0_21 (p0 : Vec F S1024x128 .bf16) (p1 : Vec F S1024x128 .bf16) (p2 : Vec F S1024x128 .bf16) (p3 : Vec F S1024x128 .bf16) (p4 : Vec F S1024x128 .bf16) (p5 : Vec F S1024x128 .bf16) (p6 : Vec F S1024x128 .bf16) (p7 : Vec F S1024x128 .bf16) (y : S1024x1024.Idx) :
    ∃ pc ∈ ([⟨r0_21, p0⟩, ⟨r0_20, p1⟩, ⟨r0_19, p2⟩, ⟨r0_18, p3⟩, ⟨r0_17, p4⟩, ⟨r0_16, p5⟩, ⟨r0_15, p6⟩, ⟨r0_14, p7⟩] : List (View.Piece (Elt F) S1024x1024 .bf16)), y ∈ pc.1.set :=
  View.cover_of_tiled [⟨r0_21, p0⟩, ⟨r0_20, p1⟩, ⟨r0_19, p2⟩, ⟨r0_18, p3⟩, ⟨r0_17, p4⟩, ⟨r0_16, p5⟩, ⟨r0_15, p6⟩, ⟨r0_14, p7⟩] S1024x128.size (by rfl) y

/-- Window 22's staging buffer after the body, from the input windows' blocks: its 1 store as pieces, LAST
    FIRST. -/
def out0_22 (x0 : Vec F S1024x1024 .f32) (x1 : Vec F S1x1024 .f32) (x2 : Vec F S1024x1024 .bf16) (x3 : Vec F S1024x2048 .bf16) (x4 : Vec F S1024x128 .bf16) (x5 : Vec F S1024x384 .bf16) (x6 : Vec F S1024x256 .bf16) (x7 : Vec F S1024x256 .bf16) (x8 : Vec F S1024x128 .f32) (x9 : Vec F S1024x128 .f32) (x10 : Vec F S1x384 .f32) (x11 : Vec F S1x256 .f32) (x12 : Vec F S384x2048 .bf16) (x13 : Vec F S256x1024 .bf16) (x14 : Vec F S256x512 .bf16) (x15 : Vec F S1x256 .f32) (x16 : Vec F S1x256 .f32) : Vec F S1024x512 .bf16 :=
  View.canon [⟨r0_13, k0_pay16 (k0_pay47 x0 x1 x2 x3 x4 x5 x6 x7 x8 x9 x10 x11 x12 x13 x14 x15 x16) (View.ld x14 r0_12)⟩]

/-- Its stores tile the buffer (checked by evaluation), so they cover it. -/
theorem cover0_22 (p0 : Vec F S1024x512 .bf16) (y : S1024x512.Idx) :
    ∃ pc ∈ ([⟨r0_13, p0⟩] : List (View.Piece (Elt F) S1024x512 .bf16)), y ∈ pc.1.set :=
  View.cover_of_tiled [⟨r0_13, p0⟩] S1024x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel (c : Dev nD) (E : Set ℕ) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1024x2048 .bf16) (harg4 : arg4.IsWhole) (arg5 : Memref sig .tc .vmem S1024x128 .bf16) (harg5 : arg5.IsWhole) (arg6 : Memref sig .tc .vmem S1024x384 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1x384 .f32) (harg11 : arg11.IsWhole) (arg12 : Memref sig .tc .vmem S1x256 .f32) (harg12 : arg12.IsWhole) (arg13 : Memref sig .tc .vmem S384x2048 .bf16) (harg13 : arg13.IsWhole) (arg14 : Memref sig .tc .vmem S256x1024 .bf16) (harg14 : arg14.IsWhole) (arg15 : Memref sig .tc .vmem S256x512 .bf16) (harg15 : arg15.IsWhole) (arg16 : Memref sig .tc .vmem S1x256 .f32) (harg16 : arg16.IsWhole) (arg17 : Memref sig .tc .vmem S1x256 .f32) (harg17 : arg17.IsWhole) (arg18 : Memref sig .tc .vmem S1024x1024 .bf16) (harg18 : arg18.IsWhole) (arg19 : Memref sig .tc .vmem S1024x2048 .bf16) (harg19 : arg19.IsWhole) (arg20 : Memref sig .tc .vmem S1024x128 .f32) (harg20 : arg20.IsWhole) (arg21 : Memref sig .tc .vmem S1024x1024 .bf16) (harg21 : arg21.IsWhole) (arg22 : Memref sig .tc .vmem S1024x1024 .bf16) (harg22 : arg22.IsWhole) (arg23 : Memref sig .tc .vmem S1024x512 .bf16) (harg23 : arg23.IsWhole)
    (x0 : Vec F S1024x1024 .f32) (x1 : Vec F S1x1024 .f32) (x2 : Vec F S1024x1024 .bf16) (x3 : Vec F S1024x2048 .bf16) (x4 : Vec F S1024x128 .bf16) (x5 : Vec F S1024x384 .bf16) (x6 : Vec F S1024x256 .bf16) (x7 : Vec F S1024x256 .bf16) (x8 : Vec F S1024x128 .f32) (x9 : Vec F S1024x128 .f32) (x10 : Vec F S1x384 .f32) (x11 : Vec F S1x256 .f32) (x12 : Vec F S384x2048 .bf16) (x13 : Vec F S256x1024 .bf16) (x14 : Vec F S256x512 .bf16) (x15 : Vec F S1x256 .f32) (x16 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out0_17 x0 x1 x2 x3 x4 x5 x6 x7 x8 x9 x10 x11 x12 x13 x14 x15 x16) ∗ owns (c : Thread nD τ) arg19 fullShare (out0_18 x0 x1 x2 x3 x4 x5 x6 x7 x8 x9 x10 x11 x12 x13 x14 x15 x16) ∗ owns (c : Thread nD τ) arg20 fullShare (out0_19 x0 x1 x2 x3 x4 x5 x6 x7 x8 x9 x10 x11 x12 x13 x14 x15 x16) ∗ owns (c : Thread nD τ) arg21 fullShare (out0_20 x0 x1 x2 x3 x4 x5 x6 x7 x8 x9 x10 x11 x12 x13 x14 x15 x16) ∗ owns (c : Thread nD τ) arg22 fullShare (out0_21 x0 x1 x2 x3 x4 x5 x6 x7 x8 x9 x10 x11 x12 x13 x14 x15 x16) ∗ owns (c : Thread nD τ) arg23 fullShare (out0_22 x0 x1 x2 x3 x4 x5 x6 x7 x8 x9 x10 x11 x12 x13 x14 x15 x16)) -∗ K ⟨⟩))
      ⊢ wp frame (wpE (defs₀ (F := F)) Variants.none c none) E (cc0_even_in_proj_mla_prep i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_even_in_proj_mla_prep_eq_skeleton]; unfold cc0_even_in_proj_mla_prep_skel
  simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _ _ _ _ _ _ _ _)).trans ?_
    rfl
  isplitl [H21]
  · iexists _; isplitr
    swap; · iexact H21
    ipureintro
    refine (View.read_writes_eq_canon _ _ _ (cover0_21 _ _ _ _ _ _ _ _)).trans ?_
    rfl
  iexists _; isplitr
  swap; · iexact H22
  ipureintro
  refine (View.read_writes_eq_canon _ _ _ (cover0_22 _)).trans ?_
  rfl

/-! ## The pipeline's proof data -/

/-- The proof data of the one pipeline on core `c`: the arrays as the region finds them (`V`); after the body at
    point `t` each input's buffer at its block and each output's at `out0_W` of the input blocks; the invariant the
    class's; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 23, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- The implicit arguments of `θ_run_frame` are found by unifying its conclusion with this one, which takes unfolding
-- plain definitions.
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame: every run ends, with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel6Ideal.Gen

end
-- ==== Proof.AttnMath.lean ====
/-
  The mathematics of one row of causal attention over the extended reals. The queries' products with the keys are
  real numbers `σ c`, one per position `c`; the row is number `R`, so that it sees the positions `c ≤ R`. The weights
  are `2 ^ σ c` there and 0 behind, and the row's value is the weighted mean of `v` (`value`).

  The kernel cuts the positions into 512 on the diagonal, masked, and the ones before, takes the powers after
  subtracting the greatest product, and divides at the end (`later`; `first` where there are none before). The
  reference takes exponentials of the products times log 2, and divides before it sums (`whole`). Whatever real number
  is subtracted scales numerator and denominator alike, so all are `value`.
-/
module

public import Idealize.ShloMosaic.PureOps.Ideal
public import Idealize.ShloMosaic.Lib.Pointwise

@[expose] public section

noncomputable section

open Idealize.ShloMosaic

namespace AttnMath

/-- The word that stands for minus infinity. -/
def neg : EReal := Ideal.ofBits .f32 0xFF800000#32

/-- It reads as minus infinity. -/
theorem neg_eq : neg = ⊥ := by
  unfold neg
  show Ideal.ieee 8 23 (0xFF800000#32) = ⊥
  have h1 : (BitVec.toNat (0xFF800000#32) >>> 23) % 2 ^ 8 = 255 := by decide
  unfold Ideal.ieee
  simp [h1]

/-- The products with the positions behind row `r` put to minus infinity. -/
def masked {N : ℕ} (r : ℕ) (s : Fin N → EReal) (x : Fin N) : EReal :=
  Scalar.select (IntOp.cmpi .sle (BitVec.ofNat 32 x.val) (BitVec.ofNat 32 r)) (s x) neg

/-- The greatest of the products. -/
def top {N : ℕ} (f : Fin N → EReal) : EReal := Finset.univ.fold max neg f

/-- A row all of whose positions are in the diagonal block. -/
def first (r : ℕ) (s v : Fin 512 → EReal) : EReal :=
  Ideal.div (∑ x, Ideal.exp2 (masked r s x - top (masked r s)) * v x)
    (∑ x, Ideal.exp2 (masked r s x - top (masked r s)))

/-- A row with the diagonal block's positions and `n` before them. -/
def later {n : ℕ} (r : ℕ) (s : Fin 512 → EReal) (p : Fin n → EReal) (v : Fin 512 → EReal) (w : Fin n → EReal) : EReal :=
  Ideal.div
    ((∑ x, Ideal.exp2 (masked r s x - max (top (masked r s)) (top p)) * v x)
      + ∑ x, Ideal.exp2 (p x - max (top (masked r s)) (top p)) * w x)
    ((∑ x, Ideal.exp2 (masked r s x - max (top (masked r s)) (top p)))
      + ∑ x, Ideal.exp2 (p x - max (top (masked r s)) (top p)))

/-- The softmax of the masked products `s` of row `r`, and the sum of `v` with those weights. -/
def whole {N : ℕ} (r : ℕ) (s v : Fin N → EReal) : EReal :=
  ∑ x, v x * Ideal.div (Ideal.exp (masked r s x - max neg (top (masked r s))))
    (∑ y, Ideal.exp (masked r s y - max neg (top (masked r s))))

/-- The weight of position `c` in row `R`. -/
def wt {N : ℕ} (σ : Fin N → ℝ) (R : ℕ) (c : Fin N) : ℝ := if c.val ≤ R then Real.rpow 2 (σ c) else 0

/-- The weighted mean of `v`. -/
def value {N : ℕ} (σ : Fin N → ℝ) (R : ℕ) (v : Fin N → EReal) : EReal :=
  (((∑ c, wt σ R c)⁻¹ : ℝ) : EReal) * ∑ c, (wt σ R c : EReal) * v c

/-- The mask, for numbers that fit a word. -/
theorem masked_eq {N : ℕ} (hN : N ≤ 2048) {r : ℕ} (hr : r < 2048) (s : Fin N → EReal) (x : Fin N) :
    masked r s x = if x.val ≤ r then s x else ⊥ := by
  have hx := x.isLt
  have e : IntOp.cmpi .sle (BitVec.ofNat 32 x.val) (BitVec.ofNat 32 r) = BitVec.ofBool (decide (x.val ≤ r)) := by
    have e1 : (BitVec.ofNat 32 x.val).sle (BitVec.ofNat 32 r) = decide (x.val ≤ r) := by
      have a1 : (BitVec.ofNat 32 x.val).toInt = x.val := by
        rw [BitVec.toInt_eq_toNat_of_lt] <;> simp only [BitVec.toNat_ofNat] <;> omega
      have a2 : (BitVec.ofNat 32 r).toInt = r := by
        rw [BitVec.toInt_eq_toNat_of_lt] <;> simp only [BitVec.toNat_ofNat] <;> omega
      rw [BitVec.sle, a1, a2]
      simp
    show BitVec.ofBool ((BitVec.ofNat 32 x.val).sle (BitVec.ofNat 32 r)) = _
    rw [e1]
  unfold masked
  rw [e, neg_eq]
  by_cases h : x.val ≤ r <;> simp [h, Scalar.select]

/-- A nonnegative real factor goes into a sum. -/
theorem coe_mul_sum {N : ℕ} {t : ℝ} (ht : 0 ≤ t) (f : Fin N → EReal) : ∑ x, (t : EReal) * f x = t * ∑ x, f x := by
  classical
  induction (Finset.univ : Finset (Fin N)) using Finset.induction_on with
  | empty => simp
  | insert a s ha ih =>
    rw [Finset.sum_insert ha, Finset.sum_insert ha, ih,
      EReal.left_distrib_of_nonneg_of_ne_top (EReal.coe_nonneg.mpr ht) (EReal.coe_ne_top t)]

/-- A sum of reals is read as the sum. -/
theorem coe_sum {N : ℕ} (f : Fin N → ℝ) : ((∑ x, f x : ℝ) : EReal) = ∑ x, (f x : EReal) := by
  classical
  induction (Finset.univ : Finset (Fin N)) using Finset.induction_on with
  | empty => simp
  | insert a s ha ih => rw [Finset.sum_insert ha, Finset.sum_insert ha, EReal.coe_add, ih]

/-- The greatest of products none of which is plus infinity is not plus infinity. -/
theorem top_lt {N : ℕ} (f : Fin N → EReal) (h : ∀ x, f x ≠ ⊤) : top f < ⊤ := by
  unfold top
  rw [Finset.fold_max_lt, neg_eq]
  exact ⟨bot_lt_top, fun x _ => lt_top_iff_ne_top.mpr (h x)⟩

/-- The greatest of products one of which is not minus infinity is not minus infinity. -/
theorem lt_top_of {N : ℕ} (f : Fin N → EReal) (x : Fin N) (h : f x ≠ ⊥) : ⊥ < top f := by
  unfold top
  rw [Finset.lt_fold_max]
  exact .inr ⟨x, Finset.mem_univ x, bot_lt_iff_ne_bot.mpr h⟩

/-- A sum over all positions, cut into the 512 from `n` on and the ones before. -/
theorem sum_split {N : ℕ} (n k : ℕ) (hN : N = n + 512 + k) (f : Fin N → EReal)
    (hf : ∀ c : Fin N, n + 512 ≤ c.val → f c = 0) :
    (∑ x : Fin 512, f ⟨n + x.val, by omega⟩) + ∑ x : Fin n, f ⟨x.val, by omega⟩ = ∑ c, f c := by
  subst hN
  rw [Fin.sum_univ_add, Fin.sum_univ_add]
  have h0 : ∑ i : Fin k, f (Fin.natAdd (n + 512) i) = 0 :=
    Finset.sum_eq_zero fun i _ => hf _ (by simp)
  rw [h0, add_zero, add_comm]
  rfl

/-- Dividing by a real that is not 0 is multiplying by its inverse. -/
theorem div_coe {x : EReal} {y : ℝ} (hy : y ≠ 0) : Ideal.div x (y : EReal) = x * ((y⁻¹ : ℝ) : EReal) := by
  unfold Ideal.div
  rw [if_neg (by simpa using hy), EReal.coe_inv]

section weights
variable {N : ℕ} (σ : Fin N → ℝ) (R : ℕ) (v : Fin N → EReal)

/-- No weight is negative. -/
theorem wt_nonneg (c : Fin N) : 0 ≤ wt σ R c := by
  unfold wt
  split
  · exact (Real.rpow_pos_of_pos (by norm_num) _).le
  · exact le_rfl

/-- The weights of a row that sees its own position add up to a positive number. -/
theorem sum_wt_pos (hR : R < N) : 0 < ∑ c, wt σ R c := by
  refine Finset.sum_pos' (fun c _ => wt_nonneg σ R c) ⟨⟨R, hR⟩, Finset.mem_univ _, ?_⟩
  simp only [wt, le_refl, if_true]
  exact Real.rpow_pos_of_pos (by norm_num) _

/-- The quotient of the weighted sum by the sum of the weights, all of them times `t`. -/
theorem div_eq (hR : R < N) {t : ℝ} (ht : 0 < t) :
    Ideal.div (∑ c, ((wt σ R c * t : ℝ) : EReal) * v c) (∑ c, ((wt σ R c * t : ℝ) : EReal)) = value σ R v := by
  have hL := sum_wt_pos σ R hR
  have e1 : (∑ c, ((wt σ R c * t : ℝ) : EReal) * v c) = t * ∑ c, (wt σ R c : EReal) * v c := by
    rw [← coe_mul_sum ht.le]
    exact Finset.sum_congr rfl fun c _ => by rw [mul_comm (wt σ R c) t, EReal.coe_mul, mul_assoc]
  have e2 : (∑ c, ((wt σ R c * t : ℝ) : EReal)) = ((t * ∑ c, wt σ R c : ℝ) : EReal) := by
    rw [← coe_sum, Finset.mul_sum]
    exact congrArg _ (Finset.sum_congr rfl fun c _ => mul_comm _ _)
  rw [e1, e2, div_coe (mul_pos ht hL).ne', value, mul_comm, ← mul_assoc, ← EReal.coe_mul]
  congr 2
  field_simp

/-- The kernel's power of a product, less a real number. -/
theorem exp2_masked (μ : ℝ) (c : Fin N) :
    Ideal.exp2 ((if c.val ≤ R then (σ c : EReal) else ⊥) - (μ : EReal)) = ((wt σ R c * Real.rpow 2 (-μ) : ℝ) : EReal) := by
  unfold wt
  by_cases h : c.val ≤ R
  · simp only [h, if_true]
    rw [← EReal.coe_sub, Ideal.exp2_coe]
    congr 1
    show (2 : ℝ) ^ (σ c - μ) = 2 ^ σ c * 2 ^ (-μ)
    rw [← Real.rpow_add (by norm_num), sub_eq_add_neg]
  · simp only [h, if_false]
    rw [EReal.bot_sub, Ideal.exp2_bot]
    simp

/-- The reference's exponential of a product times log 2, less a real number. -/
theorem exp_masked (μ : ℝ) (c : Fin N) :
    Ideal.exp ((if c.val ≤ R then (σ c : EReal) * (Real.log 2 : ℝ) else ⊥) - (μ : EReal))
      = ((wt σ R c * Real.exp (-μ) : ℝ) : EReal) := by
  unfold wt
  by_cases h : c.val ≤ R
  · simp only [h, if_true]
    rw [← EReal.coe_mul, ← EReal.coe_sub, Ideal.exp_coe]
    congr 1
    show Real.exp (σ c * Real.log 2 - μ) = 2 ^ σ c * Real.exp (-μ)
    rw [Real.rpow_def_of_pos (by norm_num), ← Real.exp_add]
    ring_nf
  · simp only [h, if_false]
    rw [EReal.bot_sub, Ideal.exp_bot]
    simp

/-- The reference's row is the weighted mean. -/
theorem whole_eq (hN : N ≤ 2048) (hR : R < N) : whole R (fun c => (σ c : EReal) * (Real.log 2 : ℝ)) v = value σ R v := by
  have hm : ∀ c, masked R (fun c => (σ c : EReal) * (Real.log 2 : ℝ)) c = if c.val ≤ R then (σ c : EReal) * (Real.log 2 : ℝ) else ⊥ :=
    fun c => masked_eq hN (by omega) _ c
  have hlt : max neg (top (masked R fun c => (σ c : EReal) * (Real.log 2 : ℝ))) ≠ ⊤ := by
    rw [neg_eq, max_eq_right bot_le]
    refine (top_lt _ fun x => ?_).ne
    rw [hm]
    split
    · rw [← EReal.coe_mul]; exact EReal.coe_ne_top _
    · exact bot_ne_top
  have hgt : max neg (top (masked R fun c => (σ c : EReal) * (Real.log 2 : ℝ))) ≠ ⊥ := by
    rw [neg_eq, max_eq_right bot_le]
    refine (lt_top_of _ ⟨R, hR⟩ ?_).ne'
    rw [hm, if_pos le_rfl, ← EReal.coe_mul]
    exact EReal.coe_ne_bot _
  unfold whole
  lift max neg (top (masked R fun c => (σ c : EReal) * (Real.log 2 : ℝ))) to ℝ using ⟨hlt, hgt⟩ with μ
  simp only [hm, exp_masked]
  have ht := Real.exp_pos (-μ)
  rw [← div_eq σ R v hR ht]
  have hL : (∑ c, wt σ R c * Real.exp (-μ)) ≠ 0 := by
    rw [← Finset.sum_mul]
    exact (mul_pos (sum_wt_pos σ R hR) ht).ne'
  rw [← coe_sum, div_coe hL, mul_comm, ← coe_mul_sum]
  · refine Finset.sum_congr rfl fun c _ => ?_
    rw [div_coe hL, mul_comm (v c), mul_comm ((wt σ R c * Real.exp (-μ) : ℝ) : EReal) (((∑ c, wt σ R c * Real.exp (-μ))⁻¹ : ℝ) : EReal), mul_assoc]
  · exact inv_nonneg.mpr (Finset.sum_nonneg fun c _ => mul_nonneg (wt_nonneg σ R c) ht.le)

/-- The kernel's row with positions before the diagonal block is the weighted mean. -/
theorem later_eq (n k r : ℕ) (hN : N = n + 512 + k) (hN' : N ≤ 2048) (hr : r < 512) :
    later r (fun x : Fin 512 => (σ ⟨n + x.val, by omega⟩ : EReal)) (fun x : Fin n => (σ ⟨x.val, by omega⟩ : EReal))
      (fun x => v ⟨n + x.val, by omega⟩) (fun x => v ⟨x.val, by omega⟩) = value σ (n + r) v := by
  have hm : ∀ x, masked r (fun x : Fin 512 => (σ ⟨n + x.val, by omega⟩ : EReal)) x
      = if (⟨n + x.val, by omega⟩ : Fin N).val ≤ n + r then (σ ⟨n + x.val, by omega⟩ : EReal) else ⊥ := fun x => by
    rw [masked_eq (by omega) (by omega)]
    simp
  have hp : ∀ x : Fin n, (σ ⟨x.val, by omega⟩ : EReal)
      = if (⟨x.val, by omega⟩ : Fin N).val ≤ n + r then (σ ⟨x.val, by omega⟩ : EReal) else ⊥ := fun x => by
    rw [if_pos (by show x.val ≤ n + r; omega)]
  have hlt : max (top (masked r (fun x : Fin 512 => (σ ⟨n + x.val, by omega⟩ : EReal)))) (top (fun x : Fin n => (σ ⟨x.val, by omega⟩ : EReal))) ≠ ⊤ := by
    refine (max_lt (top_lt _ fun x => ?_) (top_lt _ fun x => EReal.coe_ne_top _)).ne
    rw [hm]
    split
    · exact EReal.coe_ne_top _
    · exact bot_ne_top
  have hgt : max (top (masked r (fun x : Fin 512 => (σ ⟨n + x.val, by omega⟩ : EReal)))) (top (fun x : Fin n => (σ ⟨x.val, by omega⟩ : EReal))) ≠ ⊥ := by
    refine (lt_max_of_lt_left (lt_top_of _ ⟨r, hr⟩ ?_)).ne'
    rw [hm, if_pos (by simp)]
    exact EReal.coe_ne_bot _
  unfold later
  lift max (top (masked r (fun x : Fin 512 => (σ ⟨n + x.val, by omega⟩ : EReal)))) (top (fun x : Fin n => (σ ⟨x.val, by omega⟩ : EReal))) to ℝ using ⟨hlt, hgt⟩ with μ
  have ht : 0 < Real.rpow 2 (-μ) := Real.rpow_pos_of_pos (by norm_num) _
  have ed : ∀ x : Fin 512, Ideal.exp2 (masked r (fun x : Fin 512 => (σ ⟨n + x.val, by omega⟩ : EReal)) x - (μ : EReal))
      = ((wt σ (n + r) ⟨n + x.val, by omega⟩ * Real.rpow 2 (-μ) : ℝ) : EReal) := fun x => by
    rw [hm]
    exact exp2_masked σ (n + r) μ ⟨n + x.val, by omega⟩
  have ep : ∀ x : Fin n, Ideal.exp2 ((σ ⟨x.val, by omega⟩ : EReal) - (μ : EReal))
      = ((wt σ (n + r) ⟨x.val, by omega⟩ * Real.rpow 2 (-μ) : ℝ) : EReal) := fun x => by
    rw [hp]
    exact exp2_masked σ (n + r) μ ⟨x.val, by omega⟩
  simp only [ed, ep]
  have hz : ∀ c : Fin N, n + 512 ≤ c.val → wt σ (n + r) c = 0 := fun c hc => by
    unfold wt
    rw [if_neg (by omega)]
  rw [sum_split n k hN (fun c => ((wt σ (n + r) c * Real.rpow 2 (-μ) : ℝ) : EReal) * v c) fun c hc => by simp [hz c hc],
    sum_split n k hN (fun c => ((wt σ (n + r) c * Real.rpow 2 (-μ) : ℝ) : EReal)) fun c hc => by simp [hz c hc]]
  exact div_eq σ (n + r) v (by omega) ht

/-- The kernel's row within the first block is the weighted mean. -/
theorem first_eq (k r : ℕ) (hN : N = 512 + k) (hN' : N ≤ 2048) (hr : r < 512) :
    first r (fun x : Fin 512 => (σ ⟨x.val, by omega⟩ : EReal)) (fun x => v ⟨x.val, by omega⟩) = value σ r v := by
  have h := later_eq σ v 0 k r (by omega) hN' hr
  simp only [Nat.zero_add] at h
  rw [← h]
  simp only [first, later, top, Finset.univ_eq_empty, Finset.fold_empty, Finset.sum_empty, add_zero, neg_eq, max_bot_right]

end weights

/-- A finite sum of products of finite numbers is a real number. -/
theorem exists_real {N : ℕ} (a b : Fin N → EReal) (ha : ∀ x, a x ≠ ⊥ ∧ a x ≠ ⊤) (hb : ∀ x, b x ≠ ⊥ ∧ b x ≠ ⊤) :
    ∃ z : ℝ, ∑ x, a x * b x = (z : EReal) := by
  refine ⟨∑ x, (a x).toReal * (b x).toReal, ?_⟩
  rw [coe_sum]
  refine Finset.sum_congr rfl fun x _ => ?_
  rw [EReal.coe_mul, EReal.coe_toReal (ha x).2 (ha x).1, EReal.coe_toReal (hb x).2 (hb x).1]

end AttnMath

end
-- ==== Proof.AttnKernel.lean ====
/-
  The attention call at the extended reals: what its result array holds after the run. One grid point does one pair of
  heads of one sequence: four stores of 512 rows each, which are `AttnMath.first` (the first) and `AttnMath.later`.
-/
module

public import proofs.«01_k».proof.Proof.Gen.KernelIdeal.Value
public import proofs.«01_k».proof.Proof.AttnMath
public import Idealize.ShloMosaic.Lib.Pipeline.ValueKit
public import Idealize.ShloMosaic.Lib.Pointwise

@[expose] public section

noncomputable section

open Idealize.ShloMosaic Idealize.ShloMosaic.TcCoe Idealize.SL.Sem
open Idealize.ShloMosaic.Pipeline (Dat)

namespace Cert.KernelIdeal.Attn
open Cert.KernelIdeal Cert.KernelIdeal.Gen

/-- The products of row `r` of a query block with the rows of a key block. -/
def dot {n : ℕ} (q : Vec Ideal S1x512x128 .bf16) (k : (⟨3, ![1, n, 128]⟩ : Shape).Idx → EReal) (r : Fin 512) (c : Fin n) : EReal :=
  ∑ d : Fin 128, q (ix3 0 r d) * k (ix3 0 c d)

/-- Which of a store's two heads column `l` belongs to. -/
def pick (l : Fin 128) (a b : EReal) : EReal := Scalar.select (IntOp.cmpi .slt (BitVec.ofNat 32 l.val) 64#32) a b

variable (x0 x1 : Vec Ideal S1x2048x256 .bf16) (x2 : Vec Ideal S1x2048x128 .bf16)

/-- The store of the first 512 rows. -/
theorem block0 (q0 k0 q1 k1 v : Vec Ideal S1x512x128 .bf16) (r : Fin 512) (l : Fin 128) :
    k0_pay7 (k0_pay37 x0 x1 x2) (k0_pay39 x0 x1 x2) (k0_pay4 q0 k0 v) (k0_pay5 q1 k1) (k0_pay6 q1 k1) v (ix3 0 r l) =
      pick l (AttnMath.first r.val (dot q0 k0 r) (fun c => v (ix3 0 c l))) (AttnMath.first r.val (dot q1 k1 r) (fun c => v (ix3 0 c l))) := by
  unfold k0_pay37 k0_pay39
  unfold_payloads
  pointwise [pick, AttnMath.first, AttnMath.top, AttnMath.masked, AttnMath.neg, dot]
  rfl

/-- The store of the second 512 rows. -/
theorem block1 (q0 k0 q1 k1 v : Vec Ideal S1x512x128 .bf16) (p0 p1 w : Vec Ideal S1x512x128 .bf16) (r : Fin 512) (l : Fin 128) :
    k0_pay19 (k0_pay37 x0 x1 x2) (k0_pay39 x0 x1 x2) (k0_pay13 (k0_pay39 x0 x1 x2) (k0_pay10 q0 p0) (k0_pay11 (k0_pay38 x0 x1 x2) q0 k0 p0)
        (k0_pay12 (k0_pay38 x0 x1 x2) q0 k0 p0) v w) (k0_pay16 q1 p1) (k0_pay17 (k0_pay38 x0 x1 x2) q1 k1 p1) (k0_pay18 (k0_pay38 x0 x1 x2) q1 k1 p1) v w
        (ix3 0 r l) =
      pick l (AttnMath.later r.val (dot q0 k0 r) (dot q0 p0 r) (fun c => v (ix3 0 c l)) (fun c => w (ix3 0 c l)))
        (AttnMath.later r.val (dot q1 k1 r) (dot q1 p1 r) (fun c => v (ix3 0 c l)) (fun c => w (ix3 0 c l))) := by
  unfold k0_pay37 k0_pay38 k0_pay39
  unfold_payloads
  pointwise [pick, AttnMath.later, AttnMath.top, AttnMath.masked, AttnMath.neg, dot]
  rfl

/-- The store of the third 512 rows. -/
theorem block2 (q0 k0 q1 k1 v : Vec Ideal S1x512x128 .bf16) (p0 p1 w : Vec Ideal S1x1024x128 .bf16) (r : Fin 512) (l : Fin 128) :
    k0_pay29 (k0_pay37 x0 x1 x2) (k0_pay39 x0 x1 x2) (k0_pay24 (k0_pay39 x0 x1 x2) (k0_pay20 q0) (k0_pay21 (k0_pay38 x0 x1 x2) q0 k0)
        (k0_pay22 (k0_pay38 x0 x1 x2) q0 k0) (k0_pay23 p0) (constant S512x1024 .f32 0x00000000#32) v w) (k0_pay26 (k0_pay38 x0 x1 x2) q1 k1)
        (k0_pay27 (k0_pay38 x0 x1 x2) q1 k1) (k0_pay28 q1 p1) v w
        (ix3 0 r l) =
      pick l (AttnMath.later r.val (dot q0 k0 r) (dot q0 p0 r) (fun c => v (ix3 0 c l)) (fun c => w (ix3 0 c l)))
        (AttnMath.later r.val (dot q1 k1 r) (dot q1 p1 r) (fun c => v (ix3 0 c l)) (fun c => w (ix3 0 c l))) := by
  unfold k0_pay37 k0_pay38 k0_pay39
  unfold_payloads
  pointwise [pick, AttnMath.later, AttnMath.top, AttnMath.masked, AttnMath.neg, dot]
  rfl

/-- The store of the last 512 rows. -/
theorem block3 (q0 k0 q1 k1 v : Vec Ideal S1x512x128 .bf16) (p0 p1 w : Vec Ideal S1x1536x128 .bf16) (r : Fin 512) (l : Fin 128) :
    k0_pay1 (k0_pay36 (k0_pay37 x0 x1 x2) (k0_pay39 x0 x1 x2) (k0_pay33 (k0_pay38 x0 x1 x2) (k0_pay39 x0 x1 x2) (k0_pay30 q0) (k0_pay31 q0 k0)
        (k0_pay32 (F := Ideal)) p0 v w) (k0_pay34 q1) (k0_pay35 (k0_pay38 x0 x1 x2) q1 k1) p1 v w)
        (ix3 0 r l) =
      pick l (AttnMath.later r.val (dot q0 k0 r) (dot q0 p0 r) (fun c => v (ix3 0 c l)) (fun c => w (ix3 0 c l)))
        (AttnMath.later r.val (dot q1 k1 r) (dot q1 p1 r) (fun c => v (ix3 0 c l)) (fun c => w (ix3 0 c l))) := by
  unfold k0_pay37 k0_pay38 k0_pay39
  unfold_payloads
  pointwise [pick, AttnMath.later, AttnMath.top, AttnMath.masked, AttnMath.neg, dot]
  rfl

end Cert.KernelIdeal.Attn

end
-- ==== Proof.AttnOut.lean ====
/-
  What one grid point of the attention call leaves in its output block: for every row the weighted mean
  `AttnMath.value`, for the head of the column.
-/
module

public import proofs.«01_k».proof.Proof.AttnKernel

@[expose] public section

noncomputable section

open Idealize.ShloMosaic Idealize.ShloMosaic.TcCoe Idealize.SL.Sem
open Idealize.ShloMosaic.Pipeline (Dat)

namespace Cert.KernelIdeal.Attn
open Cert.KernelIdeal Cert.KernelIdeal.Gen

/-- The products of row `R` of the query block with row `c` of the key block, over the 128 columns from `o`. -/
def full (o : ℕ) (ho : o ≤ 128) (x0 x1 : Vec Ideal S1x2048x256 .bf16) (R c : Fin 2048) : EReal :=
  ∑ d : Fin 128, x0 (ix3 0 R ⟨o + d.val, by omega⟩) * x1 (ix3 0 c ⟨o + d.val, by omega⟩)

/-- A store's first head or second, where no position lies before the diagonal block. -/
theorem first_tile (o : ℕ) (ho : o ≤ 128) (x0 x1 : Vec Ideal S1x2048x256 .bf16) (x2 : Vec Ideal S1x2048x128 .bf16) (σ : Fin 2048 → Fin 2048 → ℝ)
    (hσ : ∀ R c, full o ho x0 x1 R c = σ R c) (q k v : Vec Ideal S1x512x128 .bf16) (r : Fin 512) (l : Fin 128)
    (hq : ∀ (r : Fin 512) (d : Fin 128), q (ix3 0 r d) = x0 (ix3 0 ⟨r.val, by omega⟩ ⟨o + d.val, by omega⟩))
    (hk : ∀ (r : Fin 512) (d : Fin 128), k (ix3 0 r d) = x1 (ix3 0 ⟨r.val, by omega⟩ ⟨o + d.val, by omega⟩))
    (hv : ∀ (r : Fin 512) (d : Fin 128), v (ix3 0 r d) = x2 (ix3 0 ⟨r.val, by omega⟩ d)) :
    AttnMath.first r.val (dot q k r) (fun c => v (ix3 0 c l)) = AttnMath.value (σ ⟨r.val, by omega⟩) r.val (fun c => x2 (ix3 0 c l)) := by
  rw [← AttnMath.first_eq (σ ⟨r.val, by omega⟩) (fun c => x2 (ix3 0 c l)) 1536 r.val (by norm_num) (by norm_num) r.isLt]
  have e : dot q k r = fun x : Fin 512 => (σ ⟨r.val, by omega⟩ ⟨x.val, by omega⟩ : EReal) := by
    funext c
    rw [← hσ]
    simp only [dot, hq, hk, full]
  simp only [e, hv]

/-- A store's first head or second, with `n` positions before the diagonal block. -/
theorem later_tile (o : ℕ) (ho : o ≤ 128) (x0 x1 : Vec Ideal S1x2048x256 .bf16) (x2 : Vec Ideal S1x2048x128 .bf16) (σ : Fin 2048 → Fin 2048 → ℝ)
    (hσ : ∀ R c, full o ho x0 x1 R c = σ R c) (n j : ℕ) (hn : 2048 = n + 512 + j) (q k v : Vec Ideal S1x512x128 .bf16)
    (p w : (⟨3, ![1, n, 128]⟩ : Shape).Idx → EReal) (r : Fin 512) (l : Fin 128)
    (hq : ∀ (r : Fin 512) (d : Fin 128), q (ix3 0 r d) = x0 (ix3 0 ⟨n + r.val, by omega⟩ ⟨o + d.val, by omega⟩))
    (hk : ∀ (r : Fin 512) (d : Fin 128), k (ix3 0 r d) = x1 (ix3 0 ⟨n + r.val, by omega⟩ ⟨o + d.val, by omega⟩))
    (hv : ∀ (r : Fin 512) (d : Fin 128), v (ix3 0 r d) = x2 (ix3 0 ⟨n + r.val, by omega⟩ d))
    (hp : ∀ (r : Fin n) (d : Fin 128), p (ix3 0 r d) = x1 (ix3 0 ⟨r.val, by omega⟩ ⟨o + d.val, by omega⟩))
    (hw : ∀ (r : Fin n) (d : Fin 128), w (ix3 0 r d) = x2 (ix3 0 ⟨r.val, by omega⟩ d)) :
    AttnMath.later r.val (dot q k r) (dot q p r) (fun c => v (ix3 0 c l)) (fun c => w (ix3 0 c l)) =
      AttnMath.value (σ ⟨n + r.val, by omega⟩) (n + r.val) (fun c => x2 (ix3 0 c l)) := by
  rw [← AttnMath.later_eq (σ ⟨n + r.val, by omega⟩) (fun c => x2 (ix3 0 c l)) n j r.val hn (by norm_num) r.isLt]
  have e : dot q k r = fun x : Fin 512 => (σ ⟨n + r.val, by omega⟩ ⟨n + x.val, by omega⟩ : EReal) := by
    funext c
    rw [← hσ]
    simp only [dot, hq, hk, full]
  have e' : dot q p r = fun x : Fin n => (σ ⟨n + r.val, by omega⟩ ⟨x.val, by omega⟩ : EReal) := by
    funext c
    rw [← hσ]
    simp only [dot, hq, hp, full]
  simp only [e, e', hv, hw]

/-- The output block at a row and a column. -/
theorem out_apply (x0 x1 : Vec Ideal S1x2048x256 .bf16) (x2 : Vec Ideal S1x2048x128 .bf16) (σ τ' : Fin 2048 → Fin 2048 → ℝ)
    (hσ : ∀ R c, full 0 (by omega) x0 x1 R c = σ R c) (hτ : ∀ R c, full 128 (by omega) x0 x1 R c = τ' R c) (R : Fin 2048) (l : Fin 128) :
    out0_3 x0 x1 x2 (ix3 0 R l) = pick l (AttnMath.value (σ R) R.val (fun c => x2 (ix3 0 c l))) (AttnMath.value (τ' R) R.val (fun c => x2 (ix3 0 c l))) := by
  generalize hy : (ix3 0 R l : S1x2048x128.Idx) = y
  unfold out0_3
  canon_tiles x h
  all_goals subst hy
  · obtain ⟨z, r, l', rfl⟩ : ∃ (a : Fin 1) (b : Fin 512) (c : Fin 128), x = ix3 a b c := ⟨x 0, x 1, x 2, eq_ix3 x⟩
    obtain rfl : z = 0 := Subsingleton.elim _ _
    obtain rfl : R = ⟨1536 + r.val, Nat.lt_of_lt_of_le (Nat.add_lt_add_left r.isLt 1536) (by norm_num)⟩ := Fin.ext h1
    obtain rfl : l = l' := Fin.ext h2
    rw [block3]
    exact congrArg₂ (pick l) (later_tile _ _ x0 x1 x2 _ hσ 1536 0 (by norm_num) _ _ _ _ _ r l (by intro r d; pointwise) (by intro r d; pointwise) (by intro r d; pointwise) (by intro r d; pointwise) (by intro r d; pointwise))
      (later_tile _ _ x0 x1 x2 _ hτ 1536 0 (by norm_num) _ _ _ _ _ r l (by intro r d; pointwise) (by intro r d; pointwise) (by intro r d; pointwise) (by intro r d; pointwise) (by intro r d; pointwise))
  · obtain ⟨z, r, l', rfl⟩ : ∃ (a : Fin 1) (b : Fin 512) (c : Fin 128), x = ix3 a b c := ⟨x 0, x 1, x 2, eq_ix3 x⟩
    obtain rfl : z = 0 := Subsingleton.elim _ _
    obtain rfl : R = ⟨1024 + r.val, Nat.lt_of_lt_of_le (Nat.add_lt_add_left r.isLt 1024) (by norm_num)⟩ := Fin.ext h1
    obtain rfl : l = l' := Fin.ext h2
    rw [block2]
    exact congrArg₂ (pick l) (later_tile _ _ x0 x1 x2 _ hσ 1024 512 (by norm_num) _ _ _ _ _ r l (by intro r d; pointwise) (by intro r d; pointwise) (by intro r d; pointwise) (by intro r d; pointwise) (by intro r d; pointwise))
      (later_tile _ _ x0 x1 x2 _ hτ 1024 512 (by norm_num) _ _ _ _ _ r l (by intro r d; pointwise) (by intro r d; pointwise) (by intro r d; pointwise) (by intro r d; pointwise) (by intro r d; pointwise))
  · obtain ⟨z, r, l', rfl⟩ : ∃ (a : Fin 1) (b : Fin 512) (c : Fin 128), x = ix3 a b c := ⟨x 0, x 1, x 2, eq_ix3 x⟩
    obtain rfl : z = 0 := Subsingleton.elim _ _
    obtain rfl : R = ⟨512 + r.val, Nat.lt_of_lt_of_le (Nat.add_lt_add_left r.isLt 512) (by norm_num)⟩ := Fin.ext h1
    obtain rfl : l = l' := Fin.ext h2
    rw [block1]
    exact congrArg₂ (pick l) (later_tile _ _ x0 x1 x2 _ hσ 512 1024 (by norm_num) _ _ _ _ _ r l (by intro r d; pointwise) (by intro r d; pointwise) (by intro r d; pointwise) (by intro r d; pointwise) (by intro r d; pointwise))
      (later_tile _ _ x0 x1 x2 _ hτ 512 1024 (by norm_num) _ _ _ _ _ r l (by intro r d; pointwise) (by intro r d; pointwise) (by intro r d; pointwise) (by intro r d; pointwise) (by intro r d; pointwise))
  · obtain ⟨z, r, l', rfl⟩ : ∃ (a : Fin 1) (b : Fin 512) (c : Fin 128), x = ix3 a b c := ⟨x 0, x 1, x 2, eq_ix3 x⟩
    obtain rfl : z = 0 := Subsingleton.elim _ _
    obtain rfl : R = ⟨r.val, Nat.lt_of_lt_of_le r.isLt (by norm_num)⟩ := Fin.ext h1
    obtain rfl : l = l' := Fin.ext h2
    rw [block0]
    exact congrArg₂ (pick l) (first_tile _ _ x0 x1 x2 _ hσ _ _ _ r l (by intro r d; pointwise) (by intro r d; pointwise) (by intro r d; pointwise))
      (first_tile _ _ x0 x1 x2 _ hτ _ _ _ r l (by intro r d; pointwise) (by intro r d; pointwise) (by intro r d; pointwise))

end Cert.KernelIdeal.Attn

end
-- ==== Proof.AttnRef.lean ====
/-
  The attention call's reference at an element: `AttnMath.whole` of the query's products with the keys of its head.
-/
module

public import proofs.«01_k».proof.Proof.Gen.ReferenceIdeal.Read
public import proofs.«01_k».proof.Proof.AttnMath
public import Idealize.ShloMosaic.Lib.Pointwise

@[expose] public section

noncomputable section

open Idealize.ShloMosaic Idealize.ShloMosaic.TcCoe Idealize.SL.Sem

namespace Cert.ReferenceIdeal.Attn
open Cert.ReferenceIdeal Cert.ReferenceIdeal.Gen Cert.ReferenceIdeal.Read

/-- The product of query `i` with key `c` in head `h`. -/
def prod (x0 x1 : FVec Ideal S32x2048x1024 .bf16) (b : Fin 32) (h : Fin 8) (i c : Fin 2048) : EReal :=
  ∑ d : Fin 128, x0 (ix3 b i ⟨h.val * 128 + d.val, by omega⟩) * x1 (ix3 b c ⟨h.val * 128 + d.val, by omega⟩)

/-- The reference's products of queries and keys. -/
theorem prod_apply (x0 x1 : FVec Ideal S32x2048x1024 .bf16) (b : Fin 32) (h : Fin 8) (i c : Fin 2048) :
    val_main_v6 (F := Ideal) x0 x1 (ix4 b h i c) = prod x0 x1 b h i c := by
  unfold val_main_v6 val_main_v3 val_main_v2 val_main_v1 val_main_v0
  pointwise [prod]

/-- The reference's logarithm of the word for 2 is the real number log 2. -/
theorem log_two : Ideal.log (Ideal.ofBits .f32 0x40000000#32) = ((Real.log 2 : ℝ) : EReal) := by
  have e : Ideal.ofBits .f32 0x40000000#32 = ((2 : ℝ) : EReal) := by
    show Ideal.ieee 8 23 (0x40000000#32) = ((2 : ℝ) : EReal)
    have hex : (BitVec.toNat (0x40000000#32) >>> 23) % 2 ^ 8 = 128 := by decide
    have hneg : (0x40000000#32 : BitVec 32).msb = false := by decide
    unfold Ideal.ieee
    simp [hex, hneg]
    rw [← EReal.coe_mul]
    norm_num
  rw [e, Ideal.log_coe, if_neg (by norm_num)]

/-- The masked logits. -/
theorem logit_apply (x0 x1 : FVec Ideal S32x2048x1024 .bf16) (b : Fin 32) (h : Fin 8) (i c : Fin 2048) :
    val_main_v17 (F := Ideal) x0 x1 (ix4 b h i c) = AttnMath.masked i.val (fun c => prod x0 x1 b h i c * (Real.log 2 : ℝ)) c := by
  have hp := prod_apply x0 x1 b h i
  unfold val_main_v17 val_main_v10 val_main_call0_v1 val_main_call0_v2 val_main_call0_v0 val_main_cst_0 val_main_v16 val_main_v15 val_main_v14
    val_main_v13 val_main_v12 val_main_v11 val_main_v9 val_main_v8 val_main_v7 val_main_cst
  generalize val_main_v6 (F := Ideal) x0 x1 = p at hp ⊢
  have e1 : (id (Host.log (constant (F := Ideal) S_ .f32 0x40000000#32)) : FVec Ideal S_ .f32) ix0 = ((Real.log 2 : ℝ) : EReal) := log_two
  have e2 : (id (constant (F := Ideal) S_ .f32 0xFF800000#32) : FVec Ideal S_ .f32) ix0 = AttnMath.neg := rfl
  pointwise [AttnMath.masked]
  rw [hp, e1, e2]

/-- The greatest masked logit of a row. -/
theorem max_apply (x0 x1 : FVec Ideal S32x2048x1024 .bf16) (b : Fin 32) (h : Fin 8) (i : Fin 2048) :
    val_main_v18 (F := Ideal) x0 x1 (ix3 b h i) = AttnMath.top (AttnMath.masked i.val (fun c => prod x0 x1 b h i c * (Real.log 2 : ℝ))) := by
  have hl := logit_apply x0 x1 b h i
  unfold val_main_v18 val_main_cst_1
  generalize val_main_v17 (F := Ideal) x0 x1 = p at hl ⊢
  have e : AttnMath.masked i.val (fun c => prod x0 x1 b h i c * (Real.log 2 : ℝ)) = fun c => p (ix4 b h i c) := (funext hl).symm
  pointwise [AttnMath.top, e]
  rfl

/-- The exponentials. -/
theorem exp_apply (x0 x1 : FVec Ideal S32x2048x1024 .bf16) (b : Fin 32) (h : Fin 8) (i c : Fin 2048) :
    val_main_v24 (F := Ideal) x0 x1 (ix4 b h i c) =
      Ideal.exp (val_main_v17 (F := Ideal) x0 x1 (ix4 b h i c) - max AttnMath.neg (val_main_v18 (F := Ideal) x0 x1 (ix3 b h i))) := by
  rw [val_main_v24_apply, val_main_v23_apply, val_main_v22_apply, val_main_v21_apply, val_main_v20_apply, val_main_v19_apply, val_main_cst_2_apply]
  have e : idx_main_v21 (idx_main_v22 (ix4 b h i c)) = ix3 b h i := by
    funext a
    match a with
    | 0 => rfl
    | 1 => rfl
    | 2 => rfl
  rw [e]
  generalize val_main_v17 (F := Ideal) x0 x1 (ix4 b h i c) = p
  generalize val_main_v18 (F := Ideal) x0 x1 (ix3 b h i) = q
  rfl

/-- Their sum along a row. -/
theorem sum_apply (x0 x1 : FVec Ideal S32x2048x1024 .bf16) (b : Fin 32) (h : Fin 8) (i : Fin 2048) :
    val_main_v25 (F := Ideal) x0 x1 (ix3 b h i) = ∑ c : Fin 2048, val_main_v24 (F := Ideal) x0 x1 (ix4 b h i c) := by
  unfold val_main_v25 val_main_cst_3
  generalize val_main_v24 (F := Ideal) x0 x1 = p
  pointwise

/-- The weights. -/
theorem weight_apply (x0 x1 : FVec Ideal S32x2048x1024 .bf16) (b : Fin 32) (h : Fin 8) (i c : Fin 2048) :
    val_main_v30 (F := Ideal) x0 x1 (ix4 b h i c) =
      Ideal.div (val_main_v24 (F := Ideal) x0 x1 (ix4 b h i c)) (val_main_v25 (F := Ideal) x0 x1 (ix3 b h i)) := by
  unfold val_main_v30 val_main_v29 val_main_v28 val_main_v27 val_main_v26
  generalize val_main_v24 (F := Ideal) x0 x1 = p
  generalize val_main_v25 (F := Ideal) x0 x1 = q
  pointwise

/-- The values weighted and summed. -/
theorem dot_apply (x0 x1 : FVec Ideal S32x2048x1024 .bf16) (x2 : FVec Ideal S32x2048x512 .bf16) (b : Fin 32) (h : Fin 8) (i : Fin 2048) (d : Fin 64) :
    val_main_v31 (F := Ideal) x0 x1 x2 (ix4 b h d i) =
      ∑ c : Fin 2048, x2 (ix3 b c ⟨h.val * 64 + d.val, by omega⟩) * val_main_v30 (F := Ideal) x0 x1 (ix4 b h i c) := by
  unfold val_main_v31 val_main_v5 val_main_v4
  generalize val_main_v30 (F := Ideal) x0 x1 = p
  pointwise

/-- The reference's result: in head `h`, column `d` of the head. -/
theorem result_apply (x0 x1 : FVec Ideal S32x2048x1024 .bf16) (x2 : FVec Ideal S32x2048x512 .bf16) (b : Fin 32) (h : Fin 8) (i : Fin 2048) (d : Fin 64) :
    val_main_v31 (F := Ideal) x0 x1 x2 (ix4 b h d i) = AttnMath.whole i.val (fun c => prod x0 x1 b h i c * (Real.log 2 : ℝ))
      (fun c => x2 (ix3 b c ⟨h.val * 64 + d.val, by omega⟩)) := by
  simp only [dot_apply, weight_apply, sum_apply, exp_apply, logit_apply, max_apply, AttnMath.whole]

/-- The reference's result array. -/
theorem out_apply (x0 x1 : FVec Ideal S32x2048x1024 .bf16) (x2 : FVec Ideal S32x2048x512 .bf16) (b : Fin 32) (i : Fin 2048) (l : Fin 512) :
    val_main_v34 (F := Ideal) x0 x1 x2 (ix3 b i l) =
      AttnMath.whole i.val (fun c => prod x0 x1 b ⟨l.val / 64, by omega⟩ i c * (Real.log 2 : ℝ)) (fun c => x2 (ix3 b c l)) := by
  have h := result_apply x0 x1 x2 b ⟨l.val / 64, by omega⟩ i ⟨l.val % 64, by omega⟩
  have e : (⟨l.val / 64 * 64 + l.val % 64, by omega⟩ : Fin 512) = l := Fin.ext (by simp only; omega)
  simp only [e] at h
  rw [← h]
  unfold val_main_v34 val_main_v33 val_main_v32
  generalize val_main_v31 (F := Ideal) x0 x1 x2 = y
  pointwise

end Cert.ReferenceIdeal.Attn

end
-- ==== Proof.AttnFinal.lean ====
/-
  The attention call's result array after the run, from finite products of queries and keys: for every sequence,
  position and column the weighted mean `AttnMath.value` of the column's values, weighted for the column's head.
-/
module

public import proofs.«01_k».proof.Proof.AttnOut
public import proofs.«01_k».proof.Proof.AttnRef

@[expose] public section

noncomputable section

open Idealize.ShloMosaic Idealize.ShloMosaic.TcCoe Idealize.SL.Sem
open Idealize.ShloMosaic.Pipeline (Dat)

namespace Cert.KernelIdeal.Attn
open Cert.KernelIdeal Cert.KernelIdeal.Gen

variable (m : (ℓ : Loc nD τ sig) → Buf (Elt Ideal) ℓ)

/-- The result, from the products `σ` (sequence, head, query, key). -/
def G (c : Dev nD) (σ : Fin 32 → Fin 8 → Fin 2048 → Fin 2048 → ℝ) : Buf (Elt Ideal) ((c : Thread nD τ).loc main_v0) := fun i =>
  AttnMath.value (σ (i 0) ⟨(i 2).val / 64, by have : (i 2).val < 512 := (i 2).isLt; omega⟩ (i 1)) (i 1).val
    (fun x => m ((c : Thread nD τ).loc main_arg2) (ix3 (i 0) x (i 2)))

/-- Which block of its array each window holds at a grid point. -/
theorem index : ∀ t : Fin grid0.N, win0_0.index t = ![t.val / 4, 0, t.val % 4] ∧ win0_1.index t = ![t.val / 4, 0, t.val % 4]
    ∧ win0_2.index t = ![t.val / 4, 0, t.val % 4] ∧ win0_3.index t = ![t.val / 4, 0, t.val % 4] := by decide +kernel

/-- The choice between the two heads of a block, as a choice of numbers. -/
theorem pick_eq (l : Fin 128) (a b : EReal) : pick l a b = if l.val < 64 then a else b := by
  have e : IntOp.cmpi .slt (BitVec.ofNat 32 l.val) 64#32 = BitVec.ofBool (decide (l.val < 64)) := by
    revert l
    decide +kernel
  unfold pick
  rw [e]
  by_cases h : l.val < 64 <;> simp [Scalar.select, h]

set_option maxHeartbeats 1000000 in
/-- The result array after the run. -/
theorem final (c : Dev nD) (σ : Fin 32 → Fin 8 → Fin 2048 → Fin 2048 → ℝ)
    (hσ : ∀ b h i j, Cert.ReferenceIdeal.Attn.prod (m ((c : Thread nD τ).loc main_arg0)) (m ((c : Thread nD τ).loc main_arg1)) b h i j = σ b h i j) :
    (dats m 0 c).arrAt 3 cfg0.N = G m c σ := by
  refine (dats m 0 c).arrAt_eq_of_covers 3 _ (by decide +kernel) fun t hf y => ?_
  blk_simp
  rw [after0_3]
  have ht : t.val < 128 := by have := t.isLt; have : cfg0.grid.N = 128 := N_0; omega
  obtain ⟨z, R, l, rfl⟩ : ∃ (a : Fin 1) (b : Fin 2048) (d : Fin 128), y = ix3 a b d := ⟨y 0, y 1, y 2, eq_ix3 y⟩
  obtain rfl : z = 0 := Subsingleton.elim _ _
  have e0 : ∀ (r : Fin 2048) (k : Fin 256), iblk m c 0 t (ix3 0 r k) = m ((c : Thread nD τ).loc main_arg0) (ix3 ⟨t.val / 4, by omega⟩ r ⟨t.val % 4 * 256 + k.val, by omega⟩) := by
    intro r k
    blk_ext! [iblk, V, index t]
  have e1 : ∀ (r : Fin 2048) (k : Fin 256), iblk m c 1 t (ix3 0 r k) = m ((c : Thread nD τ).loc main_arg1) (ix3 ⟨t.val / 4, by omega⟩ r ⟨t.val % 4 * 256 + k.val, by omega⟩) := by
    intro r k
    blk_ext! [iblk, V, index t]
  have e2 : ∀ (r : Fin 2048) (k : Fin 128), iblk m c 2 t (ix3 0 r k) = m ((c : Thread nD τ).loc main_arg2) (ix3 ⟨t.val / 4, by omega⟩ r ⟨t.val % 4 * 128 + k.val, by omega⟩) := by
    intro r k
    blk_ext! [iblk, V, index t]
  have ei : ((View.whole main_v0).slice (win0_3.rect t)).emb (ix3 0 R l) = ix3 ⟨t.val / 4, by omega⟩ R ⟨t.val % 4 * 128 + l.val, by omega⟩ := by
    blk_ext! [index t]
  have h0 : ∀ i j, full 0 (by omega) (iblk m c 0 t) (iblk m c 1 t) i j = σ ⟨t.val / 4, by omega⟩ ⟨2 * (t.val % 4), by omega⟩ i j := by
    intro i j
    rw [← hσ]
    unfold full Cert.ReferenceIdeal.Attn.prod
    refine Finset.sum_congr rfl fun d _ => ?_
    rw [e0, e1]
    have e : t.val % 4 * 256 + (0 + d.val) = 2 * (t.val % 4) * 128 + d.val := by omega
    simp only [e]
  have h1 : ∀ i j, full 128 (by omega) (iblk m c 0 t) (iblk m c 1 t) i j = σ ⟨t.val / 4, by omega⟩ ⟨2 * (t.val % 4) + 1, by omega⟩ i j := by
    intro i j
    rw [← hσ]
    unfold full Cert.ReferenceIdeal.Attn.prod
    refine Finset.sum_congr rfl fun d _ => ?_
    rw [e0, e1]
    have e : t.val % 4 * 256 + (128 + d.val) = (2 * (t.val % 4) + 1) * 128 + d.val := by omega
    simp only [e]
  have key := out_apply (iblk m c 0 t) (iblk m c 1 t) (iblk m c 2 t) _ _ h0 h1 R l
  rw [pick_eq] at key
  simp only [e2] at key
  refine key.trans ?_
  rw [ei]
  by_cases hl : l.val < 64
  · rw [if_pos hl]
    have e : (t.val % 4 * 128 + l.val) / 64 = 2 * (t.val % 4) := by omega
    show _ = AttnMath.value (σ ⟨t.val / 4, _⟩ ⟨(t.val % 4 * 128 + l.val) / 64, _⟩ R) R.val _
    simp only [e]
    rfl
  · rw [if_neg hl]
    have e : (t.val % 4 * 128 + l.val) / 64 = 2 * (t.val % 4) + 1 := by omega
    show _ = AttnMath.value (σ ⟨t.val / 4, _⟩ ⟨(t.val % 4 * 128 + l.val) / 64, _⟩ R) R.val _
    simp only [e]
    rfl

end Cert.KernelIdeal.Attn

end
-- ==== Proof.AttnClaims.lean ====
/-
  The claim about the attention call: with every query and key a real number, its result and the reference's are equal.
-/
module

public import proofs.«01_k».proof.Defs
public import proofs.«01_k».proof.Proof.AttnFinal
public import proofs.«01_k».proof.Proof.Gen.Pre_finite_qk
public import proofs.«01_k».proof.Proof.Gen.ReferenceIdeal.Run
public import Idealize.ShloMosaic.Adequacy
public import Idealize.ShloMosaic.Init

@[expose] public section

noncomputable section

open Idealize.ShloMosaic Idealize.ShloMosaic.TcCoe Idealize.SL.Sem

namespace Cert.Attn

/-- An extended real whose absolute value is below infinity is neither infinity. -/
theorem finite_of_abs {φ : FTy} (x : Ideal φ) (h : FloatOps.cmpf .olt (FloatOps.absf (F := Ideal) (φ := .f32) x) (Ideal.ofBits .f32 0x7F800000#32) = 1#1) :
    (x : EReal) ≠ ⊥ ∧ (x : EReal) ≠ ⊤ := by
  have e : Ideal.ofBits .f32 0x7F800000#32 = (⊤ : EReal) := by
    show Ideal.ieee 8 23 (0x7F800000#32) = ⊤
    have h1 : (BitVec.toNat (0x7F800000#32) >>> 23) % 2 ^ 8 = 255 := by decide
    unfold Ideal.ieee
    simp [h1]
  rw [e] at h
  have hlt : max (x : EReal) (-x) < ⊤ := by
    by_contra hn
    have h' : BitVec.ofBool (decide (max (x : EReal) (-x) < ⊤)) = 1#1 := h
    rw [decide_eq_false hn] at h'
    exact absurd h' (by decide)
  constructor <;> rintro rfl <;> simp at hlt

/-- What the precondition says of a query or key. -/
theorem finite_of_fn (q k : FVec Ideal Cert.Pre_finite_qk.S32x2048x1024 .bf16) (v : FVec Ideal Cert.Pre_finite_qk.S32x2048x512 .bf16)
    [Cert.Pre_finite_qk.Facts] (h : (Cert.Pre_finite_qk.fn (F := Ideal) q k v).1 = fun _ => 1#1) (h' : (Cert.Pre_finite_qk.fn (F := Ideal) q k v).2 = fun _ => 1#1) (i) :
    ((q i : EReal) ≠ ⊥ ∧ (q i : EReal) ≠ ⊤) ∧ ((k i : EReal) ≠ ⊥ ∧ (k i : EReal) ≠ ⊤) :=
  ⟨finite_of_abs (q i) (congrFun h i), finite_of_abs (k i) (congrFun h' i)⟩

/-- The reference's result, from the kernel's arguments, is `G` of the products. -/
theorem reference_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : (m' ((c : Thread Cert.ReferenceIdeal.nD Cert.ReferenceIdeal.τ).loc Cert.ReferenceIdeal.main_arg0)) = (m ((c : Thread Cert.KernelIdeal.nD Cert.KernelIdeal.τ).loc Cert.KernelIdeal.main_arg0)))
    (h1 : (m' ((c : Thread Cert.ReferenceIdeal.nD Cert.ReferenceIdeal.τ).loc Cert.ReferenceIdeal.main_arg1)) = (m ((c : Thread Cert.KernelIdeal.nD Cert.KernelIdeal.τ).loc Cert.KernelIdeal.main_arg1)))
    (h2 : (m' ((c : Thread Cert.ReferenceIdeal.nD Cert.ReferenceIdeal.τ).loc Cert.ReferenceIdeal.main_arg2)) = (m ((c : Thread Cert.KernelIdeal.nD Cert.KernelIdeal.τ).loc Cert.KernelIdeal.main_arg2)))
    (σ : Fin 32 → Fin 8 → Fin 2048 → Fin 2048 → ℝ)
    (hσ : ∀ b h i j, Cert.ReferenceIdeal.Attn.prod (m ((c : Thread Cert.KernelIdeal.nD Cert.KernelIdeal.τ).loc Cert.KernelIdeal.main_arg0)) (m ((c : Thread Cert.KernelIdeal.nD Cert.KernelIdeal.τ).loc Cert.KernelIdeal.main_arg1)) b h i j = σ b h i j) :
    Cert.ReferenceIdeal.Read.val_main_v34 (F := Ideal) (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1))
      (m' ((c : Thread Cert.ReferenceIdeal.nD Cert.ReferenceIdeal.τ).loc Cert.ReferenceIdeal.main_arg2)) = Cert.KernelIdeal.Attn.G m c σ := by
  rw [h0, h1, h2]
  funext i
  obtain ⟨b, r, l, rfl⟩ : ∃ a b c, i = ix3 a b c := ⟨i 0, i 1, i 2, eq_ix3 i⟩
  refine (Cert.ReferenceIdeal.Attn.out_apply _ _ _ b r l).trans ?_
  simp only [hσ]
  exact AttnMath.whole_eq (σ b ⟨l.val / 64, by have : l.val < 512 := l.isLt; omega⟩ r) r.val _ (le_refl _) r.isLt

/-- The products are real numbers. -/
theorem exists_products (m : (ℓ : Loc Cert.KernelIdeal.nD Cert.KernelIdeal.τ Cert.KernelIdeal.sig) → Buf (Elt Ideal) ℓ)
    (hm : Cert.Pre_KernelIdeal_finite_qk (hPre_finite_qk := Cert.Pre_finite_qk.Gen.facts) m) (c : Dev Cert.KernelIdeal.nD) :
    ∃ σ : Fin 32 → Fin 8 → Fin 2048 → Fin 2048 → ℝ,
      ∀ b h i j, Cert.ReferenceIdeal.Attn.prod (m ((c : Thread Cert.KernelIdeal.nD Cert.KernelIdeal.τ).loc Cert.KernelIdeal.main_arg0)) (m ((c : Thread Cert.KernelIdeal.nD Cert.KernelIdeal.τ).loc Cert.KernelIdeal.main_arg1)) b h i j = σ b h i j := by
  have hf := finite_of_fn _ _ _ (hm c).1 (hm c).2
  have h : ∀ b h i j, ∃ z : ℝ, Cert.ReferenceIdeal.Attn.prod (m ((c : Thread Cert.KernelIdeal.nD Cert.KernelIdeal.τ).loc Cert.KernelIdeal.main_arg0)) (m ((c : Thread Cert.KernelIdeal.nD Cert.KernelIdeal.τ).loc Cert.KernelIdeal.main_arg1)) b h i j = z :=
    fun b h i j => AttnMath.exists_real _ _ (fun _ => (hf _).1) (fun _ => (hf _).2)
  choose σ hσ using h
  exact ⟨σ, hσ⟩

/-- With finite queries and keys the call's result and the reference's are equal. -/
theorem algebraic : Cert.algebraic_KernelIdeal_ReferenceIdeal_pre_finite_qk (hKernelIdeal := Cert.KernelIdeal.Gen.facts)
    (hReferenceIdeal := Cert.ReferenceIdeal.Gen.facts) (hPre_finite_qk := Cert.Pre_finite_qk.Gen.facts) := by
  intro m ρ m' ρ' hm hagree
  choose σ hσ using exists_products m hm
  refine ⟨fun c => Cert.KernelIdeal.Attn.G m c (σ c), ?_, ?_⟩
  · exact (θ_run Cert.KernelIdeal.defs _ _).mono (fun r h c => ⟨(h c).1.trans (Cert.KernelIdeal.Attn.final m c (σ c) (hσ c)), (h c).2⟩)
      (Cert.KernelIdeal.Value.run_blocks m ρ)
  · refine (θ_run Cert.ReferenceIdeal.defs _ _).mono (fun r h c => ?_) (Cert.ReferenceIdeal.Value.run (F := Ideal) m' ρ')
    obtain ⟨h0, h1, h2⟩ := hagree c
    exact ⟨(h c).1.trans ((Cert.ReferenceIdeal.Read.val_main_v34_eq _ _).trans (reference_value m m' c h0 h1 h2 (σ c) (hσ c))), (h c).2⟩

end Cert.Attn

end
-- ==== Proof.FfnMath.lean ====
/-
  The mathematics of the feed-forward half step, over the extended reals and free of any program: one row of
  `x + 1/2 · SwiGLU(RMSNorm(x))`, once with the hidden units added in eleven runs of 256 and the half folded into the
  down projection's weights (as the kernels do), once as one sum that is halved afterwards (as the reference does).
-/
module

public import Idealize.ShloMosaic.Lib.Pointwise
public import Mathlib.Data.EReal.Operations

@[expose] public section

noncomputable section

open Idealize.ShloMosaic

namespace FfnMath

/-- The width 1024 of a row, as the programs' constant. -/
abbrev width : EReal := Ideal.ofBits .f32 0x44800000#32
/-- The norm's small constant. -/
abbrev eps : EReal := Ideal.ofBits .f32 0x358637BD#32
/-- The residual weight 1/2. -/
abbrev half : EReal := Ideal.ofBits .f32 0x3F000000#32

/-- An element `x` of a row, plus a contraction over the first head group and one over the second. -/
def mixed {a b : ℕ} (x : EReal) (u w : Fin a → EReal) (v z : Fin b → EReal) : EReal :=
  x + ((∑ k, u k * w k) + ∑ k, v k * z k)

/-- The row `x` divided by its root mean square, times the gain `g`. -/
def normRow (x g : Fin 1024 → EReal) (i : Fin 1024) : EReal :=
  x i * Ideal.rsqrt (Ideal.div (∑ k, x k * x k) width + eps) * g i

/-- One hidden unit: `silu(h·a) · (h·b)`. -/
def hid (h a b : Fin 1024 → EReal) : EReal :=
  (∑ i, h i * a i) * Ideal.logistic (∑ i, h i * a i) * ∑ i, h i * b i

/-- One element of the half step's row, the down projection's weights `D` already halved. -/
def rowScaled (x g : Fin 1024 → EReal) (G U : Fin 1024 → Fin 2816 → EReal) (D : Fin 2816 → EReal) (l : Fin 1024) : EReal :=
  x l + ∑ k, hid (normRow x g) (fun i => G i k) (fun i => U i k) * D k

/-- One element of the half step's row: the hidden units' sum is halved. -/
def row (x g : Fin 1024 → EReal) (G U : Fin 1024 → Fin 2816 → EReal) (D : Fin 2816 → EReal) (l : Fin 1024) : EReal :=
  x l + half * ∑ k, hid (normRow x g) (fun i => G i k) (fun i => U i k) * D k

/-- The constant 1/2 is a nonnegative number. -/
theorem half_nonneg : 0 ≤ half ∧ half ≠ ⊤ := by
  show 0 ≤ Ideal.ieee 8 23 (0x3F000000#32) ∧ Ideal.ieee 8 23 (0x3F000000#32) ≠ ⊤
  have hex : ((0x3F000000#32 : BitVec 32).extractLsb' 23 8).toNat = 126 := by decide
  have hneg : ((0x3F000000#32 : BitVec 32).extractLsb' (8 + 23) 1 == 1#1) = false := by decide
  unfold Ideal.ieee
  simp only [hex, hneg]
  norm_num

/-- A nonnegative finite factor goes into a finite sum of extended reals. -/
theorem mul_sum {ι : Type} (s : Finset ι) (f : ι → EReal) {a : EReal} (h0 : 0 ≤ a) (ht : a ≠ ⊤) :
    a * ∑ k ∈ s, f k = ∑ k ∈ s, a * f k := by
  classical
  induction s using Finset.induction_on with
  | empty => simp
  | insert i s hi ih =>
    rw [Finset.sum_insert hi, Finset.sum_insert hi, EReal.left_distrib_of_nonneg_of_ne_top h0 ht, ih]

/-- Halving the weights is halving the sum. -/
theorem rowScaled_eq (x g : Fin 1024 → EReal) (G U : Fin 1024 → Fin 2816 → EReal) (D : Fin 2816 → EReal) (l : Fin 1024) :
    rowScaled x g G U (fun k => half * D k) l = row x g G U D l := by
  unfold rowScaled row
  rw [mul_sum _ _ half_nonneg.1 half_nonneg.2]
  exact congrArg (x l + ·) (Finset.sum_congr rfl fun k _ => mul_left_comm _ _ _)

/-- A sum over 2816 is eleven sums over runs of 256, added one after the other. -/
theorem sum_chunks (f : Fin 2816 → EReal) (a : EReal) :
    a + (∑ x : Fin 256, f ⟨x.val, by omega⟩) + (∑ x : Fin 256, f ⟨256 + x.val, by omega⟩)
      + (∑ x : Fin 256, f ⟨512 + x.val, by omega⟩) + (∑ x : Fin 256, f ⟨768 + x.val, by omega⟩)
      + (∑ x : Fin 256, f ⟨1024 + x.val, by omega⟩) + (∑ x : Fin 256, f ⟨1280 + x.val, by omega⟩)
      + (∑ x : Fin 256, f ⟨1536 + x.val, by omega⟩) + (∑ x : Fin 256, f ⟨1792 + x.val, by omega⟩)
      + (∑ x : Fin 256, f ⟨2048 + x.val, by omega⟩) + (∑ x : Fin 256, f ⟨2304 + x.val, by omega⟩)
      + (∑ x : Fin 256, f ⟨2560 + x.val, by omega⟩) = a + ∑ k, f k := by
  have h : ∑ k, f k = ∑ c : Fin 11, ∑ x : Fin 256, f ⟨256 * c.val + x.val, by omega⟩ := by
    rw [← Equiv.sum_comp (finProdFinEquiv : Fin 11 × Fin 256 ≃ Fin 2816) f, Fintype.sum_prod_type]
    refine Finset.sum_congr rfl fun c _ => Finset.sum_congr rfl fun x _ => congrArg f (Fin.ext ?_)
    show x.val + 256 * c.val = 256 * c.val + x.val
    omega
  rw [h]
  have e (g : Fin 11 → EReal) : a + ∑ c, g c = a + g 0 + g 1 + g 2 + g 3 + g 4 + g 5 + g 6 + g 7 + g 8 + g 9 + g 10 := by
    simp only [Fin.sum_univ_succ, Fin.sum_univ_zero, add_zero, ← add_assoc]
    rfl
  rw [e]
  simp only [Fin.isValue, Fin.val_zero, Fin.val_one, Nat.mul_zero, Nat.zero_add, Nat.mul_one]
  rfl

end FfnMath
end
-- ==== Proof.FfnRef.lean ====
/-
  The references of the three feed-forward calls at an element: row `r` of the result is `FfnMath.row` of row `r` of
  the input, which at a layer's end is first added to the output projection of the two head groups.
-/
module

public import proofs.«01_k».proof.Proof.Gen.Reference4Ideal.Read
public import proofs.«01_k».proof.Proof.Gen.Reference3Ideal.Read
public import proofs.«01_k».proof.Proof.Gen.Reference2Ideal.Read
public import proofs.«01_k».proof.Proof.FfnMath
public import Idealize.ShloMosaic.Lib.Pointwise

@[expose] public section

noncomputable section

open Idealize.ShloMosaic Idealize.ShloMosaic.TcCoe Idealize.SL.Sem

namespace Cert.Reference4Ideal.Ffn
open Cert.Reference4Ideal Cert.Reference4Ideal.Gen Cert.Reference4Ideal.Read

/-- The normalised row at an element. -/
theorem hidden_apply (x0 : FVec Ideal S65536x1024 .f32) (x1 : FVec Ideal S1024 .f32) (r : Fin 65536) (l : Fin 1024) :
    val_main_v12 (F := Ideal) x0 x1 (ix2 r l) = FfnMath.normRow (fun k => x0 (ix2 r k)) (fun k => x1 (ix1 k)) l := by
  unfold val_main_v12 val_main_v11 val_main_v10 val_main_v9 val_main_v8 val_main_v7 val_main_v6 val_main_v5 val_main_v4 val_main_v3 val_main_v2 val_main_v1 val_main_v0 val_main_cst val_main_cst_0 val_main_cst_1
  pointwise [FfnMath.normRow]

/-- The result at an element. -/
theorem result_apply (x0 : FVec Ideal S65536x1024 .f32) (x1 : FVec Ideal S1024 .f32) (x2 x3 : FVec Ideal S1024x2816 .f32)
    (x4 : FVec Ideal S2816x1024 .f32) (r : Fin 65536) (l : Fin 1024) :
    val_main_v20 (F := Ideal) x0 x1 x2 x3 x4 (ix2 r l) = FfnMath.row (fun k => x0 (ix2 r k)) (fun k => x1 (ix1 k))
      (fun i k => x2 (ix2 i k)) (fun i k => x3 (ix2 i k)) (fun k => x4 (ix2 k l)) l := by
  have hn := hidden_apply x0 x1 r
  unfold val_main_v20 val_main_v19 val_main_v18 val_main_v17 val_main_v16 val_main_v15 val_main_v14 val_main_call0_v5 val_main_call0_v4
    val_main_call0_v3 val_main_call0_v2 val_main_call0_v1 val_main_call0_v0 val_main_v13 val_main_call0_cst val_main_call0_cst_0 val_main_cst_2
  generalize val_main_v12 (F := Ideal) x0 x1 = h at hn ⊢
  have hn' : FfnMath.normRow (fun k => x0 (ix2 r k)) (fun k => x1 (ix1 k)) = fun i => h (ix2 r i) := (funext hn).symm
  pointwise [FfnMath.row, FfnMath.hid, hn']
  rfl

end Cert.Reference4Ideal.Ffn

namespace Cert.Reference2Ideal.Ffn
open Cert.Reference2Ideal Cert.Reference2Ideal.Gen Cert.Reference2Ideal.Read

/-- The layer's input with the output projection of the two head groups added, at an element. -/
theorem mix_apply (x0 : FVec Ideal S65536x1024 .f32) (x5 : FVec Ideal S65536x512 .bf16) (x6 : FVec Ideal S65536x512 .bf16) (x7 : FVec Ideal S1024x1024 .f32) (r : Fin 65536) (l : Fin 1024) :
    val_main_v4 (F := Ideal) x0 x5 x6 x7 (ix2 r l) = x0 (ix2 r l) + ((∑ k : Fin 512, x5 (ix2 r k) * x7 (ix2 ⟨k.val, by omega⟩ l))
      + ∑ k : Fin 512, x6 (ix2 r k) * x7 (ix2 ⟨512 + k.val, by omega⟩ l)) := by
  unfold val_main_v4 val_main_v3 val_main_v2 val_main_v1 val_main_v0
  pointwise

/-- The normalised row at an element. -/
theorem hidden_apply (x0 : FVec Ideal S65536x1024 .f32) (x1 : FVec Ideal S1024 .f32) (x5 : FVec Ideal S65536x512 .bf16) (x6 : FVec Ideal S65536x512 .bf16) (x7 : FVec Ideal S1024x1024 .f32) (r : Fin 65536) (l : Fin 1024) :
    val_main_v17 (F := Ideal) x0 x1 x5 x6 x7 (ix2 r l) = FfnMath.normRow (fun k => val_main_v4 (F := Ideal) x0 x5 x6 x7 (ix2 r k)) (fun k => x1 (ix1 k)) l := by
  unfold val_main_v17 val_main_v16 val_main_v15 val_main_v14 val_main_v13 val_main_v12 val_main_v11 val_main_v10 val_main_v9 val_main_v8 val_main_v7 val_main_v6 val_main_v5 val_main_cst val_main_cst_0 val_main_cst_1
  generalize val_main_v4 (F := Ideal) x0 x5 x6 x7 = x
  pointwise [FfnMath.normRow]

/-- The result at an element. -/
theorem result_apply (x0 : FVec Ideal S65536x1024 .f32) (x1 : FVec Ideal S1024 .f32) (x2 x3 : FVec Ideal S1024x2816 .f32)
    (x4 : FVec Ideal S2816x1024 .f32) (x5 : FVec Ideal S65536x512 .bf16) (x6 : FVec Ideal S65536x512 .bf16) (x7 : FVec Ideal S1024x1024 .f32) (r : Fin 65536) (l : Fin 1024) :
    val_main_v25 (F := Ideal) x0 x1 x2 x3 x4 x5 x6 x7 (ix2 r l) = FfnMath.row (fun k => val_main_v4 (F := Ideal) x0 x5 x6 x7 (ix2 r k)) (fun k => x1 (ix1 k))
      (fun i k => x2 (ix2 i k)) (fun i k => x3 (ix2 i k)) (fun k => x4 (ix2 k l)) l := by
  have hn := hidden_apply x0 x1 x5 x6 x7 r
  unfold val_main_v25 val_main_v24 val_main_v23 val_main_v22 val_main_v21 val_main_v20 val_main_v19 val_main_call0_v5 val_main_call0_v4
    val_main_call0_v3 val_main_call0_v2 val_main_call0_v1 val_main_call0_v0 val_main_v18 val_main_call0_cst val_main_call0_cst_0 val_main_cst_2
  generalize val_main_v17 (F := Ideal) x0 x1 x5 x6 x7 = h at hn ⊢
  generalize val_main_v4 (F := Ideal) x0 x5 x6 x7 = x at hn ⊢
  have hn' : FfnMath.normRow (fun k => x (ix2 r k)) (fun k => x1 (ix1 k)) = fun i => h (ix2 r i) := (funext hn).symm
  pointwise [FfnMath.row, FfnMath.hid, hn']
  rfl

end Cert.Reference2Ideal.Ffn

namespace Cert.Reference3Ideal.Ffn
open Cert.Reference3Ideal Cert.Reference3Ideal.Gen Cert.Reference3Ideal.Read

/-- The layer's input with the output projection of the two head groups added, at an element. -/
theorem mix_apply (x0 : FVec Ideal S65536x1024 .f32) (x5 : FVec Ideal S65536x1024 .bf16) (x6 : FVec Ideal S65536x512 .bf16) (x7 : FVec Ideal S1536x1024 .f32) (r : Fin 65536) (l : Fin 1024) :
    val_main_v4 (F := Ideal) x0 x5 x6 x7 (ix2 r l) = x0 (ix2 r l) + ((∑ k : Fin 1024, x5 (ix2 r k) * x7 (ix2 ⟨k.val, by omega⟩ l))
      + ∑ k : Fin 512, x6 (ix2 r k) * x7 (ix2 ⟨1024 + k.val, by omega⟩ l)) := by
  unfold val_main_v4 val_main_v3 val_main_v2 val_main_v1 val_main_v0
  pointwise

/-- The normalised row at an element. -/
theorem hidden_apply (x0 : FVec Ideal S65536x1024 .f32) (x1 : FVec Ideal S1024 .f32) (x5 : FVec Ideal S65536x1024 .bf16) (x6 : FVec Ideal S65536x512 .bf16) (x7 : FVec Ideal S1536x1024 .f32) (r : Fin 65536) (l : Fin 1024) :
    val_main_v17 (F := Ideal) x0 x1 x5 x6 x7 (ix2 r l) = FfnMath.normRow (fun k => val_main_v4 (F := Ideal) x0 x5 x6 x7 (ix2 r k)) (fun k => x1 (ix1 k)) l := by
  unfold val_main_v17 val_main_v16 val_main_v15 val_main_v14 val_main_v13 val_main_v12 val_main_v11 val_main_v10 val_main_v9 val_main_v8 val_main_v7 val_main_v6 val_main_v5 val_main_cst val_main_cst_0 val_main_cst_1
  generalize val_main_v4 (F := Ideal) x0 x5 x6 x7 = x
  pointwise [FfnMath.normRow]

/-- The result at an element. -/
theorem result_apply (x0 : FVec Ideal S65536x1024 .f32) (x1 : FVec Ideal S1024 .f32) (x2 x3 : FVec Ideal S1024x2816 .f32)
    (x4 : FVec Ideal S2816x1024 .f32) (x5 : FVec Ideal S65536x1024 .bf16) (x6 : FVec Ideal S65536x512 .bf16) (x7 : FVec Ideal S1536x1024 .f32) (r : Fin 65536) (l : Fin 1024) :
    val_main_v25 (F := Ideal) x0 x1 x2 x3 x4 x5 x6 x7 (ix2 r l) = FfnMath.row (fun k => val_main_v4 (F := Ideal) x0 x5 x6 x7 (ix2 r k)) (fun k => x1 (ix1 k))
      (fun i k => x2 (ix2 i k)) (fun i k => x3 (ix2 i k)) (fun k => x4 (ix2 k l)) l := by
  have hn := hidden_apply x0 x1 x5 x6 x7 r
  unfold val_main_v25 val_main_v24 val_main_v23 val_main_v22 val_main_v21 val_main_v20 val_main_v19 val_main_call0_v5 val_main_call0_v4
    val_main_call0_v3 val_main_call0_v2 val_main_call0_v1 val_main_call0_v0 val_main_v18 val_main_call0_cst val_main_call0_cst_0 val_main_cst_2
  generalize val_main_v17 (F := Ideal) x0 x1 x5 x6 x7 = h at hn ⊢
  generalize val_main_v4 (F := Ideal) x0 x5 x6 x7 = x at hn ⊢
  have hn' : FfnMath.normRow (fun k => x (ix2 r k)) (fun k => x1 (ix1 k)) = fun i => h (ix2 r i) := (funext hn).symm
  pointwise [FfnMath.row, FfnMath.hid, hn']
  rfl

end Cert.Reference3Ideal.Ffn

end
-- ==== Proof.FfnKernel2.lean ====
/-
  Program Kernel2 (the odd layer's last call) at the extended reals: what its result array holds after the run, as one
  function of the arguments (`G`): row `r` is `FfnMath.row` of row `r` of the input plus the output projection.
-/
module

public import proofs.«01_k».proof.Proof.Gen.Kernel2Ideal.Value
public import proofs.«01_k».proof.Proof.FfnMath
public import Idealize.ShloMosaic.Lib.Pipeline.ValueKit
public import Idealize.ShloMosaic.Lib.Pointwise

@[expose] public section

noncomputable section

open Idealize.ShloMosaic Idealize.ShloMosaic.TcCoe Idealize.SL.Sem
open Idealize.ShloMosaic.Pipeline (Dat)

namespace Cert.Kernel2Ideal.Ffn
open Cert.Kernel2Ideal Cert.Kernel2Ideal.Gen

variable (m : (ℓ : Loc nD τ sig) → Buf (Elt Ideal) ℓ)

/-- The input with the output projection of the two head groups added, at row `r` and column `l`. -/
def mix (c : Dev nD) (r : Fin 65536) (l : Fin 1024) : EReal :=
  FfnMath.mixed (m ((c : Thread nD τ).loc main_arg0) (ix2 r l))
    (fun k : Fin 512 => m ((c : Thread nD τ).loc main_arg5) (ix2 r k)) (fun k => m ((c : Thread nD τ).loc main_arg7) (ix2 ⟨k.val, by omega⟩ l))
    (fun k : Fin 512 => m ((c : Thread nD τ).loc main_arg6) (ix2 r k)) (fun k => m ((c : Thread nD τ).loc main_arg7) (ix2 ⟨512 + k.val, by omega⟩ l))

/-- The result: row by row the half step of the row. -/
def G (c : Dev nD) : Buf (Elt Ideal) ((c : Thread nD τ).loc main_v10) := fun i =>
  FfnMath.row (fun k => mix m c (i 0) k) (fun k => m ((c : Thread nD τ).loc main_arg1) (ix1 k))
    (fun i k => m ((c : Thread nD τ).loc main_arg2) (ix2 i k)) (fun i k => m ((c : Thread nD τ).loc main_arg3) (ix2 i k))
    (fun k => m ((c : Thread nD τ).loc main_arg4) (ix2 k (i 1))) (i 1)

/-- The mixed rows that a grid point starts from. -/
theorem mix_apply (x0 : Vec Ideal S1024x1024 .f32) (x5 : Vec Ideal S1024x512 .bf16) (x7 : Vec Ideal S512x1024 .bf16)
    (x6 : Vec Ideal S1024x512 .bf16) (x8 : Vec Ideal S512x1024 .bf16) (r l : Fin 1024) :
    k0_pay1 x0 x5 x7 x6 x8 (ix2 r l) = x0 (ix2 r l) + ((∑ k : Fin 512, x5 (ix2 r k) * x7 (ix2 k l)) + ∑ k : Fin 512, x6 (ix2 r k) * x8 (ix2 k l)) := by
  unfold_payloads
  pointwise

/-- The normalised rows that the kernel keeps for the chunks. -/
theorem norm_apply (x : FVec Ideal S1024x1024 .f32) (x1 : Vec Ideal S1x1024 .f32) (r l : Fin 1024) :
    k0_pay2 x x1 (ix2 r l) = FfnMath.normRow (fun k => x (ix2 r k)) (fun k => x1 (ix2 0 k)) l := by
  unfold_payloads
  pointwise [FfnMath.normRow]

/-- Which block of its array each window holds at a grid point. -/
theorem index : ∀ t : Fin grid0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] ∧ win0_7.index t = ![0, 0] ∧ win0_8.index t = ![0, 0] ∧ win0_9.index t = ![t.val, 0] := by decide +kernel

set_option maxHeartbeats 1000000 in
/-- The result array after the run. -/
theorem final (c : Dev nD) : (dats m 0 c).arrAt 9 cfg0.N = G m c := by
  refine (dats m 0 c).arrAt_eq_of_covers 9 _ (by decide +kernel) fun t hf y => ?_
  blk_simp
  rw [after0_9]
  unfold outsAt0
  frame_out
  obtain ⟨r, l, rfl⟩ : ∃ (a : Fin 1024) (b : Fin 1024), y = ix2 a b := ⟨y 0, y 1, eq_ix2 y⟩
  have e0 : ∀ r k : Fin 1024, iblk m c 0 t (ix2 r k) = m ((c : Thread nD τ).loc main_arg0) (ix2 ⟨t.val * 1024 + r.val, by have := t.isLt; have : cfg0.grid.N = 64 := N_0; omega⟩ k) := by
    intro r k
    blk_ext! [iblk, V, index t]
  have e1 : ∀ k : Fin 1024, iblk m c 1 t (ix2 0 k) = m ((c : Thread nD τ).loc main_arg1) (ix1 k) := by
    intro k
    blk_ext! [iblk, V, index t]
  have e2 : ∀ (i : Fin 1024) (k : Fin 2816), iblk m c 2 t (ix2 i k) = m ((c : Thread nD τ).loc main_arg2) (ix2 i k) := by
    intro i k
    blk_ext! [iblk, V, index t]
  have e3 : ∀ (i : Fin 1024) (k : Fin 2816), iblk m c 3 t (ix2 i k) = m ((c : Thread nD τ).loc main_arg3) (ix2 i k) := by
    intro i k
    blk_ext! [iblk, V, index t]
  have e4 : ∀ (k : Fin 2816) (l : Fin 1024), iblk m c 4 t (ix2 k l) = FfnMath.half * m ((c : Thread nD τ).loc main_arg4) (ix2 k l) := by
    intro i k
    blk_ext! [iblk, V, index t]
  have e5 : ∀ (r : Fin 1024) (k : Fin 512), iblk m c 5 t (ix2 r k) = m ((c : Thread nD τ).loc main_arg5) (ix2 ⟨t.val * 1024 + r.val, by have := t.isLt; have : cfg0.grid.N = 64 := N_0; omega⟩ k) := by
    intro r k
    blk_ext! [iblk, V, index t]
  have e6 : ∀ (r : Fin 1024) (k : Fin 512), iblk m c 6 t (ix2 r k) = m ((c : Thread nD τ).loc main_arg6) (ix2 ⟨t.val * 1024 + r.val, by have := t.isLt; have : cfg0.grid.N = 64 := N_0; omega⟩ k) := by
    intro r k
    blk_ext! [iblk, V, index t]
  have e7 : ∀ (k : Fin 512) (l : Fin 1024), iblk m c 7 t (ix2 k l) = m ((c : Thread nD τ).loc main_arg7) (ix2 ⟨k.val, by omega⟩ l) := by
    intro r k
    blk_ext! [iblk, V, index t]
  have e8 : ∀ (k : Fin 512) (l : Fin 1024), iblk m c 8 t (ix2 k l) = m ((c : Thread nD τ).loc main_arg7) (ix2 ⟨512 + k.val, by omega⟩ l) := by
    intro r k
    blk_ext! [iblk, V, index t]
  have ei : ((View.whole main_v10).slice (win0_9.rect t)).emb (ix2 r l) = ix2 ⟨t.val * 1024 + r.val, by have := t.isLt; have : cfg0.grid.N = 64 := N_0; omega⟩ l := by
    blk_ext! [index t]
  have eG : G m c (((View.whole main_v10).slice (win0_9.rect t)).emb (ix2 r l)) =
      FfnMath.row (fun k => (k0_pay1 (iblk m c 0 t) (iblk m c 5 t) (iblk m c 7 t) (iblk m c 6 t) (iblk m c 8 t)) (ix2 r k)) (fun k => iblk m c 1 t (ix2 0 k))
        (fun i k => iblk m c 2 t (ix2 i k)) (fun i k => iblk m c 3 t (ix2 i k)) (fun k => m ((c : Thread nD τ).loc main_arg4) (ix2 k l)) l := by
    simp only [e1, e2, e3, mix_apply, e0, e5, e6, e7, e8]
    rw [ei]
    rfl
  rw [eG, ← FfnMath.rowScaled_eq]
  simp only [← e4]
  clear e0 e1 e2 e3 e4 e5 e6 e7 e8 eG ei
  generalize k0_pay1 (iblk m c 0 t) (iblk m c 5 t) (iblk m c 7 t) (iblk m c 6 t) (iblk m c 8 t) = x0
  generalize iblk m c 1 t = x1
  generalize iblk m c 2 t = x2
  generalize iblk m c 3 t = x3
  generalize iblk m c 4 t = x4
  have hn := norm_apply x0 x1 r
  generalize k0_pay2 x0 x1 = h at hn ⊢
  have hn' : FfnMath.normRow (fun k => x0 (ix2 r k)) (fun k => x1 (ix2 0 k)) = fun i => h (ix2 r i) := (funext hn).symm
  unfold_payloads
  pointwise
  simp only [FfnMath.rowScaled, FfnMath.hid, hn']
  exact FfnMath.sum_chunks (fun k => ((∑ i, h (ix2 r i) * x2 (ix2 i k)) * Ideal.logistic (∑ i, h (ix2 r i) * x2 (ix2 i k))
    * ∑ i, h (ix2 r i) * x3 (ix2 i k)) * x4 (ix2 k l)) (x0 (ix2 r l))

end Cert.Kernel2Ideal.Ffn

end
-- ==== Proof.FfnKernel3.lean ====
/-
  Program Kernel3 (the even layer's last call) at the extended reals: what its result array holds after the run, as one
  function of the arguments (`G`): row `r` is `FfnMath.row` of row `r` of the input plus the output projection.
-/
module

public import proofs.«01_k».proof.Proof.Gen.Kernel3Ideal.Value
public import proofs.«01_k».proof.Proof.FfnMath
public import Idealize.ShloMosaic.Lib.Pipeline.ValueKit
public import Idealize.ShloMosaic.Lib.Pointwise

@[expose] public section

noncomputable section

open Idealize.ShloMosaic Idealize.ShloMosaic.TcCoe Idealize.SL.Sem
open Idealize.ShloMosaic.Pipeline (Dat)

namespace Cert.Kernel3Ideal.Ffn
open Cert.Kernel3Ideal Cert.Kernel3Ideal.Gen

variable (m : (ℓ : Loc nD τ sig) → Buf (Elt Ideal) ℓ)

/-- The input with the output projection of the two head groups added, at row `r` and column `l`. -/
def mix (c : Dev nD) (r : Fin 65536) (l : Fin 1024) : EReal :=
  FfnMath.mixed (m ((c : Thread nD τ).loc main_arg0) (ix2 r l))
    (fun k : Fin 1024 => m ((c : Thread nD τ).loc main_arg5) (ix2 r k)) (fun k => m ((c : Thread nD τ).loc main_arg7) (ix2 ⟨k.val, by omega⟩ l))
    (fun k : Fin 512 => m ((c : Thread nD τ).loc main_arg6) (ix2 r k)) (fun k => m ((c : Thread nD τ).loc main_arg7) (ix2 ⟨1024 + k.val, by omega⟩ l))

/-- The result: row by row the half step of the row. -/
def G (c : Dev nD) : Buf (Elt Ideal) ((c : Thread nD τ).loc main_v10) := fun i =>
  FfnMath.row (fun k => mix m c (i 0) k) (fun k => m ((c : Thread nD τ).loc main_arg1) (ix1 k))
    (fun i k => m ((c : Thread nD τ).loc main_arg2) (ix2 i k)) (fun i k => m ((c : Thread nD τ).loc main_arg3) (ix2 i k))
    (fun k => m ((c : Thread nD τ).loc main_arg4) (ix2 k (i 1))) (i 1)

/-- The mixed rows that a grid point starts from. -/
theorem mix_apply (x0 : Vec Ideal S1024x1024 .f32) (x5 : Vec Ideal S1024x1024 .bf16) (x7 : Vec Ideal S1024x1024 .bf16)
    (x6 : Vec Ideal S1024x512 .bf16) (x8 : Vec Ideal S512x1024 .bf16) (r l : Fin 1024) :
    k0_pay1 x0 x5 x7 x6 x8 (ix2 r l) = x0 (ix2 r l) + ((∑ k : Fin 1024, x5 (ix2 r k) * x7 (ix2 k l)) + ∑ k : Fin 512, x6 (ix2 r k) * x8 (ix2 k l)) := by
  unfold_payloads
  pointwise

/-- The normalised rows that the kernel keeps for the chunks. -/
theorem norm_apply (x : FVec Ideal S1024x1024 .f32) (x1 : Vec Ideal S1x1024 .f32) (r l : Fin 1024) :
    k0_pay2 x x1 (ix2 r l) = FfnMath.normRow (fun k => x (ix2 r k)) (fun k => x1 (ix2 0 k)) l := by
  unfold_payloads
  pointwise [FfnMath.normRow]

/-- Which block of its array each window holds at a grid point. -/
theorem index : ∀ t : Fin grid0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] ∧ win0_7.index t = ![0, 0] ∧ win0_8.index t = ![0, 0] ∧ win0_9.index t = ![t.val, 0] := by decide +kernel

set_option maxHeartbeats 1000000 in
/-- The result array after the run. -/
theorem final (c : Dev nD) : (dats m 0 c).arrAt 9 cfg0.N = G m c := by
  refine (dats m 0 c).arrAt_eq_of_covers 9 _ (by decide +kernel) fun t hf y => ?_
  blk_simp
  rw [after0_9]
  unfold outsAt0
  frame_out
  obtain ⟨r, l, rfl⟩ : ∃ (a : Fin 1024) (b : Fin 1024), y = ix2 a b := ⟨y 0, y 1, eq_ix2 y⟩
  have e0 : ∀ r k : Fin 1024, iblk m c 0 t (ix2 r k) = m ((c : Thread nD τ).loc main_arg0) (ix2 ⟨t.val * 1024 + r.val, by have := t.isLt; have : cfg0.grid.N = 64 := N_0; omega⟩ k) := by
    intro r k
    blk_ext! [iblk, V, index t]
  have e1 : ∀ k : Fin 1024, iblk m c 1 t (ix2 0 k) = m ((c : Thread nD τ).loc main_arg1) (ix1 k) := by
    intro k
    blk_ext! [iblk, V, index t]
  have e2 : ∀ (i : Fin 1024) (k : Fin 2816), iblk m c 2 t (ix2 i k) = m ((c : Thread nD τ).loc main_arg2) (ix2 i k) := by
    intro i k
    blk_ext! [iblk, V, index t]
  have e3 : ∀ (i : Fin 1024) (k : Fin 2816), iblk m c 3 t (ix2 i k) = m ((c : Thread nD τ).loc main_arg3) (ix2 i k) := by
    intro i k
    blk_ext! [iblk, V, index t]
  have e4 : ∀ (k : Fin 2816) (l : Fin 1024), iblk m c 4 t (ix2 k l) = FfnMath.half * m ((c : Thread nD τ).loc main_arg4) (ix2 k l) := by
    intro i k
    blk_ext! [iblk, V, index t]
  have e5 : ∀ (r : Fin 1024) (k : Fin 1024), iblk m c 5 t (ix2 r k) = m ((c : Thread nD τ).loc main_arg5) (ix2 ⟨t.val * 1024 + r.val, by have := t.isLt; have : cfg0.grid.N = 64 := N_0; omega⟩ k) := by
    intro r k
    blk_ext! [iblk, V, index t]
  have e6 : ∀ (r : Fin 1024) (k : Fin 512), iblk m c 6 t (ix2 r k) = m ((c : Thread nD τ).loc main_arg6) (ix2 ⟨t.val * 1024 + r.val, by have := t.isLt; have : cfg0.grid.N = 64 := N_0; omega⟩ k) := by
    intro r k
    blk_ext! [iblk, V, index t]
  have e7 : ∀ (k : Fin 1024) (l : Fin 1024), iblk m c 7 t (ix2 k l) = m ((c : Thread nD τ).loc main_arg7) (ix2 ⟨k.val, by omega⟩ l) := by
    intro r k
    blk_ext! [iblk, V, index t]
  have e8 : ∀ (k : Fin 512) (l : Fin 1024), iblk m c 8 t (ix2 k l) = m ((c : Thread nD τ).loc main_arg7) (ix2 ⟨1024 + k.val, by omega⟩ l) := by
    intro r k
    blk_ext! [iblk, V, index t]
  have ei : ((View.whole main_v10).slice (win0_9.rect t)).emb (ix2 r l) = ix2 ⟨t.val * 1024 + r.val, by have := t.isLt; have : cfg0.grid.N = 64 := N_0; omega⟩ l := by
    blk_ext! [index t]
  have eG : G m c (((View.whole main_v10).slice (win0_9.rect t)).emb (ix2 r l)) =
      FfnMath.row (fun k => (k0_pay1 (iblk m c 0 t) (iblk m c 5 t) (iblk m c 7 t) (iblk m c 6 t) (iblk m c 8 t)) (ix2 r k)) (fun k => iblk m c 1 t (ix2 0 k))
        (fun i k => iblk m c 2 t (ix2 i k)) (fun i k => iblk m c 3 t (ix2 i k)) (fun k => m ((c : Thread nD τ).loc main_arg4) (ix2 k l)) l := by
    simp only [e1, e2, e3, mix_apply, e0, e5, e6, e7, e8]
    rw [ei]
    rfl
  rw [eG, ← FfnMath.rowScaled_eq]
  simp only [← e4]
  clear e0 e1 e2 e3 e4 e5 e6 e7 e8 eG ei
  generalize k0_pay1 (iblk m c 0 t) (iblk m c 5 t) (iblk m c 7 t) (iblk m c 6 t) (iblk m c 8 t) = x0
  generalize iblk m c 1 t = x1
  generalize iblk m c 2 t = x2
  generalize iblk m c 3 t = x3
  generalize iblk m c 4 t = x4
  have hn := norm_apply x0 x1 r
  generalize k0_pay2 x0 x1 = h at hn ⊢
  have hn' : FfnMath.normRow (fun k => x0 (ix2 r k)) (fun k => x1 (ix2 0 k)) = fun i => h (ix2 r i) := (funext hn).symm
  unfold_payloads
  pointwise
  simp only [FfnMath.rowScaled, FfnMath.hid, hn']
  exact FfnMath.sum_chunks (fun k => ((∑ i, h (ix2 r i) * x2 (ix2 i k)) * Ideal.logistic (∑ i, h (ix2 r i) * x2 (ix2 i k))
    * ∑ i, h (ix2 r i) * x3 (ix2 i k)) * x4 (ix2 k l)) (x0 (ix2 r l))

end Cert.Kernel3Ideal.Ffn

end
-- ==== Proof.FfnKernel4.lean ====
/-
  Program Kernel4 (the first feed-forward call of a layer) at the extended reals: what its result array holds after the run, as one
  function of the arguments (`G`): row `r` is `FfnMath.row` of row `r` of the input.
-/
module

public import proofs.«01_k».proof.Proof.Gen.Kernel4Ideal.Value
public import proofs.«01_k».proof.Proof.FfnMath
public import Idealize.ShloMosaic.Lib.Pipeline.ValueKit
public import Idealize.ShloMosaic.Lib.Pointwise

@[expose] public section

noncomputable section

open Idealize.ShloMosaic Idealize.ShloMosaic.TcCoe Idealize.SL.Sem
open Idealize.ShloMosaic.Pipeline (Dat)

namespace Cert.Kernel4Ideal.Ffn
open Cert.Kernel4Ideal Cert.Kernel4Ideal.Gen

variable (m : (ℓ : Loc nD τ sig) → Buf (Elt Ideal) ℓ)

/-- The result: row by row the half step of the row. -/
def G (c : Dev nD) : Buf (Elt Ideal) ((c : Thread nD τ).loc main_v6) := fun i =>
  FfnMath.row (fun k => m ((c : Thread nD τ).loc main_arg0) (ix2 (i 0) k)) (fun k => m ((c : Thread nD τ).loc main_arg1) (ix1 k))
    (fun i k => m ((c : Thread nD τ).loc main_arg2) (ix2 i k)) (fun i k => m ((c : Thread nD τ).loc main_arg3) (ix2 i k))
    (fun k => m ((c : Thread nD τ).loc main_arg4) (ix2 k (i 1))) (i 1)

/-- The normalised rows that the kernel keeps for the chunks. -/
theorem norm_apply (x0 : Vec Ideal S1024x1024 .f32) (x1 : Vec Ideal S1x1024 .f32) (r l : Fin 1024) :
    k0_pay3 (k0_pay2 x0) x1 (ix2 r l) = FfnMath.normRow (fun k => x0 (ix2 r k)) (fun k => x1 (ix2 0 k)) l := by
  unfold_payloads
  pointwise [FfnMath.normRow]

/-- Which block of its array each window holds at a grid point. -/
theorem index : ∀ t : Fin grid0.N, win0_0.index t = ![t.val, 0] ∧ win0_1.index t = ![0, 0] ∧ win0_2.index t = ![0, 0] ∧ win0_3.index t = ![0, 0] ∧ win0_4.index t = ![0, 0] ∧ win0_5.index t = ![t.val, 0] := by decide +kernel

set_option maxHeartbeats 1000000 in
/-- The result array after the run. -/
theorem final (c : Dev nD) : (dats m 0 c).arrAt 5 cfg0.N = G m c := by
  refine (dats m 0 c).arrAt_eq_of_covers 5 _ (by decide +kernel) fun t hf y => ?_
  blk_simp
  rw [after0_5]
  unfold outsAt0
  frame_out
  obtain ⟨r, l, rfl⟩ : ∃ (a : Fin 1024) (b : Fin 1024), y = ix2 a b := ⟨y 0, y 1, eq_ix2 y⟩
  have e0 : ∀ r k : Fin 1024, iblk m c 0 t (ix2 r k) = m ((c : Thread nD τ).loc main_arg0) (ix2 ⟨t.val * 1024 + r.val, by have := t.isLt; have : cfg0.grid.N = 64 := N_0; omega⟩ k) := by
    intro r k
    blk_ext! [iblk, V, index t]
  have e1 : ∀ k : Fin 1024, iblk m c 1 t (ix2 0 k) = m ((c : Thread nD τ).loc main_arg1) (ix1 k) := by
    intro k
    blk_ext! [iblk, V, index t]
  have e2 : ∀ (i : Fin 1024) (k : Fin 2816), iblk m c 2 t (ix2 i k) = m ((c : Thread nD τ).loc main_arg2) (ix2 i k) := by
    intro i k
    blk_ext! [iblk, V, index t]
  have e3 : ∀ (i : Fin 1024) (k : Fin 2816), iblk m c 3 t (ix2 i k) = m ((c : Thread nD τ).loc main_arg3) (ix2 i k) := by
    intro i k
    blk_ext! [iblk, V, index t]
  have e4 : ∀ (k : Fin 2816) (l : Fin 1024), iblk m c 4 t (ix2 k l) = FfnMath.half * m ((c : Thread nD τ).loc main_arg4) (ix2 k l) := by
    intro i k
    blk_ext! [iblk, V, index t]
  have ei : ((View.whole main_v6).slice (win0_5.rect t)).emb (ix2 r l) = ix2 ⟨t.val * 1024 + r.val, by have := t.isLt; have : cfg0.grid.N = 64 := N_0; omega⟩ l := by
    blk_ext! [index t]
  have eG : G m c (((View.whole main_v6).slice (win0_5.rect t)).emb (ix2 r l)) =
      FfnMath.row (fun k => iblk m c 0 t (ix2 r k)) (fun k => iblk m c 1 t (ix2 0 k))
        (fun i k => iblk m c 2 t (ix2 i k)) (fun i k => iblk m c 3 t (ix2 i k)) (fun k => m ((c : Thread nD τ).loc main_arg4) (ix2 k l)) l := by
    simp only [e0, e1, e2, e3]
    rw [ei]
    rfl
  rw [eG, ← FfnMath.rowScaled_eq]
  simp only [← e4]
  clear e0 e1 e2 e3 e4 eG ei
  generalize iblk m c 0 t = x0
  generalize iblk m c 1 t = x1
  generalize iblk m c 2 t = x2
  generalize iblk m c 3 t = x3
  generalize iblk m c 4 t = x4
  have hn := norm_apply x0 x1 r
  generalize k0_pay3 (k0_pay2 x0) x1 = h at hn ⊢
  have hn' : FfnMath.normRow (fun k => x0 (ix2 r k)) (fun k => x1 (ix2 0 k)) = fun i => h (ix2 r i) := (funext hn).symm
  unfold_payloads
  pointwise
  simp only [FfnMath.rowScaled, FfnMath.hid, hn']
  exact FfnMath.sum_chunks (fun k => ((∑ i, h (ix2 r i) * x2 (ix2 i k)) * Ideal.logistic (∑ i, h (ix2 r i) * x2 (ix2 i k))
    * ∑ i, h (ix2 r i) * x3 (ix2 i k)) * x4 (ix2 k l)) (x0 (ix2 r l))

end Cert.Kernel4Ideal.Ffn

end
-- ==== Proof.FfnClaims.lean ====
/-
  The claims about the three feed-forward calls: the references' frames, and the equality of each call's result with
  its reference's, both being the function `G` of the arguments.
-/
module

public import proofs.«01_k».proof.Defs
public import proofs.«01_k».proof.Proof.FfnRef
public import proofs.«01_k».proof.Proof.FfnKernel2
public import proofs.«01_k».proof.Proof.FfnKernel3
public import proofs.«01_k».proof.Proof.FfnKernel4
public import proofs.«01_k».proof.Proof.Gen.Reference2Ideal.Run
public import proofs.«01_k».proof.Proof.Gen.Reference3Ideal.Run
public import proofs.«01_k».proof.Proof.Gen.Reference4Ideal.Run
public import Idealize.ShloMosaic.Adequacy
public import Idealize.ShloMosaic.Init

@[expose] public section

noncomputable section

open Idealize.ShloMosaic Idealize.ShloMosaic.TcCoe Idealize.SL.Sem

namespace Cert.Ffn4

/-- The reference's run leaves its arguments and every counter as they were. -/
theorem reference_frame : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The reference's result, from the kernel's arguments, is `G`. -/
theorem reference_value (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c : Thread Cert.Reference4Ideal.nD Cert.Reference4Ideal.τ).loc Cert.Reference4Ideal.main_arg0) = m ((c : Thread Cert.Kernel4Ideal.nD Cert.Kernel4Ideal.τ).loc Cert.Kernel4Ideal.main_arg0))
    (h1 : m' ((c : Thread Cert.Reference4Ideal.nD Cert.Reference4Ideal.τ).loc Cert.Reference4Ideal.main_arg1) = m ((c : Thread Cert.Kernel4Ideal.nD Cert.Kernel4Ideal.τ).loc Cert.Kernel4Ideal.main_arg1))
    (h2 : m' ((c : Thread Cert.Reference4Ideal.nD Cert.Reference4Ideal.τ).loc Cert.Reference4Ideal.main_arg2) = m ((c : Thread Cert.Kernel4Ideal.nD Cert.Kernel4Ideal.τ).loc Cert.Kernel4Ideal.main_arg2))
    (h3 : m' ((c : Thread Cert.Reference4Ideal.nD Cert.Reference4Ideal.τ).loc Cert.Reference4Ideal.main_arg3) = m ((c : Thread Cert.Kernel4Ideal.nD Cert.Kernel4Ideal.τ).loc Cert.Kernel4Ideal.main_arg3))
    (h4 : m' ((c : Thread Cert.Reference4Ideal.nD Cert.Reference4Ideal.τ).loc Cert.Reference4Ideal.main_arg4) = m ((c : Thread Cert.Kernel4Ideal.nD Cert.Kernel4Ideal.τ).loc Cert.Kernel4Ideal.main_arg4)) :
    Cert.Reference4Ideal.Read.val_main_v20 (F := Ideal) (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) (m' ((c : Thread Cert.Reference4Ideal.nD Cert.Reference4Ideal.τ).loc Cert.Reference4Ideal.main_arg3)) (m' ((c : Thread Cert.Reference4Ideal.nD Cert.Reference4Ideal.τ).loc Cert.Reference4Ideal.main_arg4))
      = Cert.Kernel4Ideal.Ffn.G m c := by
  rw [h0, h1, h2, h3, h4]
  funext i
  obtain ⟨r, l, rfl⟩ : ∃ a b, i = ix2 a b := ⟨i 0, i 1, eq_ix2 i⟩
  refine (Cert.Reference4Ideal.Ffn.result_apply _ _ _ _ _ r l).trans ?_
  rfl

/-- The call's result and the reference's are equal. -/
theorem algebraic : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => Cert.Kernel4Ideal.Ffn.G m c, ?_, ?_⟩
  · exact (θ_run Cert.Kernel4Ideal.defs _ _).mono (fun r h c => ⟨(h c).1.trans (Cert.Kernel4Ideal.Ffn.final m c), (h c).2⟩)
      (Cert.Kernel4Ideal.Value.run_blocks m ρ)
  · refine (θ_run Cert.Reference4Ideal.defs _ _).mono (fun r h c => ?_) (Cert.Reference4Ideal.Value.run (F := Ideal) m' ρ')
    obtain ⟨h0, h1, h2, h3, h4⟩ := hagree c
    exact ⟨(h c).1.trans ((Cert.Reference4Ideal.Read.val_main_v20_eq _ _ _ _ _).trans (reference_value m m' c h0 h1 h2 h3 h4)), (h c).2⟩

end Cert.Ffn4

namespace Cert.Ffn3

/-- The reference's run leaves its arguments and every counter as they were. -/
theorem reference_frame : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference's result, from the kernel's arguments, is `G`. -/
theorem reference_value (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c : Thread Cert.Reference3Ideal.nD Cert.Reference3Ideal.τ).loc Cert.Reference3Ideal.main_arg0) = m ((c : Thread Cert.Kernel3Ideal.nD Cert.Kernel3Ideal.τ).loc Cert.Kernel3Ideal.main_arg0))
    (h1 : m' ((c : Thread Cert.Reference3Ideal.nD Cert.Reference3Ideal.τ).loc Cert.Reference3Ideal.main_arg1) = m ((c : Thread Cert.Kernel3Ideal.nD Cert.Kernel3Ideal.τ).loc Cert.Kernel3Ideal.main_arg1))
    (h2 : m' ((c : Thread Cert.Reference3Ideal.nD Cert.Reference3Ideal.τ).loc Cert.Reference3Ideal.main_arg2) = m ((c : Thread Cert.Kernel3Ideal.nD Cert.Kernel3Ideal.τ).loc Cert.Kernel3Ideal.main_arg2))
    (h3 : m' ((c : Thread Cert.Reference3Ideal.nD Cert.Reference3Ideal.τ).loc Cert.Reference3Ideal.main_arg3) = m ((c : Thread Cert.Kernel3Ideal.nD Cert.Kernel3Ideal.τ).loc Cert.Kernel3Ideal.main_arg3))
    (h4 : m' ((c : Thread Cert.Reference3Ideal.nD Cert.Reference3Ideal.τ).loc Cert.Reference3Ideal.main_arg4) = m ((c : Thread Cert.Kernel3Ideal.nD Cert.Kernel3Ideal.τ).loc Cert.Kernel3Ideal.main_arg4))
    (h5 : m' ((c : Thread Cert.Reference3Ideal.nD Cert.Reference3Ideal.τ).loc Cert.Reference3Ideal.main_arg5) = m ((c : Thread Cert.Kernel3Ideal.nD Cert.Kernel3Ideal.τ).loc Cert.Kernel3Ideal.main_arg5))
    (h6 : m' ((c : Thread Cert.Reference3Ideal.nD Cert.Reference3Ideal.τ).loc Cert.Reference3Ideal.main_arg6) = m ((c : Thread Cert.Kernel3Ideal.nD Cert.Kernel3Ideal.τ).loc Cert.Kernel3Ideal.main_arg6))
    (h7 : m' ((c : Thread Cert.Reference3Ideal.nD Cert.Reference3Ideal.τ).loc Cert.Reference3Ideal.main_arg7) = m ((c : Thread Cert.Kernel3Ideal.nD Cert.Kernel3Ideal.τ).loc Cert.Kernel3Ideal.main_arg7)) :
    Cert.Reference3Ideal.Read.val_main_v25 (F := Ideal) (m' ((c : Thread Cert.Reference3Ideal.nD Cert.Reference3Ideal.τ).loc Cert.Reference3Ideal.main_arg0)) (m' ((c : Thread Cert.Reference3Ideal.nD Cert.Reference3Ideal.τ).loc Cert.Reference3Ideal.main_arg1)) (m' ((c : Thread Cert.Reference3Ideal.nD Cert.Reference3Ideal.τ).loc Cert.Reference3Ideal.main_arg2)) (m' ((c : Thread Cert.Reference3Ideal.nD Cert.Reference3Ideal.τ).loc Cert.Reference3Ideal.main_arg3)) (m' ((c : Thread Cert.Reference3Ideal.nD Cert.Reference3Ideal.τ).loc Cert.Reference3Ideal.main_arg4)) (m' ((c : Thread Cert.Reference3Ideal.nD Cert.Reference3Ideal.τ).loc Cert.Reference3Ideal.main_arg5)) (m' ((c : Thread Cert.Reference3Ideal.nD Cert.Reference3Ideal.τ).loc Cert.Reference3Ideal.main_arg6)) (m' ((c : Thread Cert.Reference3Ideal.nD Cert.Reference3Ideal.τ).loc Cert.Reference3Ideal.main_arg7))
      = Cert.Kernel3Ideal.Ffn.G m c := by
  rw [h0, h1, h2, h3, h4, h5, h6, h7]
  funext i
  obtain ⟨r, l, rfl⟩ : ∃ a b, i = ix2 a b := ⟨i 0, i 1, eq_ix2 i⟩
  refine (Cert.Reference3Ideal.Ffn.result_apply _ _ _ _ _ _ _ _ r l).trans ?_
  simp only [Cert.Reference3Ideal.Ffn.mix_apply]
  rfl

/-- The call's result and the reference's are equal. -/
theorem algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => Cert.Kernel3Ideal.Ffn.G m c, ?_, ?_⟩
  · exact (θ_run Cert.Kernel3Ideal.defs _ _).mono (fun r h c => ⟨(h c).1.trans (Cert.Kernel3Ideal.Ffn.final m c), (h c).2⟩)
      (Cert.Kernel3Ideal.Value.run_blocks m ρ)
  · refine (θ_run Cert.Reference3Ideal.defs _ _).mono (fun r h c => ?_) (Cert.Reference3Ideal.Value.run (F := Ideal) m' ρ')
    obtain ⟨h0, h1, h2, h3, h4, h5, h6, h7⟩ := hagree c
    exact ⟨(h c).1.trans ((Cert.Reference3Ideal.Read.val_main_v25_eq m' c).trans (reference_value m m' c h0 h1 h2 h3 h4 h5 h6 h7)), (h c).2⟩

end Cert.Ffn3

namespace Cert.Ffn2

/-- The reference's run leaves its arguments and every counter as they were. -/
theorem reference_frame : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference's result, from the kernel's arguments, is `G`. -/
theorem reference_value (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c : Thread Cert.Reference2Ideal.nD Cert.Reference2Ideal.τ).loc Cert.Reference2Ideal.main_arg0) = m ((c : Thread Cert.Kernel2Ideal.nD Cert.Kernel2Ideal.τ).loc Cert.Kernel2Ideal.main_arg0))
    (h1 : m' ((c : Thread Cert.Reference2Ideal.nD Cert.Reference2Ideal.τ).loc Cert.Reference2Ideal.main_arg1) = m ((c : Thread Cert.Kernel2Ideal.nD Cert.Kernel2Ideal.τ).loc Cert.Kernel2Ideal.main_arg1))
    (h2 : m' ((c : Thread Cert.Reference2Ideal.nD Cert.Reference2Ideal.τ).loc Cert.Reference2Ideal.main_arg2) = m ((c : Thread Cert.Kernel2Ideal.nD Cert.Kernel2Ideal.τ).loc Cert.Kernel2Ideal.main_arg2))
    (h3 : m' ((c : Thread Cert.Reference2Ideal.nD Cert.Reference2Ideal.τ).loc Cert.Reference2Ideal.main_arg3) = m ((c : Thread Cert.Kernel2Ideal.nD Cert.Kernel2Ideal.τ).loc Cert.Kernel2Ideal.main_arg3))
    (h4 : m' ((c : Thread Cert.Reference2Ideal.nD Cert.Reference2Ideal.τ).loc Cert.Reference2Ideal.main_arg4) = m ((c : Thread Cert.Kernel2Ideal.nD Cert.Kernel2Ideal.τ).loc Cert.Kernel2Ideal.main_arg4))
    (h5 : m' ((c : Thread Cert.Reference2Ideal.nD Cert.Reference2Ideal.τ).loc Cert.Reference2Ideal.main_arg5) = m ((c : Thread Cert.Kernel2Ideal.nD Cert.Kernel2Ideal.τ).loc Cert.Kernel2Ideal.main_arg5))
    (h6 : m' ((c : Thread Cert.Reference2Ideal.nD Cert.Reference2Ideal.τ).loc Cert.Reference2Ideal.main_arg6) = m ((c : Thread Cert.Kernel2Ideal.nD Cert.Kernel2Ideal.τ).loc Cert.Kernel2Ideal.main_arg6))
    (h7 : m' ((c : Thread Cert.Reference2Ideal.nD Cert.Reference2Ideal.τ).loc Cert.Reference2Ideal.main_arg7) = m ((c : Thread Cert.Kernel2Ideal.nD Cert.Kernel2Ideal.τ).loc Cert.Kernel2Ideal.main_arg7)) :
    Cert.Reference2Ideal.Read.val_main_v25 (F := Ideal) (m' ((c : Thread Cert.Reference2Ideal.nD Cert.Reference2Ideal.τ).loc Cert.Reference2Ideal.main_arg0)) (m' ((c : Thread Cert.Reference2Ideal.nD Cert.Reference2Ideal.τ).loc Cert.Reference2Ideal.main_arg1)) (m' ((c : Thread Cert.Reference2Ideal.nD Cert.Reference2Ideal.τ).loc Cert.Reference2Ideal.main_arg2)) (m' ((c : Thread Cert.Reference2Ideal.nD Cert.Reference2Ideal.τ).loc Cert.Reference2Ideal.main_arg3)) (m' ((c : Thread Cert.Reference2Ideal.nD Cert.Reference2Ideal.τ).loc Cert.Reference2Ideal.main_arg4)) (m' ((c : Thread Cert.Reference2Ideal.nD Cert.Reference2Ideal.τ).loc Cert.Reference2Ideal.main_arg5)) (m' ((c : Thread Cert.Reference2Ideal.nD Cert.Reference2Ideal.τ).loc Cert.Reference2Ideal.main_arg6)) (m' ((c : Thread Cert.Reference2Ideal.nD Cert.Reference2Ideal.τ).loc Cert.Reference2Ideal.main_arg7))
      = Cert.Kernel2Ideal.Ffn.G m c := by
  rw [h0, h1, h2, h3, h4, h5, h6, h7]
  funext i
  obtain ⟨r, l, rfl⟩ : ∃ a b, i = ix2 a b := ⟨i 0, i 1, eq_ix2 i⟩
  refine (Cert.Reference2Ideal.Ffn.result_apply _ _ _ _ _ _ _ _ r l).trans ?_
  simp only [Cert.Reference2Ideal.Ffn.mix_apply]
  rfl

/-- The call's result and the reference's are equal. -/
theorem algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => Cert.Kernel2Ideal.Ffn.G m c, ?_, ?_⟩
  · exact (θ_run Cert.Kernel2Ideal.defs _ _).mono (fun r h c => ⟨(h c).1.trans (Cert.Kernel2Ideal.Ffn.final m c), (h c).2⟩)
      (Cert.Kernel2Ideal.Value.run_blocks m ρ)
  · refine (θ_run Cert.Reference2Ideal.defs _ _).mono (fun r h c => ?_) (Cert.Reference2Ideal.Value.run (F := Ideal) m' ρ')
    obtain ⟨h0, h1, h2, h3, h4, h5, h6, h7⟩ := hagree c
    exact ⟨(h c).1.trans ((Cert.Reference2Ideal.Read.val_main_v25_eq m' c).trans (reference_value m m' c h0 h1 h2 h3 h4 h5 h6 h7)), (h c).2⟩

end Cert.Ffn2

end
-- ==== Proof.InMath.lean ====
/-
  The mathematics of the layers' input projections, over the extended reals and free of any program: the norm of one
  head, and a head's columns with zeros behind them.
-/
module

public import proofs.«01_k».proof.Proof.FfnMath

@[expose] public section

noncomputable section

open Idealize.ShloMosaic

namespace InMath

/-- The width 64 of a head, as the programs' constant. -/
abbrev width64 : EReal := Ideal.ofBits .f32 0x42800000#32
/-- The constant 1/64. -/
abbrev inv64 : EReal := Ideal.ofBits .f32 0x3C800000#32
/-- The constant 1/8. -/
abbrev eighth : EReal := Ideal.ofBits .f32 0x3E000000#32
/-- The attention scale `64^(-1/2) · log2 e`, as the programs' constant. -/
abbrev scale64 : EReal := Ideal.ofBits .f32 0x3E38AA3B#32

/-- A head of 64 elements divided by its root mean square, times the gain `g`. -/
def headNorm (t g : Fin 64 → EReal) (d : Fin 64) : EReal :=
  t d * Ideal.rsqrt (Ideal.div (∑ e, t e * t e) width64 + FfnMath.eps) * g d

/-- A head's 64 columns with 64 zeros behind them. -/
def padded (f : Fin 64 → EReal) (d : Fin 128) : EReal := if h : d.val < 64 then f ⟨d.val, h⟩ else 0

/-- The integer zero, read as a number. -/
theorem ofInt_zero : (FloatOps.sitofp (F := Ideal) .f32 (0#32) : EReal) = 0 := by
  show (((0#32 : BitVec 32).toInt : ℝ) : EReal) = 0
  norm_num

/-- A bound on the head's number that always holds may be left out of a column's test. -/
theorem dite_head {p : Prop} [Decidable p] {n : ℕ} (hp : p) (f : p ∧ n < 64 → EReal) (g : n < 64 → EReal) (hfg : ∀ h, f ⟨hp, h⟩ = g h) :
    (if h : p ∧ n < 64 then f h else FloatOps.sitofp (F := Ideal) .f32 (0#32)) = if h : n < 64 then g h else 0 := by
  by_cases h : n < 64
  · rw [dif_pos ⟨hp, h⟩, dif_pos h, hfg h]
  · rw [dif_neg (fun k => h k.2), dif_neg h, ofInt_zero]

/-- The constant 64 is the number 64. -/
theorem width64_eq : width64 = ((64 : ℝ) : EReal) := by
  show Ideal.ieee 8 23 (0x42800000#32) = _
  have hex : ((0x42800000#32 : BitVec 32).extractLsb' 23 8).toNat = 133 := by decide
  have hneg : ((0x42800000#32 : BitVec 32).extractLsb' (8 + 23) 1 == 1#1) = false := by decide
  unfold Ideal.ieee
  simp only [hex, hneg]
  norm_num

/-- The constant 1/64 is the number 1/64. -/
theorem inv64_eq : inv64 = ((64⁻¹ : ℝ) : EReal) := by
  show Ideal.ieee 8 23 (0x3C800000#32) = _
  have hex : ((0x3C800000#32 : BitVec 32).extractLsb' 23 8).toNat = 121 := by decide
  have hneg : ((0x3C800000#32 : BitVec 32).extractLsb' (8 + 23) 1 == 1#1) = false := by decide
  unfold Ideal.ieee
  simp only [hex, hneg]
  norm_num

/-- Dividing by 64 is multiplying by 1/64. -/
theorem div_width64 (x : EReal) : Ideal.div x width64 = x * inv64 := by
  rw [width64_eq, inv64_eq]
  unfold Ideal.div
  rw [if_neg (by norm_num), EReal.coe_inv]

/-- The constant 1/8 is a nonnegative number. -/
theorem eighth_nonneg : 0 ≤ eighth ∧ eighth ≠ ⊤ := by
  show 0 ≤ Ideal.ieee 8 23 (0x3E000000#32) ∧ Ideal.ieee 8 23 (0x3E000000#32) ≠ ⊤
  have hex : ((0x3E000000#32 : BitVec 32).extractLsb' 23 8).toNat = 124 := by decide
  have hneg : ((0x3E000000#32 : BitVec 32).extractLsb' (8 + 23) 1 == 1#1) = false := by decide
  unfold Ideal.ieee
  simp only [hex, hneg]
  norm_num

/-- A head laid out in 128 columns, divided by the root of its 64 columns' mean square, times the gain `g`. -/
def padNorm (t g : Fin 128 → EReal) (d : Fin 128) : EReal :=
  t d * Ideal.rsqrt ((∑ e, t e * t e) * inv64 + FfnMath.eps) * g d

/-- A sum over 128 columns of which the last 64 add nothing. -/
theorem sum_padded (f : Fin 128 → EReal) (hf : ∀ d : Fin 128, 64 ≤ d.val → f d = 0) :
    ∑ d, f d = ∑ d : Fin 64, f ⟨d.val, by omega⟩ := by
  rw [show (∑ d, f d) = ∑ d : Fin (64 + 64), f d from rfl, Fin.sum_univ_add]
  rw [Finset.sum_eq_zero (s := Finset.univ) (f := fun i : Fin 64 => f (Fin.natAdd 64 i)) (fun i _ => hf _ (Nat.le_add_right 64 i.val)), add_zero]
  rfl

/-- The columns behind a head add nothing to its squares' sum: the padded head's norm is the head's norm, padded. -/
theorem padNorm_padded (t g : Fin 64 → EReal) (d : Fin 128) :
    padNorm (padded t) (padded g) d = padded (headNorm t g) d := by
  have hs : (∑ e, padded t e * padded t e) = ∑ e, t e * t e := by
    rw [sum_padded]
    · exact Finset.sum_congr rfl fun e _ => by simp only [padded, e.isLt, dif_pos]
    · intro e he
      simp only [padded, dif_neg (Nat.not_lt.mpr he), mul_zero]
  unfold padNorm
  rw [hs, ← div_width64]
  unfold padded headNorm
  by_cases h : d.val < 64
  · simp only [dif_pos h]
  · simp only [dif_neg h, mul_zero]

/-- A scale in the gain is a scale of the norm. -/
theorem headNorm_scale (t g : Fin 64 → EReal) (s : EReal) (d : Fin 64) :
    headNorm t (fun e => g e * s) d = headNorm t g d * s := (mul_assoc _ _ _).symm

/-- A contraction with padded weights is the contraction, padded. -/
theorem sum_mul_padded {n : ℕ} (h : Fin n → EReal) (w : Fin n → Fin 64 → EReal) (d : Fin 128) :
    ∑ k, h k * padded (w k) d = padded (fun e => ∑ k, h k * w k e) d := by
  unfold padded
  by_cases hd : d.val < 64
  · simp only [dif_pos hd]
  · simp only [dif_neg hd, mul_zero, Finset.sum_const_zero]

/-- A contraction with weights times 1/8 is an eighth of the contraction. -/
theorem sum_mul_eighth {n : ℕ} (h w : Fin n → EReal) : ∑ k, h k * (w k * eighth) = (∑ k, h k * w k) * eighth := by
  rw [mul_comm (∑ k, h k * w k), FfnMath.mul_sum _ _ eighth_nonneg.1 eighth_nonneg.2]
  exact Finset.sum_congr rfl fun k _ => by rw [mul_comm eighth, mul_assoc]

end InMath

end
-- ==== Proof.InEvenMath.lean ====
/-
  The mathematics of the even layer's input projection, over the extended reals and free of any program: the norm and the
  rotation of one head of 96 columns, once as the reference does them, one after the other, and once on 128 columns with
  the second half of every rotated pair laid out by a second set of weights, as the kernel does.
-/
module

public import proofs.«01_k».proof.Proof.InMath

@[expose] public section

noncomputable section

open Idealize.ShloMosaic

namespace RopeMath

/-- The width 96 of a head, as the programs' constant. -/
abbrev width96 : EReal := Ideal.ofBits .f32 0x42C00000#32
/-- The widths 384 and 256 of the inner rows, as the programs' constants. -/
abbrev width384 : EReal := Ideal.ofBits .f32 0x43C00000#32
abbrev width256 : EReal := Ideal.ofBits .f32 0x43800000#32
/-- The number 1/96. -/
abbrev inv96 : EReal := ((1 / 96 : ℝ) : EReal)
/-- The attention scale `96^(-1/2) · log2 e`, as the programs' constant. -/
abbrev scale96 : EReal := Ideal.ofBits .f32 0x3E16C740#32

/-- A row divided by its root mean square, the mean taken with the width `w`, times the gain `g`. -/
def norm (w : EReal) {n : ℕ} (x g : Fin n → EReal) (i : Fin n) : EReal :=
  x i * Ideal.rsqrt (Ideal.div (∑ k, x k * x k) w + FfnMath.eps) * g i

/-- A head's 96 columns with 32 zeros behind them. -/
def padded (f : Fin 96 → EReal) (d : Fin 128) : EReal := if h : d.val < 96 then f ⟨d.val, h⟩ else 0

/-- The other half of a rotated pair: columns 64 to 79 and columns 80 to 95 exchanged, every other column zero. -/
def partner (f : Fin 96 → EReal) (d : Fin 128) : EReal :=
  if h : 64 ≤ d.val ∧ d.val < 80 then f ⟨d.val + 16, by omega⟩ else if h : 80 ≤ d.val ∧ d.val < 96 then f ⟨d.val - 16, by omega⟩ else 0

/-- The rotation of a head's last 32 columns, by the cosines in columns 64 to 79 of `cs` and the sines in columns 80 to
    95 of `sn`. -/
def rope (t : Fin 96 → EReal) (cs sn : Fin 128 → EReal) (d : Fin 96) : EReal :=
  if d.val < 64 then t d
  else if h : d.val < 80 then t d * cs ⟨d.val, by omega⟩ - t ⟨d.val + 16, by omega⟩ * sn ⟨d.val + 16, by omega⟩
  else t d * cs ⟨d.val - 16, by omega⟩ + t ⟨d.val - 16, by omega⟩ * sn ⟨d.val, by omega⟩

/-- A head laid out in 128 columns, its columns times `c`, plus `z`, divided by the root of its 96 columns' mean square. -/
def turned (y : Fin 128 → EReal) (c z : EReal) (l : Fin 128) : EReal :=
  (y l * c + z) * Ideal.rsqrt ((∑ e, y e * y e) * inv96 + FfnMath.eps)

/-- The tables of the rotation hold what the layer's tables hold: 1 in the columns that are not rotated, the same cosine
    in the two halves of those that are, and the sine with opposite signs. -/
structure Tables (cs sn : Fin 128 → EReal) : Prop where
  one : ∀ d : Fin 128, d.val < 64 → cs d = 1
  cos : ∀ d : Fin 128, ∀ h : 64 ≤ d.val ∧ d.val < 80, cs d = cs ⟨d.val + 16, by omega⟩
  sin : ∀ d : Fin 128, ∀ h : 64 ≤ d.val ∧ d.val < 80, sn d = -sn ⟨d.val + 16, by omega⟩

/-- The constant 96 is the number 96. -/
theorem width96_eq : width96 = ((96 : ℝ) : EReal) := by
  show Ideal.ieee 8 23 (0x42C00000#32) = _
  have hex : ((0x42C00000#32 : BitVec 32).extractLsb' 23 8).toNat = 133 := by decide
  have hman : ((0x42C00000#32 : BitVec 32).extractLsb' 0 23).toNat = 4194304 := by decide
  have hneg : ((0x42C00000#32 : BitVec 32).extractLsb' (8 + 23) 1 == 1#1) = false := by decide
  unfold Ideal.ieee
  simp only [hex, hneg, hman]
  norm_num

/-- The norm's small constant is a positive number. -/
theorem eps_pos : ∃ e : ℝ, 0 < e ∧ FfnMath.eps = (e : EReal) := by
  refine ⟨8796093 / 2 ^ 43, by norm_num, ?_⟩
  show Ideal.ieee 8 23 (0x358637BD#32) = _
  have hex : ((0x358637BD#32 : BitVec 32).extractLsb' 23 8).toNat = 107 := by decide
  have hman : ((0x358637BD#32 : BitVec 32).extractLsb' 0 23).toNat = 407485 := by decide
  have hneg : ((0x358637BD#32 : BitVec 32).extractLsb' (8 + 23) 1 == 1#1) = false := by decide
  unfold Ideal.ieee
  simp only [hex, hneg, hman]
  norm_num

/-- The scale is a nonnegative number. -/
theorem scale96_nonneg : 0 ≤ scale96 ∧ scale96 ≠ ⊤ := by
  show 0 ≤ Ideal.ieee 8 23 (0x3E16C740#32) ∧ Ideal.ieee 8 23 (0x3E16C740#32) ≠ ⊤
  have hex : ((0x3E16C740#32 : BitVec 32).extractLsb' 23 8).toNat = 124 := by decide
  have hman : ((0x3E16C740#32 : BitVec 32).extractLsb' 0 23).toNat = 1492800 := by decide
  have hneg : ((0x3E16C740#32 : BitVec 32).extractLsb' (8 + 23) 1 == 1#1) = false := by decide
  unfold Ideal.ieee
  simp only [hex, hneg, hman]
  constructor
  · norm_num
  · norm_num

/-- Dividing by 96 is multiplying by 1/96. -/
theorem div_width96 (x : EReal) : Ideal.div x width96 = x * inv96 := by
  rw [width96_eq]
  unfold Ideal.div
  rw [if_neg (by norm_num), show inv96 = ((96⁻¹ : ℝ) : EReal) by norm_num [inv96], EReal.coe_inv]

/-- A square is nonnegative. -/
theorem sq_nonneg (x : EReal) : 0 ≤ x * x := by
  rcases le_total 0 x with h | h
  · exact mul_nonneg h h
  · rw [← neg_mul_neg]
    exact mul_nonneg (EReal.neg_nonneg.2 h) (EReal.neg_nonneg.2 h)

/-- The reciprocal root of a nonnegative number plus the small constant is a nonnegative number. -/
theorem rsqrt_nonneg {s : EReal} (hs : 0 ≤ s) : 0 ≤ Ideal.rsqrt (s + FfnMath.eps) ∧ Ideal.rsqrt (s + FfnMath.eps) ≠ ⊤ := by
  obtain ⟨e, he, heq⟩ := eps_pos
  rw [heq]
  induction s using EReal.rec with
  | bot => simp at hs
  | top =>
    rw [EReal.top_add_coe]
    exact ⟨le_refl _, EReal.zero_ne_top⟩
  | coe a =>
    have ha : 0 ≤ a := EReal.coe_nonneg.1 hs
    rw [← EReal.coe_add]
    have hp : 0 < a + e := by linarith
    have hr : Ideal.rsqrt ((a + e : ℝ) : EReal) = (((Real.sqrt (a + e))⁻¹ : ℝ) : EReal) := by
      show (if a + e < 0 then (⊥ : EReal) else if a + e = 0 then ⊤ else (((Real.sqrt (a + e))⁻¹ : ℝ) : EReal)) = _
      rw [if_neg (not_lt.2 hp.le), if_neg hp.ne']
    rw [hr]
    exact ⟨EReal.coe_nonneg.2 (inv_nonneg.2 (Real.sqrt_nonneg _)), EReal.coe_ne_top _⟩

/-- A bound on the head's number that always holds may be left out of a column's test. -/
theorem dite_head {p : Prop} [Decidable p] {n : ℕ} (hp : p) (f : p ∧ n < 96 → EReal) (g : n < 96 → EReal) (hfg : ∀ h, f ⟨hp, h⟩ = g h) :
    (if h : p ∧ n < 96 then f h else FloatOps.sitofp (F := Ideal) .f32 (0#32)) = if h : n < 96 then g h else 0 := by
  by_cases h : n < 96
  · rw [dif_pos ⟨hp, h⟩, dif_pos h, hfg h]
  · rw [dif_neg (fun k => h k.2), dif_neg h, InMath.ofInt_zero]

/-- A sum over 128 columns of which the last 32 add nothing. -/
theorem sum_padded (f : Fin 128 → EReal) (hf : ∀ d : Fin 128, 96 ≤ d.val → f d = 0) :
    ∑ d, f d = ∑ d : Fin 96, f ⟨d.val, by omega⟩ := by
  rw [show (∑ d, f d) = ∑ d : Fin (96 + 32), f d from rfl, Fin.sum_univ_add]
  rw [Finset.sum_eq_zero (s := Finset.univ) (f := fun i : Fin 32 => f (Fin.natAdd 96 i)) (fun i _ => hf _ (Nat.le_add_right 96 i.val)), add_zero]
  rfl

/-- The columns behind a head add nothing to its squares' sum. -/
theorem sum_sq (y : Fin 96 → EReal) : (∑ e, padded y e * padded y e) = ∑ e, y e * y e := by
  rw [sum_padded]
  · exact Finset.sum_congr rfl fun e _ => by simp only [padded, e.isLt, dif_pos]
  · intro e he
    simp only [padded, dif_neg (Nat.not_lt.mpr he), mul_zero]

/-- The kernel's head is the reference's: the normed head, rotated, times the scale. -/
theorem turned_eq (y g : Fin 96 → EReal) (cs sn : Fin 128 → EReal) (ht : Tables cs sn) {s : EReal} (h0 : 0 ≤ s) (h1 : s ≠ ⊤) (l : Fin 128) :
    turned (padded y) (padded g l * s * cs l) (partner y l * (partner g l * s * sn l)) l
      = padded (fun d => rope (norm width96 y g) cs sn d * s) l := by
  unfold turned
  rw [sum_sq, ← div_width96]
  have hn : 0 ≤ Ideal.div (∑ e, y e * y e) width96 := by
    rw [div_width96]
    exact mul_nonneg (Finset.sum_nonneg fun e _ => sq_nonneg _) (EReal.coe_nonneg.2 (by norm_num))
  obtain ⟨hr0, hr1⟩ := rsqrt_nonneg hn
  unfold norm
  generalize Ideal.rsqrt (Ideal.div (∑ e, y e * y e) width96 + FfnMath.eps) = r at hr0 hr1 ⊢
  rw [EReal.right_distrib_of_nonneg_of_ne_top hr0 hr1]
  unfold padded partner rope
  beta_reduce
  by_cases hA : l.val < 64
  · rw [dif_pos (by omega : l.val < 96), dif_pos (by omega : l.val < 96), dif_neg (by omega : ¬(64 ≤ l.val ∧ l.val < 80)), dif_neg (by omega : ¬(80 ≤ l.val ∧ l.val < 96)),
      dif_pos (by omega : l.val < 96), if_pos hA, ht.one l hA, zero_mul, zero_mul, add_zero, mul_one]
    ac_rfl
  · by_cases hB : l.val < 80
    · have hl : 64 ≤ l.val ∧ l.val < 80 := by omega
      rw [dif_pos (by omega : l.val < 96), dif_pos (by omega : l.val < 96), dif_pos hl, dif_pos hl, dif_pos (by omega : l.val < 96), if_neg hA, dif_pos hB, ht.sin l hl,
        sub_eq_add_neg, EReal.right_distrib_of_nonneg_of_ne_top h0 h1, ← mul_neg]
      congr 1 <;> ac_rfl
    · by_cases hC : l.val < 96
      · have hl : 80 ≤ l.val ∧ l.val < 96 := by omega
        have hk : ¬(64 ≤ l.val ∧ l.val < 80) := by omega
        have hc : cs l = cs ⟨l.val - 16, by omega⟩ := by
          rw [ht.cos ⟨l.val - 16, by omega⟩ ⟨by show 64 ≤ l.val - 16; omega, by show l.val - 16 < 80; omega⟩]
          exact congrArg cs (Fin.ext (by show l.val = l.val - 16 + 16; omega))
        rw [dif_pos hC, dif_pos hC, dif_neg hk, dif_neg hk, dif_pos hl, dif_pos hl, dif_pos hC, if_neg hA, dif_neg hB, EReal.right_distrib_of_nonneg_of_ne_top h0 h1, hc]
        congr 1 <;> ac_rfl
      · rw [dif_neg hC, dif_neg hC, dif_neg (by omega : ¬(64 ≤ l.val ∧ l.val < 80)), dif_neg (by omega : ¬(80 ≤ l.val ∧ l.val < 96)), dif_neg hC,
          zero_mul, zero_mul, zero_mul, zero_mul, add_zero]

/-- The same without a scale. -/
theorem turned_one (y g : Fin 96 → EReal) (cs sn : Fin 128 → EReal) (ht : Tables cs sn) (l : Fin 128) :
    turned (padded y) (padded g l * cs l) (partner y l * (partner g l * sn l)) l = padded (rope (norm width96 y g) cs sn) l := by
  have h := turned_eq y g cs sn ht (s := 1) zero_le_one (EReal.coe_ne_top 1) l
  simp only [mul_one] at h
  exact h

/-- One head's key from its 64 contracted columns and the 32 columns all heads share. -/
def keyRow (a : Fin 64 → EReal) (b : Fin 32 → EReal) (d : Fin 96) : EReal :=
  if h : d.val < 64 then a ⟨d.val, h⟩ else b ⟨d.val - 64, by omega⟩

/-- A contraction with padded weights is the contraction, padded. -/
theorem sum_mul_padded {n : ℕ} (h : Fin n → EReal) (w : Fin n → Fin 96 → EReal) (d : Fin 128) :
    ∑ k, h k * padded (w k) d = padded (fun e => ∑ k, h k * w k e) d := by
  unfold padded
  by_cases hd : d.val < 96
  · simp only [dif_pos hd]
  · simp only [dif_neg hd, mul_zero, Finset.sum_const_zero]

/-- A contraction with the weights' other halves is the other half of the contraction. -/
theorem sum_mul_partner {n : ℕ} (h : Fin n → EReal) (w : Fin n → Fin 96 → EReal) (d : Fin 128) :
    ∑ k, h k * partner (w k) d = partner (fun e => ∑ k, h k * w k e) d := by
  unfold partner
  by_cases hd : 64 ≤ d.val ∧ d.val < 80
  · simp only [dif_pos hd]
  · by_cases he : 80 ≤ d.val ∧ d.val < 96
    · simp only [dif_neg hd, dif_pos he]
    · simp only [dif_neg hd, dif_neg he, mul_zero, Finset.sum_const_zero]

end RopeMath

end
-- ==== Proof.InEvenRef.lean ====
/-
  The reference of the even layer's input projection at an element: groups of columns of the normalised row's projection
  as they are, and the queries and keys after the inner rows' norms, the second projections, the heads' norms and the
  rotation, every head in 128 columns with 32 zeros behind it.
-/
module

public import proofs.«01_k».proof.Proof.Gen.Reference6Ideal.Read
public import proofs.«01_k».proof.Proof.InEvenMath
public import Idealize.ShloMosaic.Lib.Pointwise

@[expose] public section

noncomputable section

open Idealize.ShloMosaic Idealize.ShloMosaic.TcCoe Idealize.SL.Sem

namespace Cert.Reference6Ideal.InEven
open Cert.Reference6Ideal Cert.Reference6Ideal.Gen Cert.Reference6Ideal.Read

variable (x0 : FVec Ideal S65536x1024 .f32) (x1 : FVec Ideal S1024 .f32) (x2 : FVec Ideal S1024x3760 .f32) (x3 x4 : FVec Ideal S65536x128 .f32)
  (x5 : FVec Ideal S384 .f32) (x6 : FVec Ideal S384x768 .f32) (x7 : FVec Ideal S256 .f32) (x8 : FVec Ideal S256x1024 .f32) (x9 x10 : FVec Ideal S96 .f32)

/-- The projected row at an element. -/
theorem proj_apply (r : Fin 65536) (j : Fin 3760) :
    val_main_v13 (F := Ideal) x0 x1 x2 (ix2 r j) = ∑ k : Fin 1024, FfnMath.normRow (fun k => x0 (ix2 r k)) (fun k => x1 (ix1 k)) k * x2 (ix2 k j) := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise [FfnMath.normRow]

/-- The queries' normed inner row at an element. -/
theorem qa_apply (r : Fin 65536) (j : Fin 384) :
    val_main_v31 (F := Ideal) x0 x1 x2 x5 (ix2 r j)
      = RopeMath.norm RopeMath.width384 (fun e : Fin 384 => val_main_v13 (F := Ideal) x0 x1 x2 (ix2 r ⟨3088 + e.val, by omega⟩)) (fun e => x5 (ix1 e)) j := by
  unfold val_main_v31 val_main_v30 val_main_v29 val_main_v28 val_main_v27 val_main_v26 val_main_v25 val_main_v24 val_main_v23 val_main_v22 val_main_v21 val_main_v20 val_main_v19 val_main_v17 val_main_cst_2 val_main_cst_3 val_main_cst_4
  generalize val_main_v13 (F := Ideal) x0 x1 x2 = y
  pointwise [RopeMath.norm]

/-- A head of the queries before its norm, at an element. -/
theorem yq_apply (r : Fin 65536) (h : Fin 8) (d : Fin 96) :
    val_main_v33 (F := Ideal) x0 x1 x2 x5 x6 (ix3 r h d)
      = ∑ k : Fin 384, val_main_v31 (F := Ideal) x0 x1 x2 x5 (ix2 r k) * x6 (ix2 k ⟨h.val * 96 + d.val, by omega⟩) := by
  unfold val_main_v33 val_main_v32
  generalize val_main_v31 (F := Ideal) x0 x1 x2 x5 = y
  pointwise

/-- The keys' and values' normed inner row at an element. -/
theorem kvc_apply (r : Fin 65536) (j : Fin 256) :
    val_main_v48 (F := Ideal) x0 x1 x2 x7 (ix2 r j)
      = RopeMath.norm RopeMath.width256 (fun e : Fin 256 => val_main_v13 (F := Ideal) x0 x1 x2 (ix2 r ⟨3472 + e.val, by omega⟩)) (fun e => x7 (ix1 e)) j := by
  unfold val_main_v48 val_main_v47 val_main_v46 val_main_v45 val_main_v44 val_main_v43 val_main_v42 val_main_v41 val_main_v40 val_main_v39 val_main_v38 val_main_v37 val_main_v36 val_main_v34 val_main_v18 val_main_cst_5 val_main_cst_6 val_main_cst_7
  generalize val_main_v13 (F := Ideal) x0 x1 x2 = y
  pointwise [RopeMath.norm]

/-- The second projection of the keys and values at an element. -/
theorem kv_apply (r : Fin 65536) (j : Fin 1024) :
    val_main_v49 (F := Ideal) x0 x1 x2 x7 x8 (ix2 r j) = ∑ k : Fin 256, val_main_v48 (F := Ideal) x0 x1 x2 x7 (ix2 r k) * x8 (ix2 k j) := by
  unfold val_main_v49
  generalize val_main_v48 (F := Ideal) x0 x1 x2 x7 = y
  pointwise

/-- A head of the keys before its norm, at an element. -/
theorem yk_apply (r : Fin 65536) (h : Fin 8) (d : Fin 96) :
    val_main_v55 (F := Ideal) x0 x1 x2 x7 x8 (ix3 r h d)
      = RopeMath.keyRow (fun e => val_main_v49 (F := Ideal) x0 x1 x2 x7 x8 (ix2 r ⟨h.val * 128 + e.val, by omega⟩))
        (fun e => val_main_v13 (F := Ideal) x0 x1 x2 (ix2 r ⟨3728 + e.val, by omega⟩)) d := by
  unfold val_main_v55 val_main_v54 val_main_v53 val_main_v51 val_main_v50 val_main_v35 val_main_v18
  generalize val_main_v49 (F := Ideal) x0 x1 x2 x7 x8 = z
  generalize val_main_v13 (F := Ideal) x0 x1 x2 = y
  pointwise [RopeMath.keyRow]
  by_cases h1 : d.val < 64
  · rw [dif_pos h1, dif_pos h1]
  · rw [dif_neg h1, dif_neg h1]
    exact congrArg (fun j => y (ix2 r j)) (Fin.ext (by show 3472 + (256 + (d.val - 64)) = 3728 + (d.val - 64); omega))

/-- A head of the queries after its norm, at an element. -/
theorem nq_apply (r : Fin 65536) (h : Fin 8) (d : Fin 96) :
    val_main_v68 (F := Ideal) x0 x1 x2 x5 x6 x9 (ix3 r h d)
      = RopeMath.norm RopeMath.width96 (fun e => val_main_v33 (F := Ideal) x0 x1 x2 x5 x6 (ix3 r h e)) (fun e => x9 (ix1 e)) d := by
  unfold val_main_v68 val_main_v67 val_main_v66 val_main_v65 val_main_v64 val_main_v63 val_main_v62 val_main_v61 val_main_v60 val_main_v59 val_main_v58 val_main_v57 val_main_v56 val_main_cst_8 val_main_cst_9 val_main_cst_10
  generalize val_main_v33 (F := Ideal) x0 x1 x2 x5 x6 = y
  pointwise [RopeMath.norm]

/-- A head of the keys after its norm, at an element. -/
theorem nk_apply (r : Fin 65536) (h : Fin 8) (d : Fin 96) :
    val_main_v81 (F := Ideal) x0 x1 x2 x7 x8 x10 (ix3 r h d)
      = RopeMath.norm RopeMath.width96 (fun e => val_main_v55 (F := Ideal) x0 x1 x2 x7 x8 (ix3 r h e)) (fun e => x10 (ix1 e)) d := by
  unfold val_main_v81 val_main_v80 val_main_v79 val_main_v78 val_main_v77 val_main_v76 val_main_v75 val_main_v74 val_main_v73 val_main_v72 val_main_v71 val_main_v70 val_main_v69 val_main_cst_11 val_main_cst_12 val_main_cst_13
  generalize val_main_v55 (F := Ideal) x0 x1 x2 x7 x8 = y
  pointwise [RopeMath.norm]

/-- A head of the queries after its rotation, at an element. -/
theorem rq_apply (r : Fin 65536) (h : Fin 8) (d : Fin 96) :
    val_main_v101 (F := Ideal) x0 x1 x2 x3 x4 x5 x6 x9 (ix3 r h d)
      = RopeMath.rope (fun e => val_main_v68 (F := Ideal) x0 x1 x2 x5 x6 x9 (ix3 r h e)) (fun e => x3 (ix2 r e)) (fun e => x4 (ix2 r e)) d := by
  unfold val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82
  generalize val_main_v68 (F := Ideal) x0 x1 x2 x5 x6 x9 = y
  pointwise [RopeMath.rope]
  by_cases h1 : d.val < 64
  · rw [dif_pos h1, if_pos h1]
  · rw [dif_neg h1, if_neg h1]
    by_cases h2 : d.val < 80
    · rw [dif_pos (show d.val - 64 < 16 by omega), dif_pos h2]
      simp only [show 64 + (d.val - 64) = d.val by omega, show 64 + (16 + (d.val - 64)) = d.val + 16 by omega, show 80 + (d.val - 64) = d.val + 16 by omega]
    · rw [dif_neg (show ¬d.val - 64 < 16 by omega), dif_neg h2]
      simp only [show 64 + (16 + (d.val - 64 - 16)) = d.val by omega, show 64 + (d.val - 64 - 16) = d.val - 16 by omega, show 80 + (d.val - 64 - 16) = d.val by omega]

/-- A head of the keys after its rotation, at an element. -/
theorem rk_apply (r : Fin 65536) (h : Fin 8) (d : Fin 96) :
    val_main_v117 (F := Ideal) x0 x1 x2 x3 x4 x7 x8 x10 (ix3 r h d)
      = RopeMath.rope (fun e => val_main_v81 (F := Ideal) x0 x1 x2 x7 x8 x10 (ix3 r h e)) (fun e => x3 (ix2 r e)) (fun e => x4 (ix2 r e)) d := by
  unfold val_main_v117 val_main_v116 val_main_v115 val_main_v114 val_main_v113 val_main_v112 val_main_v111 val_main_v110 val_main_v109 val_main_v108 val_main_v107 val_main_v106 val_main_v105 val_main_v104 val_main_v103 val_main_v102 val_main_v85 val_main_v84 val_main_v83 val_main_v82
  generalize val_main_v81 (F := Ideal) x0 x1 x2 x7 x8 x10 = y
  pointwise [RopeMath.rope]
  by_cases h1 : d.val < 64
  · rw [dif_pos h1, if_pos h1]
  · rw [dif_neg h1, if_neg h1]
    by_cases h2 : d.val < 80
    · rw [dif_pos (show d.val - 64 < 16 by omega), dif_pos h2]
      simp only [show 64 + (d.val - 64) = d.val by omega, show 64 + (16 + (d.val - 64)) = d.val + 16 by omega, show 80 + (d.val - 64) = d.val + 16 by omega]
    · rw [dif_neg (show ¬d.val - 64 < 16 by omega), dif_neg h2]
      simp only [show 64 + (16 + (d.val - 64 - 16)) = d.val by omega, show 64 + (d.val - 64 - 16) = d.val - 16 by omega, show 80 + (d.val - 64 - 16) = d.val by omega]

/-- The first group of columns at an element. -/
theorem z_apply (r : Fin 65536) (l : Fin 1024) :
    val_main_v120 (F := Ideal) x0 x1 x2 (ix2 r l) = val_main_v13 (F := Ideal) x0 x1 x2 (ix2 r ⟨l.val, by omega⟩) := by
  unfold val_main_v120 val_main_v14
  generalize val_main_v13 (F := Ideal) x0 x1 x2 = y
  pointwise

/-- The second group of columns at an element. -/
theorem xbc_apply (r : Fin 65536) (l : Fin 2048) :
    val_main_v121 (F := Ideal) x0 x1 x2 (ix2 r l) = val_main_v13 (F := Ideal) x0 x1 x2 (ix2 r ⟨1024 + l.val, by omega⟩) := by
  unfold val_main_v121 val_main_v15
  generalize val_main_v13 (F := Ideal) x0 x1 x2 = y
  pointwise

/-- The third group of columns at an element. -/
theorem dt_apply (r : Fin 65536) (l : Fin 128) :
    val_main_v122 (F := Ideal) x0 x1 x2 (ix2 r l) = if h : l.val < 16 then val_main_v13 (F := Ideal) x0 x1 x2 (ix2 r ⟨3072 + l.val, by omega⟩) else 0 := by
  unfold val_main_v122 val_main_v16 val_main_call0_v0 val_main_c
  generalize val_main_v13 (F := Ideal) x0 x1 x2 = y
  pointwise [InMath.ofInt_zero]

/-- The queries at an element. -/
theorem q_apply (r : Fin 65536) (l : Fin 1024) :
    val_main_v125 (F := Ideal) x0 x1 x2 x3 x4 x5 x6 x9 (ix2 r l) = RopeMath.padded (fun d =>
      val_main_v101 (F := Ideal) x0 x1 x2 x3 x4 x5 x6 x9 (ix3 r ⟨l.val / 128, by omega⟩ d) * RopeMath.scale96) ⟨l.val % 128, by omega⟩ := by
  unfold val_main_v125 val_main_v124 val_main_v123 val_main_v119 val_main_v118 val_main_cst_14 val_main_call1_v0 val_main_c_15
  generalize val_main_v101 (F := Ideal) x0 x1 x2 x3 x4 x5 x6 x9 = y
  pointwise [RopeMath.padded]
  exact RopeMath.dite_head (by omega) _ _ fun _ => rfl

/-- The keys at an element. -/
theorem k_apply (r : Fin 65536) (l : Fin 1024) :
    val_main_v128 (F := Ideal) x0 x1 x2 x3 x4 x7 x8 x10 (ix2 r l) = RopeMath.padded (fun d =>
      val_main_v117 (F := Ideal) x0 x1 x2 x3 x4 x7 x8 x10 (ix3 r ⟨l.val / 128, by omega⟩ d)) ⟨l.val % 128, by omega⟩ := by
  unfold val_main_v128 val_main_v127 val_main_v126 val_main_call2_v0 val_main_c_16
  generalize val_main_v117 (F := Ideal) x0 x1 x2 x3 x4 x7 x8 x10 = y
  pointwise [RopeMath.padded]
  exact RopeMath.dite_head (by omega) _ _ fun _ => rfl

/-- The values at an element. -/
theorem v_apply (r : Fin 65536) (l : Fin 512) :
    val_main_v130 (F := Ideal) x0 x1 x2 x7 x8 (ix2 r l) = val_main_v49 (F := Ideal) x0 x1 x2 x7 x8 (ix2 r ⟨l.val / 64 * 128 + (64 + l.val % 64), by omega⟩) := by
  unfold val_main_v130 val_main_v129 val_main_v52 val_main_v50
  generalize val_main_v49 (F := Ideal) x0 x1 x2 x7 x8 = y
  pointwise

end Cert.Reference6Ideal.InEven

end
-- ==== Proof.InEvenRun.lean ====
/-
  The result arrays of the even layer's input projection after a run: each is its blocks, written point by point.
-/
module

public import proofs.«01_k».proof.Proof.InEvenFrame
public import Idealize.ShloMosaic.Lib.Pipeline.Value

@[expose] public section

noncomputable section

namespace Cert.Kernel6Ideal.Value

open Cert.Kernel6Ideal Cert.Kernel6Ideal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 17's array: the body's result for that window (`Gen.out0_17`: its stores
    as pieces over the input windows' blocks), read through the window's block. -/
theorem flushed17 (c : Dev nD) (t : Fin cfg0.N) :
    (dats m 0 c).flushed 17 t = (cfg0.win 17).cut (grid0.coords t) (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 17).cut (grid0.coords t) ((dats m 0 c).after 17 t) = _
  rw [after0_17]

/-- The index map sends distinct grid points to distinct block indices (decided over the 64 points). -/
theorem idx_inj17 : ∀ t t' : Fin cfg0.N, win0_17.index t = win0_17.index t' → t = t' :=
  (by decide +kernel : ∀ t t' : Fin grid0.N, win0_17.index t = win0_17.index t' → t = t')

/-- So two flushing points' blocks share no array index (the library's `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- An index that no flushing point's block covers keeps output window 17's array contents at region entry. -/
theorem entry17 (c : Dev nD) (i : S65536x1024.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- WHAT POINT `t` WRITES BACK to output window 18's array: the body's result for that window (`Gen.out0_18`: its stores
    as pieces over the input windows' blocks), read through the window's block. -/
theorem flushed18 (c : Dev nD) (t : Fin cfg0.N) :
    (dats m 0 c).flushed 18 t = (cfg0.win 18).cut (grid0.coords t) (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 18).cut (grid0.coords t) ((dats m 0 c).after 18 t) = _
  rw [after0_18]

/-- The index map sends distinct grid points to distinct block indices (decided over the 64 points). -/
theorem idx_inj18 : ∀ t t' : Fin cfg0.N, win0_18.index t = win0_18.index t' → t = t' :=
  (by decide +kernel : ∀ t t' : Fin grid0.N, win0_18.index t = win0_18.index t' → t = t')

/-- So two flushing points' blocks share no array index (the library's `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S65536x2048.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- WHAT POINT `t` WRITES BACK to output window 19's array: the body's result for that window (`Gen.out0_19`: its stores
    as pieces over the input windows' blocks), read through the window's block. -/
theorem flushed19 (c : Dev nD) (t : Fin cfg0.N) :
    (dats m 0 c).flushed 19 t = (cfg0.win 19).cut (grid0.coords t) (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 19).cut (grid0.coords t) ((dats m 0 c).after 19 t) = _
  rw [after0_19]

/-- The index map sends distinct grid points to distinct block indices (decided over the 64 points). -/
theorem idx_inj19 : ∀ t t' : Fin cfg0.N, win0_19.index t = win0_19.index t' → t = t' :=
  (by decide +kernel : ∀ t t' : Fin grid0.N, win0_19.index t = win0_19.index t' → t = t')

/-- So two flushing points' blocks share no array index (the library's `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S65536x128.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- WHAT POINT `t` WRITES BACK to output window 20's array: the body's result for that window (`Gen.out0_20`: its stores
    as pieces over the input windows' blocks), read through the window's block. -/
theorem flushed20 (c : Dev nD) (t : Fin cfg0.N) :
    (dats m 0 c).flushed 20 t = (cfg0.win 20).cut (grid0.coords t) (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 20).cut (grid0.coords t) ((dats m 0 c).after 20 t) = _
  rw [after0_20]

/-- The index map sends distinct grid points to distinct block indices (decided over the 64 points). -/
theorem idx_inj20 : ∀ t t' : Fin cfg0.N, win0_20.index t = win0_20.index t' → t = t' :=
  (by decide +kernel : ∀ t t' : Fin grid0.N, win0_20.index t = win0_20.index t' → t = t')

/-- So two flushing points' blocks share no array index (the library's `Window.disjoint_blk`). -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- BLOCK `t` OF THE FINAL ARRAY, read back through the window, is what point `t` wrote back (`flushed20`), for every
    point that writes back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- An index that no flushing point's block covers keeps output window 20's array contents at region entry. -/
theorem entry20 (c : Dev nD) (i : S65536x1024.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- WHAT POINT `t` WRITES BACK to output window 21's array: the body's result for that window (`Gen.out0_21`: its stores
    as pieces over the input windows' blocks), read through the window's block. -/
theorem flushed21 (c : Dev nD) (t : Fin cfg0.N) :
    (dats m 0 c).flushed 21 t = (cfg0.win 21).cut (grid0.coords t) (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 21).cut (grid0.coords t) ((dats m 0 c).after 21 t) = _
  rw [after0_21]

/-- The index map sends distinct grid points to distinct block indices (decided over the 64 points). -/
theorem idx_inj21 : ∀ t t' : Fin cfg0.N, win0_21.index t = win0_21.index t' → t = t' :=
  (by decide +kernel : ∀ t t' : Fin grid0.N, win0_21.index t = win0_21.index t' → t = t')

/-- So two flushing points' blocks share no array index (the library's `Window.disjoint_blk`). -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

/-- BLOCK `t` OF THE FINAL ARRAY, read back through the window, is what point `t` wrote back (`flushed21`), for every
    point that writes back: no other point's block meets it. -/
theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

/-- An index that no flushing point's block covers keeps output window 21's array contents at region entry. -/
theorem entry21 (c : Dev nD) (i : S65536x1024.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

/-- WHAT POINT `t` WRITES BACK to output window 22's array: the body's result for that window (`Gen.out0_22`: its stores
    as pieces over the input windows' blocks), read through the window's block. -/
theorem flushed22 (c : Dev nD) (t : Fin cfg0.N) :
    (dats m 0 c).flushed 22 t = (cfg0.win 22).cut (grid0.coords t) (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 22).cut (grid0.coords t) ((dats m 0 c).after 22 t) = _
  rw [after0_22]

/-- The index map sends distinct grid points to distinct block indices (decided over the 64 points). -/
theorem idx_inj22 : ∀ t t' : Fin cfg0.N, win0_22.index t = win0_22.index t' → t = t' :=
  (by decide +kernel : ∀ t t' : Fin grid0.N, win0_22.index t = win0_22.index t' → t = t')

/-- So two flushing points' blocks share no array index (the library's `Window.disjoint_blk`). -/
theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

/-- BLOCK `t` OF THE FINAL ARRAY, read back through the window, is what point `t` wrote back (`flushed22`), for every
    point that writes back: no other point's block meets it. -/
theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

/-- An index that no flushing point's block covers keeps output window 22's array contents at region entry. -/
theorem entry22 (c : Dev nD) (i : S65536x512.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v77_0) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v77_1) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v77_2) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v77_3) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v77_4) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v77_5) = (dats m 0 c).arrAt 22 cfg0.N :=
  (h c).1 22

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 8 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 8).trans (((dats m 0 c).arrAt_in 8 rfl _).trans ((A_eq m c 8).trans (V_main_arg3 m c)))

/-- After the frame run, argument `main_arg4` is as launched: input window 9 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 9).trans (((dats m 0 c).arrAt_in 9 rfl _).trans ((A_eq m c 9).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

set_option maxHeartbeats 214860 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v77_0) = (dats m 0 c).arrAt 17 cfg0.N
      ∧ r.2.mem ((c : Thread nD τ).loc main_v77_1) = (dats m 0 c).arrAt 18 cfg0.N
      ∧ r.2.mem ((c : Thread nD τ).loc main_v77_2) = (dats m 0 c).arrAt 19 cfg0.N
      ∧ r.2.mem ((c : Thread nD τ).loc main_v77_3) = (dats m 0 c).arrAt 20 cfg0.N
      ∧ r.2.mem ((c : Thread nD τ).loc main_v77_4) = (dats m 0 c).arrAt 21 cfg0.N
      ∧ r.2.mem ((c : Thread nD τ).loc main_v77_5) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post17 m r h c,
      post18 m r h c,
      post19 m r h c,
      post20 m r h c,
      post21 m r h c,
      post22 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.Kernel6Ideal.Value

end
-- ==== Proof.InEvenGather.lean ====
/-
  Program Kernel6 (an even layer's input projection): the columns that the rotation pairs, as the program takes them —
  by a table of 128 column numbers, and a table of ones and zeros that keeps 32 of the columns.
-/
module

public import proofs.«01_k».proof.Proof.InEvenRun
public import proofs.«01_k».proof.Proof.InEvenMath
public import Idealize.ShloMosaic.Lib.IdealHost
public import Idealize.ShloMosaic.Lib.Pointwise

@[expose] public section

noncomputable section

open Idealize.ShloMosaic Idealize.ShloMosaic.TcCoe Idealize.SL.Sem

namespace Cert.Kernel6Ideal.InEven
open Cert.Kernel6Ideal Cert.Kernel6Ideal.Gen

/-- A gather of single columns along the last of three axes, at an element: the operand at the column the table names. -/
theorem gather_columns {A B : ℕ} {α : Type} (G : GatherDims ⟨3, ![A, B, 128]⟩ ⟨2, ![128, 1]⟩ ⟨3, ![A, B, 128]⟩)
    (h1 : G.offsetDims = [0, 1]) (h2 : G.collapsedSliceDims = [2]) (h3 : G.operandBatchingDims = []) (h4 : G.startIndicesBatchingDims = [])
    (h5 : G.startIndexMap = [2]) (h6 : G.indexVectorDim = 1) (h7 : G.sliceSizes = ![A, B, 1])
    (x : (⟨3, ![A, B, 128]⟩ : Shape).Idx → α) (idx : IVec ⟨2, ![128, 1]⟩ 32) (a : Fin A) (b : Fin B) (l : Fin 128) :
    Host.gather G x idx (ix3 a b l) = x (ix3 a b ⟨min (idx (ix2 l 0)).toInt.toNat 127, by omega⟩) := by
  obtain ⟨o, c, ob, sb, sm, iv, ss, wf⟩ := G
  dsimp only at h1 h2 h3 h4 h5 h6 h7
  subst h1 h2 h3 h4 h5 h6 h7
  unfold Host.gather
  congr 1
  funext d
  refine Fin.ext ?_
  have hd : d = 0 ∨ d = 1 ∨ d = 2 := by
    match d with
    | ⟨0, _⟩ => exact Or.inl rfl
    | ⟨1, _⟩ => exact Or.inr (Or.inl rfl)
    | ⟨2, _⟩ => exact Or.inr (Or.inr rfl)
  show GatherDims.start _ _ _ _ + GatherDims.batchCoord _ _ _ + GatherDims.offCoord _ _ _ = _
  rw [GatherDims.batchCoord_eq_zero _ _ _ List.not_mem_nil]
  rcases hd with rfl | rfl | rfl
  · unfold GatherDims.start GatherDims.offCoord
    rw [dif_neg (show ¬(0 : Fin 3) ∈ [2] by decide), dif_pos ((GatherDims.mem_sKept _ _).mpr (show (0 : Fin 3) ∉ [2] ∧ (0 : Fin 3) ∉ [] by decide))]
    simp only [Nat.zero_add]
    rfl
  · unfold GatherDims.start GatherDims.offCoord
    rw [dif_neg (show ¬(1 : Fin 3) ∈ [2] by decide), dif_pos ((GatherDims.mem_sKept _ _).mpr (show (1 : Fin 3) ∉ [2] ∧ (1 : Fin 3) ∉ [] by decide))]
    simp only [Nat.zero_add]
    rfl
  · rw [GatherDims.offCoord_eq_zero _ _ _ (fun h => ((GatherDims.mem_sKept _ _).mp h).1 (show (2 : Fin 3) ∈ [2] by decide))]
    simp only [Nat.add_zero]
    unfold GatherDims.start
    rw [dif_pos (show (2 : Fin 3) ∈ [2] by decide)]
    refine congrArg (fun i => min (idx i).toInt.toNat 127) ?_
    funext e
    refine Fin.ext ?_
    match e with
    | ⟨0, _⟩ => rfl
    | ⟨1, _⟩ => rfl

/-- The column that the rotation pairs with column `l`, and column 0 where it pairs none. -/
def src (l : Fin 128) : Fin 128 :=
  if h : 64 ≤ l.val ∧ l.val < 80 then ⟨l.val + 16, by omega⟩ else if h : 80 ≤ l.val ∧ l.val < 96 then ⟨l.val - 16, by omega⟩ else 0

/-- The number 1 for the 32 columns of the rotation, the number 0 for the others. -/
def keep (l : Fin 128) : BitVec 32 := if 64 ≤ l.val ∧ l.val < 96 then 0x3F800000#32 else 0x00000000#32

/-- The program's four pairs of tables hold these numbers. -/
theorem tables : ∀ l : Fin 128, ((lit1 l).toInt.toNat = (src l).val ∧ (lit3 l).toInt.toNat = (src l).val ∧ (lit5 l).toInt.toNat = (src l).val ∧ (lit7 l).toInt.toNat = (src l).val)
    ∧ (lit0 l = keep l ∧ lit2 l = keep l ∧ lit4 l = keep l ∧ lit6 l = keep l) := by decide +kernel

/-- The column paired with column `l`, times the table's number. -/
theorem paired (f : Fin 96 → EReal) (l : Fin 128) : RopeMath.padded f (src l) * Ideal.ofBits .f32 (keep l) = RopeMath.partner f l := by
  unfold src keep RopeMath.partner
  by_cases h : 64 ≤ l.val ∧ l.val < 80
  · rw [dif_pos h, if_pos (by omega), dif_pos h, Ideal.ofBits_one_f32, mul_one]
    exact dif_pos (show l.val + 16 < 96 by omega)
  · rw [dif_neg h, dif_neg h]
    by_cases h' : 80 ≤ l.val ∧ l.val < 96
    · rw [dif_pos h', if_pos (by omega), dif_pos h', Ideal.ofBits_one_f32, mul_one]
      exact dif_pos (show l.val - 16 < 96 by omega)
    · rw [dif_neg h', if_neg (by omega), dif_neg h', Ideal.ofBits_zero_f32, mul_zero]

/-- The index of a table's row is its number. -/
theorem row_eq (l : Fin 128) : S128.rowMajor (ix1 l) = l :=
  Fin.ext ((by decide +kernel : ∀ l : Fin 128, (S128.rowMajor (ix1 l)).val = l.val) l)

/-- The columns with zeros behind them, the zero written as the programs write it. -/
theorem padded_eq (f : Fin 96 → EReal) (d : Fin 128) :
    RopeMath.padded f d = if h : d.val < 96 then f ⟨d.val, h⟩ else FloatOps.sitofp (F := Ideal) .f32 (0#32) := by
  rw [InMath.ofInt_zero]
  rfl

/-- The paired columns as the program takes them: a gather by a table of columns, times a table's ones and zeros. -/
theorem gather_partner {A B : ℕ} (G : GatherDims ⟨3, ![A, B, 128]⟩ ⟨2, ![128, 1]⟩ ⟨3, ![A, B, 128]⟩)
    (h1 : G.offsetDims = [0, 1]) (h2 : G.collapsedSliceDims = [2]) (h3 : G.operandBatchingDims = []) (h4 : G.startIndicesBatchingDims = [])
    (h5 : G.startIndexMap = [2]) (h6 : G.indexVectorDim = 1) (h7 : G.sliceSizes = ![A, B, 1])
    (x : (⟨3, ![A, B, 128]⟩ : Shape).Idx → EReal) (T K : Fin 128 → BitVec 32) (M : IVec S128 32) (a : Fin A) (b : Fin B) (l : Fin 128)
    (f : Fin 96 → EReal) (hx : ∀ d, x (ix3 a b d) = RopeMath.padded f d) (hT : (T l).toInt.toNat = (src l).val) (hK : K l = keep l) :
    Host.gather G x (broadcastInDim S128x1 ![0] bcast_S128_S128x1_0 (select (constantI S128 1 0#1) M fun i => T (S128.rowMajor i))) (ix3 a b l)
      * Ideal.ofBits .f32 (K (S128.rowMajor (ix1 l))) = RopeMath.partner f l := by
  rw [gather_columns G h1 h2 h3 h4 h5 h6 h7, row_eq, hK, hx, ← paired]
  refine congrArg (fun i => RopeMath.padded f i * Ideal.ofBits .f32 (keep l)) (Fin.ext ?_)
  show min (T (S128.rowMajor _)).toInt.toNat 127 = (src l).val
  refine (congrArg (fun i => min (T (S128.rowMajor i)).toInt.toNat 127) (show _ = ix1 l from ?_)).trans ?_
  · funext e
    obtain rfl : e = 0 := Subsingleton.elim _ _
    rfl
  · rw [row_eq, hT]
    have := (src l).isLt
    omega

/-- The 32 columns all heads share, with zeros before and behind them. -/
theorem shared_head (b : Fin 32 → EReal) (d : Fin 128) :
    (if h : 64 ≤ d.val ∧ d.val - 64 < 32 then b ⟨d.val - 64, h.2⟩ else 0) = RopeMath.padded (RopeMath.keyRow (fun _ => 0) b) d := by
  unfold RopeMath.padded RopeMath.keyRow
  by_cases h : d.val < 96
  · rw [dif_pos h]
    by_cases h' : d.val < 64
    · rw [dif_neg (by omega), dif_pos h']
    · rw [dif_pos (by omega), dif_neg h']
  · rw [dif_neg (by omega), dif_neg h]

end Cert.Kernel6Ideal.InEven

end
-- ==== Proof.InEvenArgs.lean ====
/-
  Program Kernel6 (an even layer's input projection) at the extended reals: what each operand of the call holds, element by
  element, as a function of the program's arguments, and what block of it a grid point sees.
-/
module

public import proofs.«01_k».proof.Proof.InEvenRun
public import proofs.«01_k».proof.Proof.InEvenGather
public import Idealize.ShloMosaic.Lib.Pipeline.ValueKit
public import Idealize.ShloMosaic.Lib.StableHlo.RunRead
public import Idealize.ShloMosaic.Lib.Pointwise

@[expose] public section

noncomputable section

open Idealize.ShloMosaic Idealize.ShloMosaic.TcCoe Idealize.SL.Sem
open Idealize.ShloMosaic.Pipeline (Dat)

namespace Cert.Kernel6Ideal.InEven
open Cert.Kernel6Ideal Cert.Kernel6Ideal.Gen

variable (m : (ℓ : Loc nD τ sig) → Buf (Elt Ideal) ℓ)

/-- The rows, the norm's gain, the stacked weights, the tables of the rotation, and the gains and weights of the queries
    and of the keys and values. -/
abbrev argX (c : Dev nD) : FVec Ideal S65536x1024 .f32 := m ((c : Thread nD τ).loc main_arg0)
abbrev argG (c : Dev nD) : FVec Ideal S1024 .f32 := m ((c : Thread nD τ).loc main_arg1)
abbrev argW (c : Dev nD) : FVec Ideal S1024x3760 .f32 := m ((c : Thread nD τ).loc main_arg2)
abbrev argCos (c : Dev nD) : FVec Ideal S65536x128 .f32 := m ((c : Thread nD τ).loc main_arg3)
abbrev argSin (c : Dev nD) : FVec Ideal S65536x128 .f32 := m ((c : Thread nD τ).loc main_arg4)
abbrev argQA (c : Dev nD) : FVec Ideal S384 .f32 := m ((c : Thread nD τ).loc main_arg5)
abbrev argWQ (c : Dev nD) : FVec Ideal S384x768 .f32 := m ((c : Thread nD τ).loc main_arg6)
abbrev argKA (c : Dev nD) : FVec Ideal S256 .f32 := m ((c : Thread nD τ).loc main_arg7)
abbrev argWK (c : Dev nD) : FVec Ideal S256x1024 .f32 := m ((c : Thread nD τ).loc main_arg8)
abbrev argQN (c : Dev nD) : FVec Ideal S96 .f32 := m ((c : Thread nD τ).loc main_arg9)
abbrev argKN (c : Dev nD) : FVec Ideal S96 .f32 := m ((c : Thread nD τ).loc main_arg10)

/-- Which block of its array each window holds at a grid point. -/
theorem index : ∀ t : Fin grid0.N, win0_0.index t = ![t.val, 0] ∧ win0_1.index t = ![0, 0] ∧ win0_2.index t = ![0, 0] ∧ win0_3.index t = ![0, 0] ∧ win0_4.index t = ![0, 0]
  ∧ win0_5.index t = ![0, 0] ∧ win0_6.index t = ![0, 0] ∧ win0_7.index t = ![0, 0] ∧ win0_8.index t = ![t.val, 0] ∧ win0_9.index t = ![t.val, 0] ∧ win0_10.index t = ![0, 0]
  ∧ win0_11.index t = ![0, 0] ∧ win0_12.index t = ![0, 0] ∧ win0_13.index t = ![0, 0] ∧ win0_14.index t = ![0, 0] ∧ win0_15.index t = ![0, 0] ∧ win0_16.index t = ![0, 0]
  ∧ win0_17.index t = ![t.val, 0] ∧ win0_18.index t = ![t.val, 0] ∧ win0_19.index t = ![t.val, 0] ∧ win0_20.index t = ![t.val, 0] ∧ win0_21.index t = ![t.val, 0] ∧ win0_22.index t = ![t.val, 0] := by decide +kernel

variable (c : Dev nD) (t : Fin cfg0.N)

/-- A grid point's rows lie in the array. -/
theorem point_lt (t : Fin cfg0.N) (r : Fin 1024) : t.val * 1024 + r.val < 65536 := by
  have h := t.isLt
  have e : cfg0.N = 64 := N_0
  omega

/-- The rows a grid point sees. -/
theorem in0 (r : Fin 1024) (k : Fin 1024) : iblk m c 0 t (ix2 r k) = argX m c (ix2 ⟨t.val * 1024 + r.val, point_lt t r⟩ k) := by
  blk_ext! [iblk, V, index t]

/-- The cosines a grid point sees. -/
theorem in8 (r : Fin 1024) (k : Fin 128) : iblk m c 8 t (ix2 r k) = argCos m c (ix2 ⟨t.val * 1024 + r.val, point_lt t r⟩ k) := by
  blk_ext! [iblk, V, index t]

/-- The sines a grid point sees. -/
theorem in9 (r : Fin 1024) (k : Fin 128) : iblk m c 9 t (ix2 r k) = argSin m c (ix2 ⟨t.val * 1024 + r.val, point_lt t r⟩ k) := by
  blk_ext! [iblk, V, index t]

/-- The norm's gain, as the host operations leave it. -/
theorem host1 (j : Fin 1024) : (V m c main_v76 : FVec Ideal S1x1024 .f32) (ix2 0 j) = argG m c (ix1 j) := by
  dsimp only [V]
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_reads_simp
  pointwise

/-- The norm's gain. -/
theorem in1 (j : Fin 1024) : iblk m c 1 t (ix2 0 j) = argG m c (ix1 j) := by
  rw [← host1]
  blk_ext! [iblk, index t]

/-- The weights of the first group of columns, as the host operations leave it. -/
theorem host2 (k : Fin 1024) (j : Fin 1024) : (V m c main_v19 : FVec Ideal S1024x1024 .bf16) (ix2 k j) = argW m c (ix2 k ⟨j.val, by omega⟩) := by
  dsimp only [V]
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_reads_simp
  pointwise

/-- The weights of the first group of columns. -/
theorem in2 (k : Fin 1024) (j : Fin 1024) : iblk m c 2 t (ix2 k j) = argW m c (ix2 k ⟨j.val, by omega⟩) := by
  rw [← host2]
  blk_ext! [iblk, index t]

/-- The weights of the second group of columns, as the host operations leave it. -/
theorem host3 (k : Fin 1024) (j : Fin 2048) : (V m c main_v20 : FVec Ideal S1024x2048 .bf16) (ix2 k j) = argW m c (ix2 k ⟨1024 + j.val, by omega⟩) := by
  dsimp only [V]
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_reads_simp
  pointwise

/-- The weights of the second group of columns. -/
theorem in3 (k : Fin 1024) (j : Fin 2048) : iblk m c 3 t (ix2 k j) = argW m c (ix2 k ⟨1024 + j.val, by omega⟩) := by
  rw [← host3]
  blk_ext! [iblk, index t]

/-- The weights of the third group of columns, as the host operations leave it. -/
theorem host4 (k : Fin 1024) (j : Fin 128) : (V m c main_v21 : FVec Ideal S1024x128 .bf16) (ix2 k j) = if h : j.val < 16 then argW m c (ix2 k ⟨3072 + j.val, by omega⟩) else 0 := by
  dsimp only [V]
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_reads_simp
  simp only [StableHlo.TRef.toBuf, StableHlo.TRef.ofBuf, cast_eq]
  pointwise [InMath.ofInt_zero]

/-- The weights of the third group of columns. -/
theorem in4 (k : Fin 1024) (j : Fin 128) : iblk m c 4 t (ix2 k j) = if h : j.val < 16 then argW m c (ix2 k ⟨3072 + j.val, by omega⟩) else 0 := by
  rw [← host4]
  blk_ext! [iblk, index t]

/-- The weights of the queries' inner row, as the host operations leave it. -/
theorem host5 (k : Fin 1024) (j : Fin 384) : (V m c main_v22 : FVec Ideal S1024x384 .bf16) (ix2 k j) = argW m c (ix2 k ⟨3088 + j.val, by omega⟩) := by
  dsimp only [V]
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_reads_simp
  pointwise

/-- The weights of the queries' inner row. -/
theorem in5 (k : Fin 1024) (j : Fin 384) : iblk m c 5 t (ix2 k j) = argW m c (ix2 k ⟨3088 + j.val, by omega⟩) := by
  rw [← host5]
  blk_ext! [iblk, index t]

/-- The weights of the keys' and values' inner row, as the host operations leave it. -/
theorem host6 (k : Fin 1024) (j : Fin 256) : (V m c main_v23 : FVec Ideal S1024x256 .bf16) (ix2 k j) = argW m c (ix2 k ⟨3472 + j.val, by omega⟩) := by
  dsimp only [V]
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_reads_simp
  pointwise

/-- The weights of the keys' and values' inner row. -/
theorem in6 (k : Fin 1024) (j : Fin 256) : iblk m c 6 t (ix2 k j) = argW m c (ix2 k ⟨3472 + j.val, by omega⟩) := by
  rw [← host6]
  blk_ext! [iblk, index t]

/-- The gain of the queries' inner row, as the host operations leave it. -/
theorem host10 (j : Fin 384) : (V m c main_v50 : FVec Ideal S1x384 .f32) (ix2 0 j) = argQA m c (ix1 j) := by
  dsimp only [V]
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_reads_simp
  pointwise

/-- The gain of the queries' inner row. -/
theorem in10 (j : Fin 384) : iblk m c 10 t (ix2 0 j) = argQA m c (ix1 j) := by
  rw [← host10]
  blk_ext! [iblk, index t]

/-- The gain of the keys' and values' inner row, as the host operations leave it. -/
theorem host11 (j : Fin 256) : (V m c main_v51 : FVec Ideal S1x256 .f32) (ix2 0 j) = argKA m c (ix1 j) := by
  dsimp only [V]
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_reads_simp
  pointwise

/-- The gain of the keys' and values' inner row. -/
theorem in11 (j : Fin 256) : iblk m c 11 t (ix2 0 j) = argKA m c (ix1 j) := by
  rw [← host11]
  blk_ext! [iblk, index t]

/-- The keys' weights, as the host operations leave it. -/
theorem host13 (k : Fin 256) (j : Fin 1024) : (V m c main_v46 : FVec Ideal S256x1024 .bf16) (ix2 k j) = InMath.padded (fun d => argWK m c (ix2 k ⟨j.val / 128 * 128 + d.val, by omega⟩)) ⟨j.val % 128, by omega⟩ := by
  dsimp only [V]
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_reads_simp
  simp only [StableHlo.TRef.toBuf, StableHlo.TRef.ofBuf, cast_eq]
  pointwise [InMath.padded]
  exact InMath.dite_head (by omega) _ _ fun _ => rfl

/-- The keys' weights. -/
theorem in13 (k : Fin 256) (j : Fin 1024) : iblk m c 13 t (ix2 k j) = InMath.padded (fun d => argWK m c (ix2 k ⟨j.val / 128 * 128 + d.val, by omega⟩)) ⟨j.val % 128, by omega⟩ := by
  rw [← host13]
  blk_ext! [iblk, index t]

/-- The values' weights, as the host operations leave it. -/
theorem host14 (k : Fin 256) (j : Fin 512) : (V m c main_v49 : FVec Ideal S256x512 .bf16) (ix2 k j) = argWK m c (ix2 k ⟨j.val / 64 * 128 + (64 + j.val % 64), by omega⟩) := by
  dsimp only [V]
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_reads_simp
  pointwise

/-- The values' weights. -/
theorem in14 (k : Fin 256) (j : Fin 512) : iblk m c 14 t (ix2 k j) = argWK m c (ix2 k ⟨j.val / 64 * 128 + (64 + j.val % 64), by omega⟩) := by
  rw [← host14]
  blk_ext! [iblk, index t]

end Cert.Kernel6Ideal.InEven

end
-- ==== Proof.InEvenArgsT.lean ====
/-
  Program Kernel6 (an even layer's input projection) at the extended reals: what the operands hold whose columns the
  rotation pairs.
-/
module

public import proofs.«01_k».proof.Proof.InEvenArgs
public import Idealize.ShloMosaic.Lib.Pipeline.ValueKit
public import Idealize.ShloMosaic.Lib.StableHlo.RunRead
public import Idealize.ShloMosaic.Lib.Pointwise

@[expose] public section

noncomputable section

open Idealize.ShloMosaic Idealize.ShloMosaic.TcCoe Idealize.SL.Sem
open Idealize.ShloMosaic.Pipeline (Dat)

namespace Cert.Kernel6Ideal.InEven
open Cert.Kernel6Ideal Cert.Kernel6Ideal.Gen

variable (m : (ℓ : Loc nD τ sig) → Buf (Elt Ideal) ℓ) (c : Dev nD) (t : Fin cfg0.N)

/-- The queries' head gain, as the host operations leave it. -/
theorem host15_0 (j : Fin 128) : (V m c main_v63 : FVec Ideal S1x256 .f32) (ix2 0 ⟨0 + j.val, by omega⟩) = RopeMath.padded (fun d => argQN m c (ix1 d)) j := by
  dsimp only [V]
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_reads_simp
  simp only [StableHlo.TRef.toBuf, StableHlo.TRef.ofBuf, cast_eq]
  pointwise [RopeMath.padded, InMath.ofInt_zero]

/-- The queries' head gain. -/
theorem in15_0 (j : Fin 128) : iblk m c 15 t (ix2 0 ⟨0 + j.val, by omega⟩) = RopeMath.padded (fun d => argQN m c (ix1 d)) j := by
  rw [← host15_0]
  blk_ext! [iblk, index t]

/-- The queries' head gain, its paired columns, as the host operations leave it. -/
theorem host15_1 (j : Fin 128) : (V m c main_v63 : FVec Ideal S1x256 .f32) (ix2 0 ⟨128 + j.val, by omega⟩) = RopeMath.partner (fun d => argQN m c (ix1 d)) j := by
  dsimp only [V]
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_reads_simp
  simp only [StableHlo.TRef.toBuf, StableHlo.TRef.ofBuf, cast_eq]
  pointwise
  exact gather_partner _ rfl rfl rfl rfl rfl rfl rfl _ _ _ _ 0 0 j _ (fun d => (padded_eq (fun d => argQN m c (ix1 d)) d).symm) (tables j).1.2.2.1 (tables j).2.2.2.1

/-- The queries' head gain, its paired columns. -/
theorem in15_1 (j : Fin 128) : iblk m c 15 t (ix2 0 ⟨128 + j.val, by omega⟩) = RopeMath.partner (fun d => argQN m c (ix1 d)) j := by
  rw [← host15_1]
  blk_ext! [iblk, index t]

/-- The keys' head gain, as the host operations leave it. -/
theorem host16_0 (j : Fin 128) : (V m c main_v75 : FVec Ideal S1x256 .f32) (ix2 0 ⟨0 + j.val, by omega⟩) = RopeMath.padded (fun d => argKN m c (ix1 d)) j := by
  dsimp only [V]
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_reads_simp
  simp only [StableHlo.TRef.toBuf, StableHlo.TRef.ofBuf, cast_eq]
  pointwise [RopeMath.padded, InMath.ofInt_zero]

/-- The keys' head gain. -/
theorem in16_0 (j : Fin 128) : iblk m c 16 t (ix2 0 ⟨0 + j.val, by omega⟩) = RopeMath.padded (fun d => argKN m c (ix1 d)) j := by
  rw [← host16_0]
  blk_ext! [iblk, index t]

/-- The keys' head gain, its paired columns, as the host operations leave it. -/
theorem host16_1 (j : Fin 128) : (V m c main_v75 : FVec Ideal S1x256 .f32) (ix2 0 ⟨128 + j.val, by omega⟩) = RopeMath.partner (fun d => argKN m c (ix1 d)) j := by
  dsimp only [V]
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_reads_simp
  simp only [StableHlo.TRef.toBuf, StableHlo.TRef.ofBuf, cast_eq]
  pointwise
  exact gather_partner _ rfl rfl rfl rfl rfl rfl rfl _ _ _ _ 0 0 j _ (fun d => (padded_eq (fun d => argKN m c (ix1 d)) d).symm) (tables j).1.2.2.2 (tables j).2.2.2.2

/-- The keys' head gain, its paired columns. -/
theorem in16_1 (j : Fin 128) : iblk m c 16 t (ix2 0 ⟨128 + j.val, by omega⟩) = RopeMath.partner (fun d => argKN m c (ix1 d)) j := by
  rw [← host16_1]
  blk_ext! [iblk, index t]

/-- The shared keys' weights, as the host operations leave it. -/
theorem host7_0 (k : Fin 1024) (j : Fin 128) : (V m c main_v24 : FVec Ideal S1024x256 .bf16) (ix2 k ⟨j.val, by omega⟩) = RopeMath.padded (RopeMath.keyRow (fun _ => 0) fun e => argW m c (ix2 k ⟨3728 + e.val, by omega⟩)) j := by
  dsimp only [V]
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_reads_simp
  pointwise
  after_reads_simp
  simp only [StableHlo.TRef.toBuf, StableHlo.TRef.ofBuf, cast_eq]
  pointwise [InMath.ofInt_zero]
  exact shared_head (fun e => argW m c (ix2 k ⟨3728 + e.val, by omega⟩)) j

/-- The shared keys' weights. -/
theorem in7_0 (k : Fin 1024) (j : Fin 128) : iblk m c 7 t (ix2 k ⟨j.val, by omega⟩) = RopeMath.padded (RopeMath.keyRow (fun _ => 0) fun e => argW m c (ix2 k ⟨3728 + e.val, by omega⟩)) j := by
  rw [← host7_0]
  blk_ext! [iblk, index t]

/-- The shared keys' weights, their paired columns, as the host operations leave it. -/
theorem host7_1 (k : Fin 1024) (j : Fin 128) : (V m c main_v24 : FVec Ideal S1024x256 .bf16) (ix2 k ⟨128 + j.val, by omega⟩) = RopeMath.partner (RopeMath.keyRow (fun _ => 0) fun e => argW m c (ix2 k ⟨3728 + e.val, by omega⟩)) j := by
  dsimp only [V]
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_reads_simp
  pointwise
  after_reads_simp
  simp only [StableHlo.TRef.toBuf, StableHlo.TRef.ofBuf, cast_eq]
  pointwise
  refine gather_partner _ rfl rfl rfl rfl rfl rfl rfl _ _ _ _ k 0 j _ (fun d => ?_) (tables j).1.1 (tables j).2.1
  pointwise [InMath.ofInt_zero]
  exact shared_head (fun e => argW m c (ix2 k ⟨3728 + e.val, by omega⟩)) d

/-- The shared keys' weights, their paired columns. -/
theorem in7_1 (k : Fin 1024) (j : Fin 128) : iblk m c 7 t (ix2 k ⟨128 + j.val, by omega⟩) = RopeMath.partner (RopeMath.keyRow (fun _ => 0) fun e => argW m c (ix2 k ⟨3728 + e.val, by omega⟩)) j := by
  rw [← host7_1]
  blk_ext! [iblk, index t]

/-- The queries' weights, as the host operations leave it. -/
theorem host12_0 (k : Fin 384) (j : Fin 1024) : (V m c main_v39 : FVec Ideal S384x2048 .bf16) (ix2 k ⟨j.val, by omega⟩) = RopeMath.padded (fun d => argWQ m c (ix2 k ⟨j.val / 128 * 96 + d.val, by omega⟩)) ⟨j.val % 128, by omega⟩ := by
  dsimp only [V]
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_reads_simp
  pointwise [RopeMath.padded]
  after_reads_simp
  simp only [StableHlo.TRef.toBuf, StableHlo.TRef.ofBuf, cast_eq]
  pointwise [RopeMath.padded]
  exact RopeMath.dite_head (by omega) _ _ fun _ => rfl

/-- The queries' weights. -/
theorem in12_0 (k : Fin 384) (j : Fin 1024) : iblk m c 12 t (ix2 k ⟨j.val, by omega⟩) = RopeMath.padded (fun d => argWQ m c (ix2 k ⟨j.val / 128 * 96 + d.val, by omega⟩)) ⟨j.val % 128, by omega⟩ := by
  rw [← host12_0]
  blk_ext! [iblk, index t]

/-- The queries' weights, their paired columns, as the host operations leave it. -/
theorem host12_1 (k : Fin 384) (j : Fin 1024) : (V m c main_v39 : FVec Ideal S384x2048 .bf16) (ix2 k ⟨1024 + j.val, by omega⟩) = RopeMath.partner (fun d => argWQ m c (ix2 k ⟨j.val / 128 * 96 + d.val, by omega⟩)) ⟨j.val % 128, by omega⟩ := by
  dsimp only [V]
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_reads_simp
  pointwise
  after_reads_simp
  simp only [StableHlo.TRef.toBuf, StableHlo.TRef.ofBuf, cast_eq]
  pointwise
  refine gather_partner _ rfl rfl rfl rfl rfl rfl rfl _ _ _ _ k ⟨j.val / 128, by omega⟩ ⟨j.val % 128, by omega⟩ _ (fun d => ?_) (tables _).1.2.1 (tables _).2.2.1
  pointwise [RopeMath.padded]
  exact RopeMath.dite_head (by omega) _ _ fun _ => rfl

/-- The queries' weights, their paired columns. -/
theorem in12_1 (k : Fin 384) (j : Fin 1024) : iblk m c 12 t (ix2 k ⟨1024 + j.val, by omega⟩) = RopeMath.partner (fun d => argWQ m c (ix2 k ⟨j.val / 128 * 96 + d.val, by omega⟩)) ⟨j.val % 128, by omega⟩ := by
  rw [← host12_1]
  blk_ext! [iblk, index t]

end Cert.Kernel6Ideal.InEven

end
-- ==== Proof.InEvenKernel.lean ====
/-
  Program Kernel6 (an even layer's input projection) at the extended reals: what one grid point computes, from the blocks
  it sees.
-/
module

public import proofs.«01_k».proof.Proof.InEvenRun
public import proofs.«01_k».proof.Proof.InEvenMath
public import Idealize.ShloMosaic.Lib.Pipeline.ValueKit
public import Idealize.ShloMosaic.Lib.Pointwise

@[expose] public section

noncomputable section

open Idealize.ShloMosaic Idealize.ShloMosaic.TcCoe Idealize.SL.Sem
open Idealize.ShloMosaic.Pipeline (Dat)

namespace Cert.Kernel6Ideal.InEven
open Cert.Kernel6Ideal Cert.Kernel6Ideal.Gen

/-- The named constant is the number 1/96. -/
theorem named_inv : (Named.named κ "inv_qk" 0x3C2AAAAB#32 : Ideal .f32) = RopeMath.inv96 := rfl

/-- The normalised rows at an element. -/
theorem rows_apply (a : Vec Ideal S1024x1024 .f32) (g : Vec Ideal S1x1024 .f32) (r k : Fin 1024) :
    k0_pay1 a g (ix2 r k) = FfnMath.normRow (fun k => a (ix2 r k)) (fun k => g (ix2 0 k)) k := by
  unfold k0_pay1
  pointwise [FfnMath.normRow]

/-- Row `r` of the product with the weights `w`. -/
abbrev proj {n k : ℕ} (h : (⟨2, ![1024, k]⟩ : Shape).Idx → EReal) (w : (⟨2, ![k, n]⟩ : Shape).Idx → EReal) (r : Fin 1024) (j : Fin n) : EReal :=
  ∑ e : Fin k, h (ix2 r e) * w (ix2 e j)

/-- The first group of columns at an element. -/
theorem z_pay (a : Vec Ideal S1024x1024 .f32) (g : Vec Ideal S1x1024 .f32) (w : Vec Ideal S1024x1024 .bf16) (r : Fin 1024) (j : Fin 1024) :
    k0_pay2 a g w (ix2 r j) = proj (k0_pay1 a g) w r j := by
  unfold k0_pay2
  generalize k0_pay1 a g = h
  pointwise

/-- The second group of columns at an element. -/
theorem xbc_pay (a : Vec Ideal S1024x1024 .f32) (g : Vec Ideal S1x1024 .f32) (w : Vec Ideal S1024x2048 .bf16) (r : Fin 1024) (j : Fin 2048) :
    k0_pay3 a g w (ix2 r j) = proj (k0_pay1 a g) w r j := by
  unfold k0_pay3
  generalize k0_pay1 a g = h
  pointwise

/-- The third group of columns at an element. -/
theorem dt_pay (a : Vec Ideal S1024x1024 .f32) (g : Vec Ideal S1x1024 .f32) (w : Vec Ideal S1024x128 .bf16) (r : Fin 1024) (j : Fin 128) :
    k0_pay4 a g w (ix2 r j) = proj (k0_pay1 a g) w r j := by
  unfold k0_pay4
  generalize k0_pay1 a g = h
  pointwise

/-- The queries' inner row after its norm. -/
theorem qa_pay (h : FVec Ideal S1024x1024 .bf16) (w : Vec Ideal S1024x384 .bf16) (g : Vec Ideal S1x384 .f32) (r : Fin 1024) (j : Fin 384) :
    k0_pay6 h (k0_pay5 w) g (ix2 r j) = RopeMath.norm RopeMath.width384 (fun e => proj h w r e) (fun e => g (ix2 0 e)) j := by
  unfold k0_pay6 k0_pay5
  pointwise [RopeMath.norm]

/-- The keys' and values' inner row after its norm. -/
theorem kvc_pay (h : FVec Ideal S1024x1024 .bf16) (w : Vec Ideal S1024x256 .bf16) (g : Vec Ideal S1x256 .f32) (r : Fin 1024) (j : Fin 256) :
    k0_pay7 h w g (ix2 r j) = RopeMath.norm RopeMath.width256 (fun e => proj h w r e) (fun e => g (ix2 0 e)) j := by
  unfold k0_pay7
  pointwise [RopeMath.norm]

/-- The columns all heads share, and their partners. -/
theorem kpe_pay (h : FVec Ideal S1024x1024 .bf16) (w : Vec Ideal S1024x256 .bf16) (r : Fin 1024) (j : Fin 256) :
    k0_pay8 h w (ix2 r j) = proj h w r j := by
  unfold k0_pay8
  pointwise

/-- The queries before their norms, and their partners. -/
theorem yq_pay (h : FVec Ideal S1024x384 .bf16) (w : Vec Ideal S384x2048 .bf16) (r : Fin 1024) (j : Fin 2048) :
    k0_pay14 h w (ix2 r j) = proj h w r j := by
  unfold k0_pay14
  pointwise

/-- The keys before their norms, without the columns all heads share. -/
theorem yk_pay (h : FVec Ideal S1024x256 .bf16) (w : Vec Ideal S256x1024 .bf16) (r : Fin 1024) (j : Fin 1024) :
    k0_pay15 h w (ix2 r j) = proj h w r j := by
  unfold k0_pay15
  pointwise

/-- The values. -/
theorem v_pay (h : FVec Ideal S1024x256 .bf16) (w : Vec Ideal S256x512 .bf16) (r : Fin 1024) (j : Fin 512) :
    k0_pay16 h w (ix2 r j) = proj h w r j := by
  unfold k0_pay16
  pointwise

/-- A query column's factor. -/
theorem cq_pay (c : Vec Ideal S1024x128 .f32) (g : Vec Ideal S1x128 .f32) (r : Fin 1024) (d : Fin 128) :
    k0_pay9 c g (ix2 r d) = (g (ix2 0 d) * RopeMath.scale96) * c (ix2 r d) := by
  unfold k0_pay9
  pointwise

/-- The factor of a query column's partner. -/
theorem sq_pay (c : Vec Ideal S1024x128 .f32) (g : Vec Ideal S1x128 .f32) (r : Fin 1024) (d : Fin 128) :
    k0_pay10 c g (ix2 r d) = (g (ix2 0 d) * RopeMath.scale96) * c (ix2 r d) := by
  unfold k0_pay10
  pointwise

/-- A key column's factor. -/
theorem ck_pay (c : Vec Ideal S1024x128 .f32) (g : Vec Ideal S1x128 .f32) (r : Fin 1024) (d : Fin 128) :
    k0_pay11 c g (ix2 r d) = g (ix2 0 d) * c (ix2 r d) := by
  unfold k0_pay11
  pointwise

/-- The first half of the shared columns' product. -/
theorem pe_pay (y : FVec Ideal S1024x256 .f32) (r : Fin 1024) (d : Fin 128) : k0_pay12 y (ix2 r d) = y (ix2 r ⟨d.val, by omega⟩) := by
  unfold k0_pay12
  pointwise

/-- The second half, times the gain and the sine. -/
theorem rot_pay (y : FVec Ideal S1024x256 .f32) (c : Vec Ideal S1024x128 .f32) (g : Vec Ideal S1x128 .f32) (r : Fin 1024) (d : Fin 128) :
    k0_pay13 y c g (ix2 r d) = y (ix2 r ⟨128 + d.val, by omega⟩) * (g (ix2 0 d) * c (ix2 r d)) := by
  unfold k0_pay13
  pointwise

/-- The first head of the queries. -/
theorem q0 (h : FVec Ideal S1024x384 .bf16) (w : Vec Ideal S384x2048 .bf16) (c s : Vec Ideal S1024x128 .f32) (g g' : Vec Ideal S1x128 .f32) (r : Fin 1024) (d : Fin 128) :
    k0_pay20 (k0_pay17 h w) (k0_pay18 h c g w) (k0_pay19 h s g' w) (ix2 r d)
      = RopeMath.turned (fun e => k0_pay14 h w (ix2 r ⟨0 + e.val, by omega⟩)) (k0_pay9 c g (ix2 r d)) (k0_pay14 h w (ix2 r ⟨1024 + d.val, by omega⟩) * k0_pay10 s g' (ix2 r d)) d := by
  unfold k0_pay20 k0_pay19 k0_pay18 k0_pay17
  generalize k0_pay14 h w = y
  generalize k0_pay9 c g = c'
  generalize k0_pay10 s g' = s'
  pointwise [RopeMath.turned, named_inv]

/-- Head 1 of the queries, counted from zero. -/
theorem q1 (c s : FVec Ideal S1024x128 .f32) (y : FVec Ideal S1024x2048 .f32) (r : Fin 1024) (d : Fin 128) :
    k0_pay22 c s y (ix2 r d) = RopeMath.turned (fun e => y (ix2 r ⟨128 + e.val, by omega⟩)) (c (ix2 r d)) (y (ix2 r ⟨1152 + d.val, by omega⟩) * s (ix2 r d)) d := by
  unfold k0_pay22
  pointwise [RopeMath.turned, named_inv]

/-- Head 2 of the queries, counted from zero. -/
theorem q2 (c s : FVec Ideal S1024x128 .f32) (y : FVec Ideal S1024x2048 .f32) (r : Fin 1024) (d : Fin 128) :
    k0_pay24 c s y (ix2 r d) = RopeMath.turned (fun e => y (ix2 r ⟨256 + e.val, by omega⟩)) (c (ix2 r d)) (y (ix2 r ⟨1280 + d.val, by omega⟩) * s (ix2 r d)) d := by
  unfold k0_pay24
  pointwise [RopeMath.turned, named_inv]

/-- Head 3 of the queries, counted from zero. -/
theorem q3 (c s : FVec Ideal S1024x128 .f32) (y : FVec Ideal S1024x2048 .f32) (r : Fin 1024) (d : Fin 128) :
    k0_pay29 c s y (ix2 r d) = RopeMath.turned (fun e => y (ix2 r ⟨384 + e.val, by omega⟩)) (c (ix2 r d)) (y (ix2 r ⟨1408 + d.val, by omega⟩) * s (ix2 r d)) d := by
  unfold k0_pay29
  pointwise [RopeMath.turned, named_inv]

/-- Head 4 of the queries, counted from zero. -/
theorem q4 (c s : FVec Ideal S1024x128 .f32) (y : FVec Ideal S1024x2048 .f32) (r : Fin 1024) (d : Fin 128) :
    k0_pay34 (k0_pay31 y) (k0_pay32 c y) (k0_pay33 s y) (ix2 r d) = RopeMath.turned (fun e => y (ix2 r ⟨512 + e.val, by omega⟩)) (c (ix2 r d)) (y (ix2 r ⟨1536 + d.val, by omega⟩) * s (ix2 r d)) d := by
  unfold k0_pay34 k0_pay33 k0_pay32 k0_pay31
  pointwise [RopeMath.turned, named_inv]

/-- Head 5 of the queries, counted from zero. -/
theorem q5 (c s : FVec Ideal S1024x128 .f32) (y : FVec Ideal S1024x2048 .f32) (r : Fin 1024) (d : Fin 128) :
    k0_pay36 c s y (ix2 r d) = RopeMath.turned (fun e => y (ix2 r ⟨640 + e.val, by omega⟩)) (c (ix2 r d)) (y (ix2 r ⟨1664 + d.val, by omega⟩) * s (ix2 r d)) d := by
  unfold k0_pay36
  pointwise [RopeMath.turned, named_inv]

/-- Head 6 of the queries, counted from zero. -/
theorem q6 (c s : FVec Ideal S1024x128 .f32) (y : FVec Ideal S1024x2048 .f32) (r : Fin 1024) (d : Fin 128) :
    k0_pay38 c s y (ix2 r d) = RopeMath.turned (fun e => y (ix2 r ⟨768 + e.val, by omega⟩)) (c (ix2 r d)) (y (ix2 r ⟨1792 + d.val, by omega⟩) * s (ix2 r d)) d := by
  unfold k0_pay38
  pointwise [RopeMath.turned, named_inv]

/-- Head 7 of the queries, counted from zero. -/
theorem q7 (c s : FVec Ideal S1024x128 .f32) (y : FVec Ideal S1024x2048 .f32) (r : Fin 1024) (d : Fin 128) :
    k0_pay43 c s y (ix2 r d) = RopeMath.turned (fun e => y (ix2 r ⟨896 + e.val, by omega⟩)) (c (ix2 r d)) (y (ix2 r ⟨1920 + d.val, by omega⟩) * s (ix2 r d)) d := by
  unfold k0_pay43
  pointwise [RopeMath.turned, named_inv]

/-- Head 0 of the keys, counted from zero. -/
theorem k0 (c p z : FVec Ideal S1024x128 .f32) (y : FVec Ideal S1024x1024 .f32) (r : Fin 1024) (d : Fin 128) :
    k0_pay21 c p z y (ix2 r d) = RopeMath.turned (fun e => y (ix2 r ⟨0 + e.val, by omega⟩) + p (ix2 r e)) (c (ix2 r d)) (z (ix2 r d)) d := by
  unfold k0_pay21
  pointwise [RopeMath.turned, named_inv]

/-- Head 1 of the keys, counted from zero. -/
theorem k1 (c p z : FVec Ideal S1024x128 .f32) (y : FVec Ideal S1024x1024 .f32) (r : Fin 1024) (d : Fin 128) :
    k0_pay23 c p z y (ix2 r d) = RopeMath.turned (fun e => y (ix2 r ⟨128 + e.val, by omega⟩) + p (ix2 r e)) (c (ix2 r d)) (z (ix2 r d)) d := by
  unfold k0_pay23
  pointwise [RopeMath.turned, named_inv]

/-- Head 2 of the keys, counted from zero. -/
theorem k2 (c p z : FVec Ideal S1024x128 .f32) (y : FVec Ideal S1024x1024 .f32) (r : Fin 1024) (d : Fin 128) :
    k0_pay28 (k0_pay26 c p z y) (k0_pay27 p y) (ix2 r d) = RopeMath.turned (fun e => y (ix2 r ⟨256 + e.val, by omega⟩) + p (ix2 r e)) (c (ix2 r d)) (z (ix2 r d)) d := by
  unfold k0_pay28 k0_pay27 k0_pay26 k0_pay25
  pointwise [RopeMath.turned, named_inv]

/-- Head 3 of the keys, counted from zero. -/
theorem k3 (c p z : FVec Ideal S1024x128 .f32) (y : FVec Ideal S1024x1024 .f32) (r : Fin 1024) (d : Fin 128) :
    k0_pay30 c p z y (ix2 r d) = RopeMath.turned (fun e => y (ix2 r ⟨384 + e.val, by omega⟩) + p (ix2 r e)) (c (ix2 r d)) (z (ix2 r d)) d := by
  unfold k0_pay30
  pointwise [RopeMath.turned, named_inv]

/-- Head 4 of the keys, counted from zero. -/
theorem k4 (c p z : FVec Ideal S1024x128 .f32) (y : FVec Ideal S1024x1024 .f32) (r : Fin 1024) (d : Fin 128) :
    k0_pay35 c p z y (ix2 r d) = RopeMath.turned (fun e => y (ix2 r ⟨512 + e.val, by omega⟩) + p (ix2 r e)) (c (ix2 r d)) (z (ix2 r d)) d := by
  unfold k0_pay35
  pointwise [RopeMath.turned, named_inv]

/-- Head 5 of the keys, counted from zero. -/
theorem k5 (c p z : FVec Ideal S1024x128 .f32) (y : FVec Ideal S1024x1024 .f32) (r : Fin 1024) (d : Fin 128) :
    k0_pay37 c p z y (ix2 r d) = RopeMath.turned (fun e => y (ix2 r ⟨640 + e.val, by omega⟩) + p (ix2 r e)) (c (ix2 r d)) (z (ix2 r d)) d := by
  unfold k0_pay37
  pointwise [RopeMath.turned, named_inv]

/-- Head 6 of the keys, counted from zero. -/
theorem k6 (c p z : FVec Ideal S1024x128 .f32) (y : FVec Ideal S1024x1024 .f32) (r : Fin 1024) (d : Fin 128) :
    k0_pay42 (k0_pay40 c p z y) (k0_pay41 p y) (ix2 r d) = RopeMath.turned (fun e => y (ix2 r ⟨768 + e.val, by omega⟩) + p (ix2 r e)) (c (ix2 r d)) (z (ix2 r d)) d := by
  unfold k0_pay42 k0_pay41 k0_pay40 k0_pay39
  pointwise [RopeMath.turned, named_inv]

/-- Head 7 of the keys, counted from zero. -/
theorem k7 (c p z : FVec Ideal S1024x128 .f32) (y : FVec Ideal S1024x1024 .f32) (r : Fin 1024) (d : Fin 128) :
    k0_pay44 c p z y (ix2 r d) = RopeMath.turned (fun e => y (ix2 r ⟨896 + e.val, by omega⟩) + p (ix2 r e)) (c (ix2 r d)) (z (ix2 r d)) d := by
  unfold k0_pay44
  pointwise [RopeMath.turned, named_inv]

end Cert.Kernel6Ideal.InEven

end
-- ==== Proof.InEvenOut.lean ====
/-
  Program Kernel6 (an even layer's input projection) at the extended reals: what the body's stores leave in each output
  block, column by column.
-/
module

public import proofs.«01_k».proof.Proof.InEvenKernel

@[expose] public section

noncomputable section

open Idealize.ShloMosaic Idealize.ShloMosaic.TcCoe Idealize.SL.Sem
open Idealize.ShloMosaic.Pipeline (Dat)

namespace Cert.Kernel6Ideal.InEven
open Cert.Kernel6Ideal Cert.Kernel6Ideal.Gen

/-- A load of a whole block is the block. -/
theorem ld0 {e : EltTy} (x : Vec Ideal S1024x1024 e) : View.ld x r0_0 = x := by
  funext i
  obtain ⟨a, b, rfl⟩ : ∃ (a : Fin 1024) (b : Fin 1024), i = ix2 a b := ⟨i 0, i 1, eq_ix2 i⟩
  pointwise
theorem ld1 {e : EltTy} (x : Vec Ideal S1x1024 e) : View.ld x r0_1 = x := by
  funext i
  obtain ⟨a, b, rfl⟩ : ∃ (a : Fin 1) (b : Fin 1024), i = ix2 a b := ⟨i 0, i 1, eq_ix2 i⟩
  obtain rfl : a = 0 := Subsingleton.elim _ _
  pointwise
theorem ld2 {e : EltTy} (x : Vec Ideal S1024x2048 e) : View.ld x r0_2 = x := by
  funext i
  obtain ⟨a, b, rfl⟩ : ∃ (a : Fin 1024) (b : Fin 2048), i = ix2 a b := ⟨i 0, i 1, eq_ix2 i⟩
  pointwise
theorem ld3 {e : EltTy} (x : Vec Ideal S1024x128 e) : View.ld x r0_3 = x := by
  funext i
  obtain ⟨a, b, rfl⟩ : ∃ (a : Fin 1024) (b : Fin 128), i = ix2 a b := ⟨i 0, i 1, eq_ix2 i⟩
  pointwise
theorem ld4 {e : EltTy} (x : Vec Ideal S1024x384 e) : View.ld x r0_4 = x := by
  funext i
  obtain ⟨a, b, rfl⟩ : ∃ (a : Fin 1024) (b : Fin 384), i = ix2 a b := ⟨i 0, i 1, eq_ix2 i⟩
  pointwise
theorem ld5 {e : EltTy} (x : Vec Ideal S1x384 e) : View.ld x r0_5 = x := by
  funext i
  obtain ⟨a, b, rfl⟩ : ∃ (a : Fin 1) (b : Fin 384), i = ix2 a b := ⟨i 0, i 1, eq_ix2 i⟩
  obtain rfl : a = 0 := Subsingleton.elim _ _
  pointwise
theorem ld6 {e : EltTy} (x : Vec Ideal S1024x256 e) : View.ld x r0_6 = x := by
  funext i
  obtain ⟨a, b, rfl⟩ : ∃ (a : Fin 1024) (b : Fin 256), i = ix2 a b := ⟨i 0, i 1, eq_ix2 i⟩
  pointwise
theorem ld7 {e : EltTy} (x : Vec Ideal S1x256 e) : View.ld x r0_7 = x := by
  funext i
  obtain ⟨a, b, rfl⟩ : ∃ (a : Fin 1) (b : Fin 256), i = ix2 a b := ⟨i 0, i 1, eq_ix2 i⟩
  obtain rfl : a = 0 := Subsingleton.elim _ _
  pointwise
theorem ld10 {e : EltTy} (x : Vec Ideal S384x2048 e) : View.ld x r0_10 = x := by
  funext i
  obtain ⟨a, b, rfl⟩ : ∃ (a : Fin 384) (b : Fin 2048), i = ix2 a b := ⟨i 0, i 1, eq_ix2 i⟩
  pointwise
theorem ld11 {e : EltTy} (x : Vec Ideal S256x1024 e) : View.ld x r0_11 = x := by
  funext i
  obtain ⟨a, b, rfl⟩ : ∃ (a : Fin 256) (b : Fin 1024), i = ix2 a b := ⟨i 0, i 1, eq_ix2 i⟩
  pointwise
theorem ld12 {e : EltTy} (x : Vec Ideal S256x512 e) : View.ld x r0_12 = x := by
  funext i
  obtain ⟨a, b, rfl⟩ : ∃ (a : Fin 256) (b : Fin 512), i = ix2 a b := ⟨i 0, i 1, eq_ix2 i⟩
  pointwise
/-- A load of one half of the gains. -/
theorem ld8 {e : EltTy} (x : Vec Ideal S1x256 e) (d : Fin 128) : View.ld x r0_8 (ix2 0 d) = x (ix2 0 ⟨0 + d.val, by omega⟩) := by
  pointwise
/-- A load of one half of the gains. -/
theorem ld9 {e : EltTy} (x : Vec Ideal S1x256 e) (d : Fin 128) : View.ld x r0_9 (ix2 0 d) = x (ix2 0 ⟨128 + d.val, by omega⟩) := by
  pointwise

/-- What a head `i` leaves at its column `d`, by the column's place `l` in the whole block. -/
theorem head_tile (f : Fin 8 → Fin 128 → EReal) (i : Fin 8) (d : Fin 128) (l : Fin 1024) (hl : l.val = i.val * 128 + d.val) :
    f i d = f ⟨l.val / 128, by omega⟩ ⟨l.val % 128, by omega⟩ := by
  have hi : i = ⟨l.val / 128, by omega⟩ := Fin.ext (by show i.val = l.val / 128; omega)
  have hd : d = ⟨l.val % 128, by omega⟩ := Fin.ext (by show d.val = l.val % 128; omega)
  rw [← hi, ← hd]

variable (x0 : Vec Ideal S1024x1024 .f32) (x1 : Vec Ideal S1x1024 .f32) (x2 : Vec Ideal S1024x1024 .bf16) (x3 : Vec Ideal S1024x2048 .bf16) (x4 : Vec Ideal S1024x128 .bf16) (x5 : Vec Ideal S1024x384 .bf16) (x6 x7 : Vec Ideal S1024x256 .bf16) (x8 x9 : Vec Ideal S1024x128 .f32) (x10 : Vec Ideal S1x384 .f32) (x11 : Vec Ideal S1x256 .f32) (x12 : Vec Ideal S384x2048 .bf16) (x13 : Vec Ideal S256x1024 .bf16) (x14 : Vec Ideal S256x512 .bf16) (x15 x16 : Vec Ideal S1x256 .f32)

/-- The normalised rows. -/
theorem rowsH_apply (r : Fin 1024) (k : Fin 1024) :
    k0_pay45 x0 x1 x2 x3 x4 x5 x6 x7 x8 x9 x10 x11 x12 x13 x14 x15 x16 (ix2 r k) = FfnMath.normRow (fun k => x0 (ix2 r k)) (fun k => x1 (ix2 0 k)) k := by
  unfold k0_pay45
  simp only [ld0, ld1]
  rw [rows_apply]

/-- The queries' inner rows. -/
theorem rowsQ_apply (r : Fin 1024) (j : Fin 384) :
    k0_pay46 x0 x1 x2 x3 x4 x5 x6 x7 x8 x9 x10 x11 x12 x13 x14 x15 x16 (ix2 r j) = RopeMath.norm RopeMath.width384 (fun e => proj (k0_pay45 x0 x1 x2 x3 x4 x5 x6 x7 x8 x9 x10 x11 x12 x13 x14 x15 x16) x5 r e) (fun e => x10 (ix2 0 e)) j := by
  unfold k0_pay46
  simp only [ld4, ld5]
  rw [qa_pay]

/-- The keys' and values' inner rows. -/
theorem rowsK_apply (r : Fin 1024) (j : Fin 256) :
    k0_pay47 x0 x1 x2 x3 x4 x5 x6 x7 x8 x9 x10 x11 x12 x13 x14 x15 x16 (ix2 r j) = RopeMath.norm RopeMath.width256 (fun e => proj (k0_pay45 x0 x1 x2 x3 x4 x5 x6 x7 x8 x9 x10 x11 x12 x13 x14 x15 x16) x6 r e) (fun e => x11 (ix2 0 e)) j := by
  unfold k0_pay47
  simp only [ld6, ld7]
  rw [kvc_pay]

/-- The queries before their norms, and their partners. -/
theorem yq_eq (r : Fin 1024) (j : Fin 2048) :
    k0_pay54 x0 x1 x2 x3 x4 x5 x6 x7 x8 x9 x10 x11 x12 x13 x14 x15 x16 (ix2 r j) = proj (k0_pay46 x0 x1 x2 x3 x4 x5 x6 x7 x8 x9 x10 x11 x12 x13 x14 x15 x16) x12 r j := by
  unfold k0_pay54
  simp only [ld10]
  rw [yq_pay]

/-- The keys before their norms, without the columns all heads share. -/
theorem yk_eq (r : Fin 1024) (j : Fin 1024) :
    k0_pay55 x0 x1 x2 x3 x4 x5 x6 x7 x8 x9 x10 x11 x12 x13 x14 x15 x16 (ix2 r j) = proj (k0_pay47 x0 x1 x2 x3 x4 x5 x6 x7 x8 x9 x10 x11 x12 x13 x14 x15 x16) x13 r j := by
  unfold k0_pay55
  simp only [ld11]
  rw [yk_pay]

/-- A query column's factor. -/
theorem cq_eq (r : Fin 1024) (d : Fin 128) :
    k0_pay49 x0 x1 x2 x3 x4 x5 x6 x7 x8 x9 x10 x11 x12 x13 x14 x15 x16 (ix2 r d) = x15 (ix2 0 ⟨0 + d.val, by omega⟩) * RopeMath.scale96 * x8 (ix2 r d) := by
  unfold k0_pay49
  rw [cq_pay, ld3, ld8]

/-- The factor of a query column's partner. -/
theorem sq_eq (r : Fin 1024) (d : Fin 128) :
    k0_pay50 x0 x1 x2 x3 x4 x5 x6 x7 x8 x9 x10 x11 x12 x13 x14 x15 x16 (ix2 r d) = x15 (ix2 0 ⟨128 + d.val, by omega⟩) * RopeMath.scale96 * x9 (ix2 r d) := by
  unfold k0_pay50
  rw [sq_pay, ld3, ld9]

/-- A key column's factor. -/
theorem ck_eq (r : Fin 1024) (d : Fin 128) :
    k0_pay51 x0 x1 x2 x3 x4 x5 x6 x7 x8 x9 x10 x11 x12 x13 x14 x15 x16 (ix2 r d) = x16 (ix2 0 ⟨0 + d.val, by omega⟩) * x8 (ix2 r d) := by
  unfold k0_pay51
  rw [ck_pay, ld3, ld8]

/-- The columns all heads share. -/
theorem pe_eq (r : Fin 1024) (d : Fin 128) :
    k0_pay52 x0 x1 x2 x3 x4 x5 x6 x7 x8 x9 x10 x11 x12 x13 x14 x15 x16 (ix2 r d) = proj (k0_pay45 x0 x1 x2 x3 x4 x5 x6 x7 x8 x9 x10 x11 x12 x13 x14 x15 x16) x7 r ⟨d.val, by omega⟩ := by
  unfold k0_pay52 k0_pay48
  rw [pe_pay, ld6, kpe_pay]

/-- The shared columns' partners, times their factor. -/
theorem rot_eq (r : Fin 1024) (d : Fin 128) :
    k0_pay53 x0 x1 x2 x3 x4 x5 x6 x7 x8 x9 x10 x11 x12 x13 x14 x15 x16 (ix2 r d) = proj (k0_pay45 x0 x1 x2 x3 x4 x5 x6 x7 x8 x9 x10 x11 x12 x13 x14 x15 x16) x7 r ⟨128 + d.val, by omega⟩ * (x16 (ix2 0 ⟨128 + d.val, by omega⟩) * x9 (ix2 r d)) := by
  unfold k0_pay53 k0_pay48
  rw [rot_pay, ld6, kpe_pay, ld3, ld9]

/-- What a grid point leaves in the block of the first group of columns. -/
theorem out17_apply (r : Fin 1024) (l : Fin 1024) :
    out0_17 x0 x1 x2 x3 x4 x5 x6 x7 x8 x9 x10 x11 x12 x13 x14 x15 x16 (ix2 r l) = proj (k0_pay45 x0 x1 x2 x3 x4 x5 x6 x7 x8 x9 x10 x11 x12 x13 x14 x15 x16) x2 r l := by
  generalize hy : (ix2 r l : S1024x1024.Idx) = y
  unfold out0_17 k0_pay45
  canon_tiles x h
  subst hy
  obtain ⟨r', l', rfl⟩ : ∃ (a : Fin 1024) (b : Fin 1024), x = ix2 a b := ⟨x 0, x 1, eq_ix2 x⟩
  obtain rfl : r = r' := Fin.ext h0
  obtain rfl : l = l' := Fin.ext h1
  simp only [ld0, ld1, ld2, ld3, ld12]
  rw [z_pay]

/-- What a grid point leaves in the block of the second group of columns. -/
theorem out18_apply (r : Fin 1024) (l : Fin 2048) :
    out0_18 x0 x1 x2 x3 x4 x5 x6 x7 x8 x9 x10 x11 x12 x13 x14 x15 x16 (ix2 r l) = proj (k0_pay45 x0 x1 x2 x3 x4 x5 x6 x7 x8 x9 x10 x11 x12 x13 x14 x15 x16) x3 r l := by
  generalize hy : (ix2 r l : S1024x2048.Idx) = y
  unfold out0_18 k0_pay45
  canon_tiles x h
  subst hy
  obtain ⟨r', l', rfl⟩ : ∃ (a : Fin 1024) (b : Fin 2048), x = ix2 a b := ⟨x 0, x 1, eq_ix2 x⟩
  obtain rfl : r = r' := Fin.ext h0
  obtain rfl : l = l' := Fin.ext h1
  simp only [ld0, ld1, ld2, ld3, ld12]
  rw [xbc_pay]

/-- What a grid point leaves in the block of the third group of columns. -/
theorem out19_apply (r : Fin 1024) (l : Fin 128) :
    out0_19 x0 x1 x2 x3 x4 x5 x6 x7 x8 x9 x10 x11 x12 x13 x14 x15 x16 (ix2 r l) = proj (k0_pay45 x0 x1 x2 x3 x4 x5 x6 x7 x8 x9 x10 x11 x12 x13 x14 x15 x16) x4 r l := by
  generalize hy : (ix2 r l : S1024x128.Idx) = y
  unfold out0_19 k0_pay45
  canon_tiles x h
  subst hy
  obtain ⟨r', l', rfl⟩ : ∃ (a : Fin 1024) (b : Fin 128), x = ix2 a b := ⟨x 0, x 1, eq_ix2 x⟩
  obtain rfl : r = r' := Fin.ext h0
  obtain rfl : l = l' := Fin.ext h1
  simp only [ld0, ld1, ld2, ld3, ld12]
  rw [dt_pay]

/-- What a grid point leaves in the block of values. -/
theorem out22_apply (r : Fin 1024) (l : Fin 512) :
    out0_22 x0 x1 x2 x3 x4 x5 x6 x7 x8 x9 x10 x11 x12 x13 x14 x15 x16 (ix2 r l) = proj (k0_pay47 x0 x1 x2 x3 x4 x5 x6 x7 x8 x9 x10 x11 x12 x13 x14 x15 x16) x14 r l := by
  generalize hy : (ix2 r l : S1024x512.Idx) = y
  unfold out0_22
  canon_tiles x h
  subst hy
  obtain ⟨r', l', rfl⟩ : ∃ (a : Fin 1024) (b : Fin 512), x = ix2 a b := ⟨x 0, x 1, eq_ix2 x⟩
  obtain rfl : r = r' := Fin.ext h0
  obtain rfl : l = l' := Fin.ext h1
  simp only [ld0, ld1, ld2, ld3, ld12]
  rw [v_pay]

/-- Head `i` of the queries at its column `d`. -/
abbrev qHead (r : Fin 1024) (i : Fin 8) (d : Fin 128) : EReal :=
  RopeMath.turned (fun e => (k0_pay54 x0 x1 x2 x3 x4 x5 x6 x7 x8 x9 x10 x11 x12 x13 x14 x15 x16) (ix2 r ⟨i.val * 128 + e.val, by omega⟩)) ((k0_pay49 x0 x1 x2 x3 x4 x5 x6 x7 x8 x9 x10 x11 x12 x13 x14 x15 x16) (ix2 r d)) ((k0_pay54 x0 x1 x2 x3 x4 x5 x6 x7 x8 x9 x10 x11 x12 x13 x14 x15 x16) (ix2 r ⟨1024 + i.val * 128 + d.val, by omega⟩) * (k0_pay50 x0 x1 x2 x3 x4 x5 x6 x7 x8 x9 x10 x11 x12 x13 x14 x15 x16) (ix2 r d)) d

/-- What a grid point leaves in the block of queries. -/
theorem out20_apply (r l : Fin 1024) :
    out0_20 x0 x1 x2 x3 x4 x5 x6 x7 x8 x9 x10 x11 x12 x13 x14 x15 x16 (ix2 r l) = qHead x0 x1 x2 x3 x4 x5 x6 x7 x8 x9 x10 x11 x12 x13 x14 x15 x16 r ⟨l.val / 128, by omega⟩ ⟨l.val % 128, by omega⟩ := by
  generalize hy : (ix2 r l : S1024x1024.Idx) = y
  unfold out0_20
  canon_tiles x h
  all_goals subst hy
  · obtain ⟨r', d, rfl⟩ : ∃ (a : Fin 1024) (b : Fin 128), x = ix2 a b := ⟨x 0, x 1, eq_ix2 x⟩
    obtain rfl : r = r' := Fin.ext h0
    rw [q7]
    exact head_tile (qHead x0 x1 x2 x3 x4 x5 x6 x7 x8 x9 x10 x11 x12 x13 x14 x15 x16 r) 7 d l h1
  · obtain ⟨r', d, rfl⟩ : ∃ (a : Fin 1024) (b : Fin 128), x = ix2 a b := ⟨x 0, x 1, eq_ix2 x⟩
    obtain rfl : r = r' := Fin.ext h0
    rw [q6]
    exact head_tile (qHead x0 x1 x2 x3 x4 x5 x6 x7 x8 x9 x10 x11 x12 x13 x14 x15 x16 r) 6 d l h1
  · obtain ⟨r', d, rfl⟩ : ∃ (a : Fin 1024) (b : Fin 128), x = ix2 a b := ⟨x 0, x 1, eq_ix2 x⟩
    obtain rfl : r = r' := Fin.ext h0
    rw [q5]
    exact head_tile (qHead x0 x1 x2 x3 x4 x5 x6 x7 x8 x9 x10 x11 x12 x13 x14 x15 x16 r) 5 d l h1
  · obtain ⟨r', d, rfl⟩ : ∃ (a : Fin 1024) (b : Fin 128), x = ix2 a b := ⟨x 0, x 1, eq_ix2 x⟩
    obtain rfl : r = r' := Fin.ext h0
    rw [q4]
    exact head_tile (qHead x0 x1 x2 x3 x4 x5 x6 x7 x8 x9 x10 x11 x12 x13 x14 x15 x16 r) 4 d l h1
  · obtain ⟨r', d, rfl⟩ : ∃ (a : Fin 1024) (b : Fin 128), x = ix2 a b := ⟨x 0, x 1, eq_ix2 x⟩
    obtain rfl : r = r' := Fin.ext h0
    rw [q3]
    exact head_tile (qHead x0 x1 x2 x3 x4 x5 x6 x7 x8 x9 x10 x11 x12 x13 x14 x15 x16 r) 3 d l h1
  · obtain ⟨r', d, rfl⟩ : ∃ (a : Fin 1024) (b : Fin 128), x = ix2 a b := ⟨x 0, x 1, eq_ix2 x⟩
    obtain rfl : r = r' := Fin.ext h0
    rw [q2]
    exact head_tile (qHead x0 x1 x2 x3 x4 x5 x6 x7 x8 x9 x10 x11 x12 x13 x14 x15 x16 r) 2 d l h1
  · obtain ⟨r', d, rfl⟩ : ∃ (a : Fin 1024) (b : Fin 128), x = ix2 a b := ⟨x 0, x 1, eq_ix2 x⟩
    obtain rfl : r = r' := Fin.ext h0
    rw [q1]
    exact head_tile (qHead x0 x1 x2 x3 x4 x5 x6 x7 x8 x9 x10 x11 x12 x13 x14 x15 x16 r) 1 d l h1
  · obtain ⟨r', d, rfl⟩ : ∃ (a : Fin 1024) (b : Fin 128), x = ix2 a b := ⟨x 0, x 1, eq_ix2 x⟩
    obtain rfl : r = r' := Fin.ext h0
    rw [q0]
    exact head_tile (qHead x0 x1 x2 x3 x4 x5 x6 x7 x8 x9 x10 x11 x12 x13 x14 x15 x16 r) 0 d l (h1.trans (Nat.zero_add _).symm)

/-- Head `i` of the keys at its column `d`. -/
abbrev kHead (r : Fin 1024) (i : Fin 8) (d : Fin 128) : EReal :=
  RopeMath.turned (fun e => (k0_pay55 x0 x1 x2 x3 x4 x5 x6 x7 x8 x9 x10 x11 x12 x13 x14 x15 x16) (ix2 r ⟨i.val * 128 + e.val, by omega⟩) + (k0_pay52 x0 x1 x2 x3 x4 x5 x6 x7 x8 x9 x10 x11 x12 x13 x14 x15 x16) (ix2 r e)) ((k0_pay51 x0 x1 x2 x3 x4 x5 x6 x7 x8 x9 x10 x11 x12 x13 x14 x15 x16) (ix2 r d)) ((k0_pay53 x0 x1 x2 x3 x4 x5 x6 x7 x8 x9 x10 x11 x12 x13 x14 x15 x16) (ix2 r d)) d

/-- What a grid point leaves in the block of keys. -/
theorem out21_apply (r l : Fin 1024) :
    out0_21 x0 x1 x2 x3 x4 x5 x6 x7 x8 x9 x10 x11 x12 x13 x14 x15 x16 (ix2 r l) = kHead x0 x1 x2 x3 x4 x5 x6 x7 x8 x9 x10 x11 x12 x13 x14 x15 x16 r ⟨l.val / 128, by omega⟩ ⟨l.val % 128, by omega⟩ := by
  generalize hy : (ix2 r l : S1024x1024.Idx) = y
  unfold out0_21
  canon_tiles x h
  all_goals subst hy
  · obtain ⟨r', d, rfl⟩ : ∃ (a : Fin 1024) (b : Fin 128), x = ix2 a b := ⟨x 0, x 1, eq_ix2 x⟩
    obtain rfl : r = r' := Fin.ext h0
    rw [k7]
    exact head_tile (kHead x0 x1 x2 x3 x4 x5 x6 x7 x8 x9 x10 x11 x12 x13 x14 x15 x16 r) 7 d l h1
  · obtain ⟨r', d, rfl⟩ : ∃ (a : Fin 1024) (b : Fin 128), x = ix2 a b := ⟨x 0, x 1, eq_ix2 x⟩
    obtain rfl : r = r' := Fin.ext h0
    rw [k6]
    exact head_tile (kHead x0 x1 x2 x3 x4 x5 x6 x7 x8 x9 x10 x11 x12 x13 x14 x15 x16 r) 6 d l h1
  · obtain ⟨r', d, rfl⟩ : ∃ (a : Fin 1024) (b : Fin 128), x = ix2 a b := ⟨x 0, x 1, eq_ix2 x⟩
    obtain rfl : r = r' := Fin.ext h0
    rw [k5]
    exact head_tile (kHead x0 x1 x2 x3 x4 x5 x6 x7 x8 x9 x10 x11 x12 x13 x14 x15 x16 r) 5 d l h1
  · obtain ⟨r', d, rfl⟩ : ∃ (a : Fin 1024) (b : Fin 128), x = ix2 a b := ⟨x 0, x 1, eq_ix2 x⟩
    obtain rfl : r = r' := Fin.ext h0
    rw [k4]
    exact head_tile (kHead x0 x1 x2 x3 x4 x5 x6 x7 x8 x9 x10 x11 x12 x13 x14 x15 x16 r) 4 d l h1
  · obtain ⟨r', d, rfl⟩ : ∃ (a : Fin 1024) (b : Fin 128), x = ix2 a b := ⟨x 0, x 1, eq_ix2 x⟩
    obtain rfl : r = r' := Fin.ext h0
    rw [k3]
    exact head_tile (kHead x0 x1 x2 x3 x4 x5 x6 x7 x8 x9 x10 x11 x12 x13 x14 x15 x16 r) 3 d l h1
  · obtain ⟨r', d, rfl⟩ : ∃ (a : Fin 1024) (b : Fin 128), x = ix2 a b := ⟨x 0, x 1, eq_ix2 x⟩
    obtain rfl : r = r' := Fin.ext h0
    rw [k2]
    exact head_tile (kHead x0 x1 x2 x3 x4 x5 x6 x7 x8 x9 x10 x11 x12 x13 x14 x15 x16 r) 2 d l h1
  · obtain ⟨r', d, rfl⟩ : ∃ (a : Fin 1024) (b : Fin 128), x = ix2 a b := ⟨x 0, x 1, eq_ix2 x⟩
    obtain rfl : r = r' := Fin.ext h0
    rw [k1]
    exact head_tile (kHead x0 x1 x2 x3 x4 x5 x6 x7 x8 x9 x10 x11 x12 x13 x14 x15 x16 r) 1 d l h1
  · obtain ⟨r', d, rfl⟩ : ∃ (a : Fin 1024) (b : Fin 128), x = ix2 a b := ⟨x 0, x 1, eq_ix2 x⟩
    obtain rfl : r = r' := Fin.ext h0
    rw [k0]
    exact head_tile (kHead x0 x1 x2 x3 x4 x5 x6 x7 x8 x9 x10 x11 x12 x13 x14 x15 x16 r) 0 d l (h1.trans (Nat.zero_add _).symm)

end Cert.Kernel6Ideal.InEven

end
-- ==== Proof.InEvenKeys.lean ====
/-
  The mathematics of the even layer's keys, over the extended reals and free of any program: a key made of one head's
  columns and of the columns all heads share, and its columns as the kernel lays them out.
-/
module

public import proofs.«01_k».proof.Proof.InEvenMath

@[expose] public section

noncomputable section

open Idealize.ShloMosaic

namespace RopeMath

/-- A contraction with the shared columns' weights, the head's own columns left empty. -/
theorem sum_mul_keyRow {n : ℕ} (h : Fin n → EReal) (w : Fin n → Fin 32 → EReal) :
    (fun e : Fin 96 => ∑ k, h k * keyRow (fun _ => 0) (w k) e) = keyRow (fun _ => 0) fun e => ∑ k, h k * w k e := by
  funext e
  unfold keyRow
  by_cases he : e.val < 64
  · simp only [dif_pos he, mul_zero, Finset.sum_const_zero]
  · simp only [dif_neg he]

/-- The head's own columns and the shared ones, each with zeros about them, add up to the key. -/
theorem padded_add (a : Fin 64 → EReal) (b : Fin 32 → EReal) (d : Fin 128) :
    InMath.padded a d + padded (keyRow (fun _ => 0) b) d = padded (keyRow a b) d := by
  unfold InMath.padded padded keyRow
  by_cases h : d.val < 64
  · rw [dif_pos h, dif_pos (by omega : d.val < 96), dif_pos h, dif_pos (by omega : d.val < 96), dif_pos h, add_zero]
  · rw [dif_neg h, zero_add]
    by_cases h' : d.val < 96
    · rw [dif_pos h', dif_pos h', dif_neg h, dif_neg h]
    · rw [dif_neg h', dif_neg h']

/-- The paired columns are shared ones: the head's own play no part in them. -/
theorem partner_keyRow (a a' : Fin 64 → EReal) (b : Fin 32 → EReal) (d : Fin 128) : partner (keyRow a b) d = partner (keyRow a' b) d := by
  unfold partner keyRow
  by_cases h : 64 ≤ d.val ∧ d.val < 80
  · rw [dif_pos h, dif_pos h, dif_neg (by show ¬(d.val + 16 < 64); omega), dif_neg (by show ¬(d.val + 16 < 64); omega)]
  · rw [dif_neg h, dif_neg h]
    by_cases h' : 80 ≤ d.val ∧ d.val < 96
    · rw [dif_pos h', dif_pos h', dif_neg (by show ¬(d.val - 16 < 64); omega), dif_neg (by show ¬(d.val - 16 < 64); omega)]
    · rw [dif_neg h', dif_neg h']

end RopeMath

end
-- ==== Proof.InEvenRows.lean ====
/-
  Program Kernel6 (an even layer's input projection) at the extended reals: the intermediate rows of a grid point, as
  functions of the program's arguments.
-/
module

public import proofs.«01_k».proof.Proof.InEvenArgs
public import proofs.«01_k».proof.Proof.InEvenArgsT
public import proofs.«01_k».proof.Proof.InEvenOut
public import proofs.«01_k».proof.Proof.InEvenKeys

@[expose] public section

noncomputable section

open Idealize.ShloMosaic Idealize.ShloMosaic.TcCoe Idealize.SL.Sem
open Idealize.ShloMosaic.Pipeline (Dat)

namespace Cert.Kernel6Ideal.InEven
open Cert.Kernel6Ideal Cert.Kernel6Ideal.Gen

variable (m : (ℓ : Loc nD τ sig) → Buf (Elt Ideal) ℓ) (c : Dev nD)

/-- Row `r` of the projection at column `j` of the stacked weights. -/
def Y (r : Fin 65536) (j : Fin 3760) : EReal :=
  ∑ k : Fin 1024, FfnMath.normRow (fun k => argX m c (ix2 r k)) (fun k => argG m c (ix1 k)) k * argW m c (ix2 k j)

/-- The queries' inner row. -/
def QA (r : Fin 65536) (j : Fin 384) : EReal :=
  RopeMath.norm RopeMath.width384 (fun e : Fin 384 => Y m c r ⟨3088 + e.val, by omega⟩) (fun e => argQA m c (ix1 e)) j

/-- The keys' and values' inner row. -/
def KV (r : Fin 65536) (j : Fin 256) : EReal :=
  RopeMath.norm RopeMath.width256 (fun e : Fin 256 => Y m c r ⟨3472 + e.val, by omega⟩) (fun e => argKA m c (ix1 e)) j

/-- Column `j` of the keys' and values' second projection. -/
def KVB (r : Fin 65536) (j : Fin 1024) : EReal := ∑ k : Fin 256, KV m c r k * argWK m c (ix2 k j)

/-- Head `i` of the queries before its norm. -/
def YQ (r : Fin 65536) (i : Fin 8) (d : Fin 96) : EReal := ∑ k : Fin 384, QA m c r k * argWQ m c (ix2 k ⟨i.val * 96 + d.val, by omega⟩)

/-- Head `i` of the keys before its norm. -/
def YK (r : Fin 65536) (i : Fin 8) : Fin 96 → EReal :=
  RopeMath.keyRow (fun e => KVB m c r ⟨i.val * 128 + e.val, by omega⟩) (fun e => Y m c r ⟨3728 + e.val, by omega⟩)

variable (t : Fin cfg0.N)

/-- The normalised rows of a grid point. -/
theorem h_eq (r k : Fin 1024) : k0_pay45 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r k)
    = FfnMath.normRow (fun k => argX m c (ix2 ⟨t.val * 1024 + r.val, point_lt t r⟩ k)) (fun k => argG m c (ix1 k)) k := by
  rw [rowsH_apply]
  simp only [in0, in1]

/-- The queries' inner rows of a grid point. -/
theorem q_eq (r : Fin 1024) (j : Fin 384) : k0_pay46 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r j) = QA m c ⟨t.val * 1024 + r.val, point_lt t r⟩ j := by
  rw [rowsQ_apply]
  simp only [proj, h_eq, in5, in10]
  rfl

/-- The keys' and values' inner rows of a grid point. -/
theorem k_eq (r : Fin 1024) (j : Fin 256) : k0_pay47 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r j) = KV m c ⟨t.val * 1024 + r.val, point_lt t r⟩ j := by
  rw [rowsK_apply]
  simp only [proj, h_eq, in6, in11]
  rfl

/-- The queries' weights, head by head. -/
theorem wq0 (k : Fin 384) (i : Fin 8) (d : Fin 128) : iblk m c 12 t (ix2 k ⟨i.val * 128 + d.val, by omega⟩)
    = RopeMath.padded (fun e => argWQ m c (ix2 k ⟨i.val * 96 + e.val, by omega⟩)) d := by
  refine (in12_0 m c t k ⟨i.val * 128 + d.val, by omega⟩).trans ?_
  simp only [show (i.val * 128 + d.val) / 128 = i.val by omega, show (i.val * 128 + d.val) % 128 = d.val by omega]

/-- The queries' weights in the paired columns, head by head. -/
theorem wq1 (k : Fin 384) (i : Fin 8) (d : Fin 128) : iblk m c 12 t (ix2 k ⟨1024 + i.val * 128 + d.val, by omega⟩)
    = RopeMath.partner (fun e => argWQ m c (ix2 k ⟨i.val * 96 + e.val, by omega⟩)) d := by
  have e : (⟨1024 + i.val * 128 + d.val, by omega⟩ : Fin 2048) = ⟨1024 + (⟨i.val * 128 + d.val, by omega⟩ : Fin 1024).val, by omega⟩ :=
    Fin.ext (Nat.add_assoc _ _ _)
  rw [e]
  refine (in12_1 m c t k ⟨i.val * 128 + d.val, by omega⟩).trans ?_
  simp only [show (i.val * 128 + d.val) / 128 = i.val by omega, show (i.val * 128 + d.val) % 128 = d.val by omega]

/-- The keys' weights, head by head. -/
theorem wk0 (k : Fin 256) (i : Fin 8) (d : Fin 128) : iblk m c 13 t (ix2 k ⟨i.val * 128 + d.val, by omega⟩)
    = InMath.padded (fun e => argWK m c (ix2 k ⟨i.val * 128 + e.val, by omega⟩)) d := by
  refine (in13 m c t k ⟨i.val * 128 + d.val, by omega⟩).trans ?_
  simp only [show (i.val * 128 + d.val) / 128 = i.val by omega, show (i.val * 128 + d.val) % 128 = d.val by omega]

/-- The queries before their norms. -/
theorem yq0 (r : Fin 1024) (i : Fin 8) (d : Fin 128) : k0_pay54 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r ⟨i.val * 128 + d.val, by omega⟩)
    = RopeMath.padded (YQ m c ⟨t.val * 1024 + r.val, point_lt t r⟩ i) d := by
  rw [yq_eq]
  simp only [proj, q_eq, wq0, RopeMath.sum_mul_padded]
  rfl

/-- The queries' paired columns. -/
theorem yq1 (r : Fin 1024) (i : Fin 8) (d : Fin 128) : k0_pay54 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r ⟨1024 + i.val * 128 + d.val, by omega⟩)
    = RopeMath.partner (YQ m c ⟨t.val * 1024 + r.val, point_lt t r⟩ i) d := by
  rw [yq_eq]
  simp only [proj, q_eq, wq1, RopeMath.sum_mul_partner]
  rfl

/-- The keys before their norms: a head's own columns. -/
theorem yk0 (r : Fin 1024) (i : Fin 8) (d : Fin 128) : k0_pay55 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r ⟨i.val * 128 + d.val, by omega⟩)
    = InMath.padded (fun e => KVB m c ⟨t.val * 1024 + r.val, point_lt t r⟩ ⟨i.val * 128 + e.val, by omega⟩) d := by
  rw [yk_eq]
  simp only [proj, k_eq, wk0, InMath.sum_mul_padded]
  rfl

/-- The keys before their norms: the columns all heads share. -/
theorem ys0 (r : Fin 1024) (d : Fin 128) : k0_pay52 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r d)
    = RopeMath.padded (RopeMath.keyRow (fun _ => 0) fun e => Y m c ⟨t.val * 1024 + r.val, point_lt t r⟩ ⟨3728 + e.val, by omega⟩) d := by
  rw [pe_eq]
  simp only [proj, h_eq, in7_0, RopeMath.sum_mul_padded, RopeMath.sum_mul_keyRow]
  rfl

/-- A key before its norm. -/
theorem ykey (r : Fin 1024) (i : Fin 8) (d : Fin 128) : k0_pay55 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r ⟨i.val * 128 + d.val, by omega⟩)
    + k0_pay52 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r d) = RopeMath.padded (YK m c ⟨t.val * 1024 + r.val, point_lt t r⟩ i) d := by
  rw [yk0, ys0]
  exact RopeMath.padded_add _ _ d

/-- The factor of a query's column. -/
theorem fq0 (r : Fin 1024) (d : Fin 128) : k0_pay49 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r d)
    = RopeMath.padded (fun e => argQN m c (ix1 e)) d * RopeMath.scale96 * argCos m c (ix2 ⟨t.val * 1024 + r.val, point_lt t r⟩ d) := by
  rw [cq_eq]
  simp only [in15_0, in8]

/-- The factor of a query's paired column. -/
theorem fq1 (r : Fin 1024) (d : Fin 128) : k0_pay50 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r d)
    = RopeMath.partner (fun e => argQN m c (ix1 e)) d * RopeMath.scale96 * argSin m c (ix2 ⟨t.val * 1024 + r.val, point_lt t r⟩ d) := by
  rw [sq_eq]
  simp only [in15_1, in9]

/-- The factor of a key's column. -/
theorem fk0 (r : Fin 1024) (d : Fin 128) : k0_pay51 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r d)
    = RopeMath.padded (fun e => argKN m c (ix1 e)) d * argCos m c (ix2 ⟨t.val * 1024 + r.val, point_lt t r⟩ d) := by
  rw [ck_eq]
  simp only [in16_0, in8]

/-- A key's paired column, times its factor. -/
theorem fk1 (r : Fin 1024) (i : Fin 8) (d : Fin 128) : k0_pay53 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r d)
    = RopeMath.partner (YK m c ⟨t.val * 1024 + r.val, point_lt t r⟩ i) d * (RopeMath.partner (fun e => argKN m c (ix1 e)) d * argSin m c (ix2 ⟨t.val * 1024 + r.val, point_lt t r⟩ d)) := by
  rw [rot_eq]
  simp only [proj, h_eq, in7_1, in16_1, in9, RopeMath.sum_mul_partner, RopeMath.sum_mul_keyRow]
  rw [RopeMath.partner_keyRow _ (fun e => KVB m c ⟨t.val * 1024 + r.val, point_lt t r⟩ ⟨i.val * 128 + e.val, by omega⟩)]
  rfl

end Cert.Kernel6Ideal.InEven

end
-- ==== Proof.InEvenFinal.lean ====
/-
  Program Kernel6 (an even layer's input projection) at the extended reals: what its six result arrays hold after the
  run, each as one function of the arguments.
-/
module

public import proofs.«01_k».proof.Proof.InEvenRows

@[expose] public section

noncomputable section

open Idealize.ShloMosaic Idealize.ShloMosaic.TcCoe Idealize.SL.Sem
open Idealize.ShloMosaic.Pipeline (Dat)

namespace Cert.Kernel6Ideal.InEven
open Cert.Kernel6Ideal Cert.Kernel6Ideal.Gen

variable (m : (ℓ : Loc nD τ sig) → Buf (Elt Ideal) ℓ) (c : Dev nD)

/-- The tables of the rotation hold, row by row, what the layer's tables hold. -/
abbrev Layout : Prop := ∀ r : Fin 65536, RopeMath.Tables (fun d => argCos m c (ix2 r d)) (fun d => argSin m c (ix2 r d))

/-- The first group of columns, as one function of the arguments. -/
def G17 : Buf (Elt Ideal) ((c : Thread nD τ).loc main_v77_0) := fun i =>
  have h1 : (i 1).val < 1024 := (i 1).isLt
  Y m c (i 0) ⟨(i 1).val, by omega⟩

/-- The second group of columns, as one function of the arguments. -/
def G18 : Buf (Elt Ideal) ((c : Thread nD τ).loc main_v77_1) := fun i =>
  have h1 : (i 1).val < 2048 := (i 1).isLt
  Y m c (i 0) ⟨1024 + (i 1).val, by omega⟩

/-- The third group of columns, as one function of the arguments. -/
def G19 : Buf (Elt Ideal) ((c : Thread nD τ).loc main_v77_2) := fun i =>
  have h1 : (i 1).val < 128 := (i 1).isLt
  (if h : (i 1).val < 16 then Y m c (i 0) ⟨3072 + (i 1).val, by omega⟩ else (0 : EReal) : EReal)

/-- The queries, as one function of the arguments. -/
def G20 : Buf (Elt Ideal) ((c : Thread nD τ).loc main_v77_3) := fun i =>
  have h1 : (i 1).val < 1024 := (i 1).isLt
  RopeMath.padded (fun d => RopeMath.rope (RopeMath.norm RopeMath.width96 (YQ m c (i 0) ⟨(i 1).val / 128, by omega⟩) (fun e => argQN m c (ix1 e))) (fun e => argCos m c (ix2 (i 0) e)) (fun e => argSin m c (ix2 (i 0) e)) d * RopeMath.scale96) ⟨(i 1).val % 128, by omega⟩

/-- The keys, as one function of the arguments. -/
def G21 : Buf (Elt Ideal) ((c : Thread nD τ).loc main_v77_4) := fun i =>
  have h1 : (i 1).val < 1024 := (i 1).isLt
  RopeMath.padded (RopeMath.rope (RopeMath.norm RopeMath.width96 (YK m c (i 0) ⟨(i 1).val / 128, by omega⟩) (fun e => argKN m c (ix1 e))) (fun e => argCos m c (ix2 (i 0) e)) (fun e => argSin m c (ix2 (i 0) e))) ⟨(i 1).val % 128, by omega⟩

/-- The values, as one function of the arguments. -/
def G22 : Buf (Elt Ideal) ((c : Thread nD τ).loc main_v77_5) := fun i =>
  have h1 : (i 1).val < 512 := (i 1).isLt
  KVB m c (i 0) ⟨(i 1).val / 64 * 128 + (64 + (i 1).val % 64), by omega⟩

/-- The array of the first group of columns after the run. -/
theorem final17 : (dats m 0 c).arrAt 17 cfg0.N = G17 m c := by
  refine (dats m 0 c).arrAt_eq_of_covers 17 _ (by decide +kernel) fun t hf y => ?_
  blk_simp
  rw [after0_17]
  obtain ⟨r, l, rfl⟩ : ∃ (a : Fin 1024) (b : Fin 1024), y = ix2 a b := ⟨y 0, y 1, eq_ix2 y⟩
  have ei : ((View.whole main_v77_0).slice (win0_17.rect t)).emb (ix2 r l) = ix2 ⟨t.val * 1024 + r.val, point_lt t r⟩ l := by
    blk_ext! [index t]
  rw [ei]
  refine (out17_apply _ _ _ _ _ _ _ _ _ _ _ _ _ _ _ _ _ r l).trans ?_
  simp only [proj, h_eq, in2]
  rfl

/-- The array of the second group of columns after the run. -/
theorem final18 : (dats m 0 c).arrAt 18 cfg0.N = G18 m c := by
  refine (dats m 0 c).arrAt_eq_of_covers 18 _ (by decide +kernel) fun t hf y => ?_
  blk_simp
  rw [after0_18]
  obtain ⟨r, l, rfl⟩ : ∃ (a : Fin 1024) (b : Fin 2048), y = ix2 a b := ⟨y 0, y 1, eq_ix2 y⟩
  have ei : ((View.whole main_v77_1).slice (win0_18.rect t)).emb (ix2 r l) = ix2 ⟨t.val * 1024 + r.val, point_lt t r⟩ l := by
    blk_ext! [index t]
  rw [ei]
  refine (out18_apply _ _ _ _ _ _ _ _ _ _ _ _ _ _ _ _ _ r l).trans ?_
  simp only [proj, h_eq, in3]
  rfl

/-- The array of the third group of columns after the run. -/
theorem final19 : (dats m 0 c).arrAt 19 cfg0.N = G19 m c := by
  refine (dats m 0 c).arrAt_eq_of_covers 19 _ (by decide +kernel) fun t hf y => ?_
  blk_simp
  rw [after0_19]
  obtain ⟨r, l, rfl⟩ : ∃ (a : Fin 1024) (b : Fin 128), y = ix2 a b := ⟨y 0, y 1, eq_ix2 y⟩
  have ei : ((View.whole main_v77_2).slice (win0_19.rect t)).emb (ix2 r l) = ix2 ⟨t.val * 1024 + r.val, point_lt t r⟩ l := by
    blk_ext! [index t]
  rw [ei]
  refine (out19_apply _ _ _ _ _ _ _ _ _ _ _ _ _ _ _ _ _ r l).trans ?_
  simp only [proj, h_eq, in4]
  show _ = if h : l.val < 16 then _ else _
  by_cases h : l.val < 16
  · simp only [dif_pos h]
    rfl
  · simp only [dif_neg h, mul_zero, Finset.sum_const_zero]

/-- The array of the queries after the run. -/
theorem final20 (ht : Layout m c) : (dats m 0 c).arrAt 20 cfg0.N = G20 m c := by
  refine (dats m 0 c).arrAt_eq_of_covers 20 _ (by decide +kernel) fun t hf y => ?_
  blk_simp
  rw [after0_20]
  obtain ⟨r, l, rfl⟩ : ∃ (a : Fin 1024) (b : Fin 1024), y = ix2 a b := ⟨y 0, y 1, eq_ix2 y⟩
  have ei : ((View.whole main_v77_3).slice (win0_20.rect t)).emb (ix2 r l) = ix2 ⟨t.val * 1024 + r.val, point_lt t r⟩ l := by
    blk_ext! [index t]
  rw [ei]
  refine (out20_apply _ _ _ _ _ _ _ _ _ _ _ _ _ _ _ _ _ r l).trans ?_
  have hy : (fun e : Fin 128 => k0_pay54 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r ⟨l.val / 128 * 128 + e.val, by omega⟩))
      = RopeMath.padded (YQ m c ⟨t.val * 1024 + r.val, point_lt t r⟩ ⟨l.val / 128, by omega⟩) := funext fun e => yq0 m c t r ⟨l.val / 128, by omega⟩ e
  have hp := yq1 m c t r ⟨l.val / 128, by omega⟩ ⟨l.val % 128, by omega⟩
  show RopeMath.turned _ _ (_ * _) _ = _
  rw [hy, hp, fq0, fq1]
  exact RopeMath.turned_eq _ _ _ _ (ht ⟨t.val * 1024 + r.val, point_lt t r⟩) RopeMath.scale96_nonneg.1 RopeMath.scale96_nonneg.2 _

/-- The array of the keys after the run. -/
theorem final21 (ht : Layout m c) : (dats m 0 c).arrAt 21 cfg0.N = G21 m c := by
  refine (dats m 0 c).arrAt_eq_of_covers 21 _ (by decide +kernel) fun t hf y => ?_
  blk_simp
  rw [after0_21]
  obtain ⟨r, l, rfl⟩ : ∃ (a : Fin 1024) (b : Fin 1024), y = ix2 a b := ⟨y 0, y 1, eq_ix2 y⟩
  have ei : ((View.whole main_v77_4).slice (win0_21.rect t)).emb (ix2 r l) = ix2 ⟨t.val * 1024 + r.val, point_lt t r⟩ l := by
    blk_ext! [index t]
  rw [ei]
  refine (out21_apply _ _ _ _ _ _ _ _ _ _ _ _ _ _ _ _ _ r l).trans ?_
  have hy : (fun e : Fin 128 => k0_pay55 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r ⟨l.val / 128 * 128 + e.val, by omega⟩) + k0_pay52 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r e))
      = RopeMath.padded (YK m c ⟨t.val * 1024 + r.val, point_lt t r⟩ ⟨l.val / 128, by omega⟩) := funext fun e => ykey m c t r ⟨l.val / 128, by omega⟩ e
  show RopeMath.turned _ _ _ _ = _
  rw [hy, fk0, fk1 m c t r ⟨l.val / 128, by omega⟩]
  exact RopeMath.turned_one _ _ _ _ (ht ⟨t.val * 1024 + r.val, point_lt t r⟩) _

/-- The array of the values after the run. -/
theorem final22 : (dats m 0 c).arrAt 22 cfg0.N = G22 m c := by
  refine (dats m 0 c).arrAt_eq_of_covers 22 _ (by decide +kernel) fun t hf y => ?_
  blk_simp
  rw [after0_22]
  obtain ⟨r, l, rfl⟩ : ∃ (a : Fin 1024) (b : Fin 512), y = ix2 a b := ⟨y 0, y 1, eq_ix2 y⟩
  have ei : ((View.whole main_v77_5).slice (win0_22.rect t)).emb (ix2 r l) = ix2 ⟨t.val * 1024 + r.val, point_lt t r⟩ l := by
    blk_ext! [index t]
  rw [ei]
  refine (out22_apply _ _ _ _ _ _ _ _ _ _ _ _ _ _ _ _ _ r l).trans ?_
  simp only [proj, k_eq, in14]
  rfl

end Cert.Kernel6Ideal.InEven

end
-- ==== Proof.InEvenClaims.lean ====
/-
  The input projection of an even layer: what the precondition says of the tables, the reference's six results, from the
  kernel's arguments, as the functions that the call's arrays hold, and so the two programs' results are equal.
-/
module

public import proofs.«01_k».proof.Defs
public import proofs.«01_k».proof.Proof.Gen.Kernel6Ideal
public import proofs.«01_k».proof.Proof.Gen.Reference6Ideal
public import proofs.«01_k».proof.Proof.Gen.Reference6Ideal.Run
public import proofs.«01_k».proof.Proof.Gen.Pre_rope_layout
public import proofs.«01_k».proof.Proof.InEvenRef
public import proofs.«01_k».proof.Proof.InEvenFinal

@[expose] public section

noncomputable section

open Idealize.ShloMosaic Idealize.ShloMosaic.TcCoe Idealize.SL.Sem

namespace Cert.InEven

/-- The reference's run leaves its arguments and every counter as they were. -/
theorem reference_frame : Cert.quiescent_Reference6Ideal (hReference6Ideal := Cert.Reference6Ideal.Gen.facts) := fun m ρ _ =>
  (θ_run Cert.Reference6Ideal.defs _ _).mono (fun r h => ⟨fun c => (h c).2.2.2.2.2.2, sem_eq_zero_of_no_sems (by decide) r.2⟩)
    (Cert.Reference6Ideal.Value.run (F := Ideal) m ρ)

/-- Two numbers that the comparison calls equal are equal. -/
theorem eq_of_oeq (a b : Ideal .f32) (h : FloatOps.cmpf .oeq a b = 1#1) : (a : EReal) = b := by
  by_contra hne
  have h' : BitVec.ofBool (decide ((a : EReal) = b)) = 1#1 := h
  rw [decide_eq_false hne] at h'
  exact absurd h' (by decide)

/-- What the precondition says of the tables. -/
theorem tables_of_fn (x0 : FVec Ideal Cert.Pre_rope_layout.S65536x1024 .f32) (x1 : FVec Ideal Cert.Pre_rope_layout.S1024 .f32)
    (x2 : FVec Ideal Cert.Pre_rope_layout.S1024x3760 .f32) (x3 x4 : FVec Ideal Cert.Pre_rope_layout.S65536x128 .f32)
    (x5 : FVec Ideal Cert.Pre_rope_layout.S384 .f32) (x6 : FVec Ideal Cert.Pre_rope_layout.S384x768 .f32)
    (x7 : FVec Ideal Cert.Pre_rope_layout.S256 .f32) (x8 : FVec Ideal Cert.Pre_rope_layout.S256x1024 .f32)
    (x9 x10 : FVec Ideal Cert.Pre_rope_layout.S96 .f32) [Cert.Pre_rope_layout.Facts]
    (h1 : (Cert.Pre_rope_layout.fn (F := Ideal) x0 x1 x2 x3 x4 x5 x6 x7 x8 x9 x10).1 = fun _ => 1#1)
    (h2 : (Cert.Pre_rope_layout.fn (F := Ideal) x0 x1 x2 x3 x4 x5 x6 x7 x8 x9 x10).2.1 = fun _ => 1#1)
    (h3 : (Cert.Pre_rope_layout.fn (F := Ideal) x0 x1 x2 x3 x4 x5 x6 x7 x8 x9 x10).2.2 = fun _ => 1#1) (r : Fin 65536) :
    RopeMath.Tables (fun d => x3 (ix2 r d)) (fun d => x4 (ix2 r d)) where
  one d hd := by
    have e := eq_of_oeq _ _ (congrFun h1 (ix2 r (⟨d.val, hd⟩ : Fin 64)))
    have el : (extractStridedSlice Cert.Pre_rope_layout.S65536x64 ![0, 0] x3 Cert.Pre_rope_layout.Facts.slices_S65536x128_S65536x64_0_0 (ix2 r ⟨d.val, hd⟩) : EReal) = x3 (ix2 r d) := by pointwise
    exact el.symm.trans (e.trans Ideal.ofBits_one_f32)
  cos d hd := by
    have e := eq_of_oeq _ _ (congrFun h2 (ix2 r (⟨d.val - 64, by omega⟩ : Fin 16)))
    have e1 : (extractStridedSlice Cert.Pre_rope_layout.S65536x16 ![0, 64] x3 Cert.Pre_rope_layout.Facts.slices_S65536x128_S65536x16_0_64 (ix2 r ⟨d.val - 64, by omega⟩) : EReal) = x3 (ix2 r d) := by
      pointwise
      exact congrArg (fun j => x3 (ix2 r j)) (Fin.ext (by show 64 + (d.val - 64) = d.val; omega))
    have e2 : (extractStridedSlice Cert.Pre_rope_layout.S65536x16 ![0, 80] x3 Cert.Pre_rope_layout.Facts.slices_S65536x128_S65536x16_0_80 (ix2 r ⟨d.val - 64, by omega⟩) : EReal) = x3 (ix2 r ⟨d.val + 16, by omega⟩) := by
      pointwise
      exact congrArg (fun j => x3 (ix2 r j)) (Fin.ext (by show 80 + (d.val - 64) = d.val + 16; omega))
    exact e1.symm.trans (e.trans e2)
  sin d hd := by
    have e := eq_of_oeq _ _ (congrFun h3 (ix2 r (⟨d.val - 64, by omega⟩ : Fin 16)))
    have e1 : (extractStridedSlice Cert.Pre_rope_layout.S65536x16 ![0, 64] x4 Cert.Pre_rope_layout.Facts.slices_S65536x128_S65536x16_0_64 (ix2 r ⟨d.val - 64, by omega⟩) : EReal) = x4 (ix2 r d) := by
      pointwise
      exact congrArg (fun j => x4 (ix2 r j)) (Fin.ext (by show 64 + (d.val - 64) = d.val; omega))
    have e2 : (extractStridedSlice Cert.Pre_rope_layout.S65536x16 ![0, 80] x4 Cert.Pre_rope_layout.Facts.slices_S65536x128_S65536x16_0_80 (ix2 r ⟨d.val - 64, by omega⟩) : EReal) = x4 (ix2 r ⟨d.val + 16, by omega⟩) := by
      pointwise
      exact congrArg (fun j => x4 (ix2 r j)) (Fin.ext (by show 80 + (d.val - 64) = d.val + 16; omega))
    exact e1.symm.trans (e.trans (congrArg (fun x : EReal => -x) e2))

variable (m : (ℓ : Loc Cert.Kernel6Ideal.nD Cert.Kernel6Ideal.τ Cert.Kernel6Ideal.sig) → Buf (Elt Ideal) ℓ)
  (m' : (ℓ : Loc Cert.Reference6Ideal.nD Cert.Reference6Ideal.τ Cert.Reference6Ideal.sig) → Buf (Elt Ideal) ℓ) (c : Dev Cert.Kernel6Ideal.nD)

/-- The tables hold row by row what the layer's tables hold. -/
theorem layout (hm : Cert.Pre_Kernel6Ideal_rope_layout (hPre_rope_layout := Cert.Pre_rope_layout.Gen.facts) m) : Cert.Kernel6Ideal.InEven.Layout m c :=
  fun r => tables_of_fn _ _ _ _ _ _ _ _ _ _ _ (hm c).1 (hm c).2.1 (hm c).2.2 r

/-- The two programs start from the same arguments. -/
abbrev Agree : Prop :=
  m' ((c : Thread Cert.Reference6Ideal.nD Cert.Reference6Ideal.τ).loc Cert.Reference6Ideal.main_arg0) = m ((c : Thread Cert.Kernel6Ideal.nD Cert.Kernel6Ideal.τ).loc Cert.Kernel6Ideal.main_arg0)
    ∧ m' ((c : Thread Cert.Reference6Ideal.nD Cert.Reference6Ideal.τ).loc Cert.Reference6Ideal.main_arg1) = m ((c : Thread Cert.Kernel6Ideal.nD Cert.Kernel6Ideal.τ).loc Cert.Kernel6Ideal.main_arg1)
    ∧ m' ((c : Thread Cert.Reference6Ideal.nD Cert.Reference6Ideal.τ).loc Cert.Reference6Ideal.main_arg2) = m ((c : Thread Cert.Kernel6Ideal.nD Cert.Kernel6Ideal.τ).loc Cert.Kernel6Ideal.main_arg2)
    ∧ m' ((c : Thread Cert.Reference6Ideal.nD Cert.Reference6Ideal.τ).loc Cert.Reference6Ideal.main_arg3) = m ((c : Thread Cert.Kernel6Ideal.nD Cert.Kernel6Ideal.τ).loc Cert.Kernel6Ideal.main_arg3)
    ∧ m' ((c : Thread Cert.Reference6Ideal.nD Cert.Reference6Ideal.τ).loc Cert.Reference6Ideal.main_arg4) = m ((c : Thread Cert.Kernel6Ideal.nD Cert.Kernel6Ideal.τ).loc Cert.Kernel6Ideal.main_arg4)
    ∧ m' ((c : Thread Cert.Reference6Ideal.nD Cert.Reference6Ideal.τ).loc Cert.Reference6Ideal.main_arg5) = m ((c : Thread Cert.Kernel6Ideal.nD Cert.Kernel6Ideal.τ).loc Cert.Kernel6Ideal.main_arg5)
    ∧ m' ((c : Thread Cert.Reference6Ideal.nD Cert.Reference6Ideal.τ).loc Cert.Reference6Ideal.main_arg6) = m ((c : Thread Cert.Kernel6Ideal.nD Cert.Kernel6Ideal.τ).loc Cert.Kernel6Ideal.main_arg6)
    ∧ m' ((c : Thread Cert.Reference6Ideal.nD Cert.Reference6Ideal.τ).loc Cert.Reference6Ideal.main_arg7) = m ((c : Thread Cert.Kernel6Ideal.nD Cert.Kernel6Ideal.τ).loc Cert.Kernel6Ideal.main_arg7)
    ∧ m' ((c : Thread Cert.Reference6Ideal.nD Cert.Reference6Ideal.τ).loc Cert.Reference6Ideal.main_arg8) = m ((c : Thread Cert.Kernel6Ideal.nD Cert.Kernel6Ideal.τ).loc Cert.Kernel6Ideal.main_arg8)
    ∧ m' ((c : Thread Cert.Reference6Ideal.nD Cert.Reference6Ideal.τ).loc Cert.Reference6Ideal.main_arg9) = m ((c : Thread Cert.Kernel6Ideal.nD Cert.Kernel6Ideal.τ).loc Cert.Kernel6Ideal.main_arg9)
    ∧ m' ((c : Thread Cert.Reference6Ideal.nD Cert.Reference6Ideal.τ).loc Cert.Reference6Ideal.main_arg10) = m ((c : Thread Cert.Kernel6Ideal.nD Cert.Kernel6Ideal.τ).loc Cert.Kernel6Ideal.main_arg10)

/-- The reference's first group of columns, from the kernel's arguments. -/
theorem value_z (h : Agree m m' c) : Cert.Reference6Ideal.Read.val_main_v120 (F := Ideal) (m' ((c : Thread Cert.Reference6Ideal.nD Cert.Reference6Ideal.τ).loc Cert.Reference6Ideal.main_arg0)) (m' ((c : Thread Cert.Reference6Ideal.nD Cert.Reference6Ideal.τ).loc Cert.Reference6Ideal.main_arg1)) (m' ((c : Thread Cert.Reference6Ideal.nD Cert.Reference6Ideal.τ).loc Cert.Reference6Ideal.main_arg2))
      = Cert.Kernel6Ideal.InEven.G17 m c := by
  obtain ⟨h0, h1, h2, h3, h4, h5, h6, h7, h8, h9, h10⟩ := h
  rw [h0, h1, h2]
  funext i
  obtain ⟨r, l, rfl⟩ : ∃ (a : Fin 65536) (b : Fin 1024), i = ix2 a b := ⟨i 0, i 1, eq_ix2 i⟩
  refine (Cert.Reference6Ideal.InEven.z_apply _ _ _ r l).trans ?_
  simp only [Cert.Reference6Ideal.InEven.proj_apply]
  rfl

/-- The reference's second group of columns, from the kernel's arguments. -/
theorem value_xbc (h : Agree m m' c) : Cert.Reference6Ideal.Read.val_main_v121 (F := Ideal) (m' ((c : Thread Cert.Reference6Ideal.nD Cert.Reference6Ideal.τ).loc Cert.Reference6Ideal.main_arg0)) (m' ((c : Thread Cert.Reference6Ideal.nD Cert.Reference6Ideal.τ).loc Cert.Reference6Ideal.main_arg1)) (m' ((c : Thread Cert.Reference6Ideal.nD Cert.Reference6Ideal.τ).loc Cert.Reference6Ideal.main_arg2))
      = Cert.Kernel6Ideal.InEven.G18 m c := by
  obtain ⟨h0, h1, h2, h3, h4, h5, h6, h7, h8, h9, h10⟩ := h
  rw [h0, h1, h2]
  funext i
  obtain ⟨r, l, rfl⟩ : ∃ (a : Fin 65536) (b : Fin 2048), i = ix2 a b := ⟨i 0, i 1, eq_ix2 i⟩
  refine (Cert.Reference6Ideal.InEven.xbc_apply _ _ _ r l).trans ?_
  simp only [Cert.Reference6Ideal.InEven.proj_apply]
  rfl

/-- The reference's third group of columns, from the kernel's arguments. -/
theorem value_dt (h : Agree m m' c) : Cert.Reference6Ideal.Read.val_main_v122 (F := Ideal) (m' ((c : Thread Cert.Reference6Ideal.nD Cert.Reference6Ideal.τ).loc Cert.Reference6Ideal.main_arg0)) (m' ((c : Thread Cert.Reference6Ideal.nD Cert.Reference6Ideal.τ).loc Cert.Reference6Ideal.main_arg1)) (m' ((c : Thread Cert.Reference6Ideal.nD Cert.Reference6Ideal.τ).loc Cert.Reference6Ideal.main_arg2))
      = Cert.Kernel6Ideal.InEven.G19 m c := by
  obtain ⟨h0, h1, h2, h3, h4, h5, h6, h7, h8, h9, h10⟩ := h
  rw [h0, h1, h2]
  funext i
  obtain ⟨r, l, rfl⟩ : ∃ (a : Fin 65536) (b : Fin 128), i = ix2 a b := ⟨i 0, i 1, eq_ix2 i⟩
  refine (Cert.Reference6Ideal.InEven.dt_apply _ _ _ r l).trans ?_
  simp only [Cert.Reference6Ideal.InEven.proj_apply]
  rfl

/-- The reference's queries, from the kernel's arguments. -/
theorem value_q (h : Agree m m' c) : Cert.Reference6Ideal.Read.val_main_v125 (F := Ideal) (m' ((c : Thread Cert.Reference6Ideal.nD Cert.Reference6Ideal.τ).loc Cert.Reference6Ideal.main_arg0)) (m' ((c : Thread Cert.Reference6Ideal.nD Cert.Reference6Ideal.τ).loc Cert.Reference6Ideal.main_arg1)) (m' ((c : Thread Cert.Reference6Ideal.nD Cert.Reference6Ideal.τ).loc Cert.Reference6Ideal.main_arg2)) (m' ((c : Thread Cert.Reference6Ideal.nD Cert.Reference6Ideal.τ).loc Cert.Reference6Ideal.main_arg3)) (m' ((c : Thread Cert.Reference6Ideal.nD Cert.Reference6Ideal.τ).loc Cert.Reference6Ideal.main_arg4)) (m' ((c : Thread Cert.Reference6Ideal.nD Cert.Reference6Ideal.τ).loc Cert.Reference6Ideal.main_arg5)) (m' ((c : Thread Cert.Reference6Ideal.nD Cert.Reference6Ideal.τ).loc Cert.Reference6Ideal.main_arg6)) (m' ((c : Thread Cert.Reference6Ideal.nD Cert.Reference6Ideal.τ).loc Cert.Reference6Ideal.main_arg9))
      = Cert.Kernel6Ideal.InEven.G20 m c := by
  obtain ⟨h0, h1, h2, h3, h4, h5, h6, h7, h8, h9, h10⟩ := h
  rw [h0, h1, h2, h3, h4, h5, h6, h9]
  funext i
  obtain ⟨r, l, rfl⟩ : ∃ (a : Fin 65536) (b : Fin 1024), i = ix2 a b := ⟨i 0, i 1, eq_ix2 i⟩
  refine (Cert.Reference6Ideal.InEven.q_apply _ _ _ _ _ _ _ _ r l).trans ?_
  simp only [Cert.Reference6Ideal.InEven.rq_apply, Cert.Reference6Ideal.InEven.nq_apply, Cert.Reference6Ideal.InEven.yq_apply, Cert.Reference6Ideal.InEven.qa_apply, Cert.Reference6Ideal.InEven.proj_apply]
  rfl

/-- The reference's keys, from the kernel's arguments. -/
theorem value_k (h : Agree m m' c) : Cert.Reference6Ideal.Read.val_main_v128 (F := Ideal) (m' ((c : Thread Cert.Reference6Ideal.nD Cert.Reference6Ideal.τ).loc Cert.Reference6Ideal.main_arg0)) (m' ((c : Thread Cert.Reference6Ideal.nD Cert.Reference6Ideal.τ).loc Cert.Reference6Ideal.main_arg1)) (m' ((c : Thread Cert.Reference6Ideal.nD Cert.Reference6Ideal.τ).loc Cert.Reference6Ideal.main_arg2)) (m' ((c : Thread Cert.Reference6Ideal.nD Cert.Reference6Ideal.τ).loc Cert.Reference6Ideal.main_arg3)) (m' ((c : Thread Cert.Reference6Ideal.nD Cert.Reference6Ideal.τ).loc Cert.Reference6Ideal.main_arg4)) (m' ((c : Thread Cert.Reference6Ideal.nD Cert.Reference6Ideal.τ).loc Cert.Reference6Ideal.main_arg7)) (m' ((c : Thread Cert.Reference6Ideal.nD Cert.Reference6Ideal.τ).loc Cert.Reference6Ideal.main_arg8)) (m' ((c : Thread Cert.Reference6Ideal.nD Cert.Reference6Ideal.τ).loc Cert.Reference6Ideal.main_arg10))
      = Cert.Kernel6Ideal.InEven.G21 m c := by
  obtain ⟨h0, h1, h2, h3, h4, h5, h6, h7, h8, h9, h10⟩ := h
  rw [h0, h1, h2, h3, h4, h7, h8, h10]
  funext i
  obtain ⟨r, l, rfl⟩ : ∃ (a : Fin 65536) (b : Fin 1024), i = ix2 a b := ⟨i 0, i 1, eq_ix2 i⟩
  refine (Cert.Reference6Ideal.InEven.k_apply _ _ _ _ _ _ _ _ r l).trans ?_
  simp only [Cert.Reference6Ideal.InEven.rk_apply, Cert.Reference6Ideal.InEven.nk_apply, Cert.Reference6Ideal.InEven.yk_apply, Cert.Reference6Ideal.InEven.kv_apply, Cert.Reference6Ideal.InEven.kvc_apply, Cert.Reference6Ideal.InEven.proj_apply]
  rfl

/-- The reference's values, from the kernel's arguments. -/
theorem value_v (h : Agree m m' c) : Cert.Reference6Ideal.Read.val_main_v130 (F := Ideal) (m' ((c : Thread Cert.Reference6Ideal.nD Cert.Reference6Ideal.τ).loc Cert.Reference6Ideal.main_arg0)) (m' ((c : Thread Cert.Reference6Ideal.nD Cert.Reference6Ideal.τ).loc Cert.Reference6Ideal.main_arg1)) (m' ((c : Thread Cert.Reference6Ideal.nD Cert.Reference6Ideal.τ).loc Cert.Reference6Ideal.main_arg2)) (m' ((c : Thread Cert.Reference6Ideal.nD Cert.Reference6Ideal.τ).loc Cert.Reference6Ideal.main_arg7)) (m' ((c : Thread Cert.Reference6Ideal.nD Cert.Reference6Ideal.τ).loc Cert.Reference6Ideal.main_arg8))
      = Cert.Kernel6Ideal.InEven.G22 m c := by
  obtain ⟨h0, h1, h2, h3, h4, h5, h6, h7, h8, h9, h10⟩ := h
  rw [h0, h1, h2, h7, h8]
  funext i
  obtain ⟨r, l, rfl⟩ : ∃ (a : Fin 65536) (b : Fin 512), i = ix2 a b := ⟨i 0, i 1, eq_ix2 i⟩
  refine (Cert.Reference6Ideal.InEven.v_apply _ _ _ _ _ r l).trans ?_
  simp only [Cert.Reference6Ideal.InEven.kv_apply, Cert.Reference6Ideal.InEven.kvc_apply, Cert.Reference6Ideal.InEven.proj_apply]
  rfl

set_option maxHeartbeats 2000000 in
/-- Where the tables are the layer's, the call's results and the reference's are equal. -/
theorem algebraic : Cert.algebraic_Kernel6Ideal_Reference6Ideal_pre_rope_layout (hKernel6Ideal := Cert.Kernel6Ideal.Gen.facts)
    (hReference6Ideal := Cert.Reference6Ideal.Gen.facts) (hPre_rope_layout := Cert.Pre_rope_layout.Gen.facts) := by
  intro m ρ m' ρ' hm hagree
  refine ⟨fun c => Cert.Kernel6Ideal.InEven.G17 m c, fun c => Cert.Kernel6Ideal.InEven.G18 m c, fun c => Cert.Kernel6Ideal.InEven.G19 m c, fun c => Cert.Kernel6Ideal.InEven.G20 m c, fun c => Cert.Kernel6Ideal.InEven.G21 m c, fun c => Cert.Kernel6Ideal.InEven.G22 m c, ?_, ?_⟩
  · refine (θ_run Cert.Kernel6Ideal.defs _ _).mono (fun r h c => ?_) (Cert.Kernel6Ideal.Value.run_blocks m ρ)
    obtain ⟨h0, h1, h2, h3, h4, h5, hk⟩ := h c
    exact ⟨h0.trans (Cert.Kernel6Ideal.InEven.final17 m c), h1.trans (Cert.Kernel6Ideal.InEven.final18 m c), h2.trans (Cert.Kernel6Ideal.InEven.final19 m c), h3.trans (Cert.Kernel6Ideal.InEven.final20 m c (layout m c hm)), h4.trans (Cert.Kernel6Ideal.InEven.final21 m c (layout m c hm)), h5.trans (Cert.Kernel6Ideal.InEven.final22 m c), hk⟩
  · refine (θ_run Cert.Reference6Ideal.defs _ _).mono (fun r h c => ?_) (Cert.Reference6Ideal.Value.run (F := Ideal) m' ρ')
    have ha := hagree c
    obtain ⟨h0, h1, h2, h3, h4, h5, hk⟩ := h c
    exact ⟨(h0.trans (Cert.Reference6Ideal.Read.val_main_v120_eq _ _ _ )).trans (value_z m m' c ha),
      (h1.trans (Cert.Reference6Ideal.Read.val_main_v121_eq _ _ _ )).trans (value_xbc m m' c ha),
      (h2.trans (Cert.Reference6Ideal.Read.val_main_v122_eq _ _ _ )).trans (value_dt m m' c ha),
      (h3.trans (Cert.Reference6Ideal.Read.val_main_v125_eq _ _ )).trans (value_q m m' c ha),
      (h4.trans (Cert.Reference6Ideal.Read.val_main_v128_eq _ _ )).trans (value_k m m' c ha),
      (h5.trans (Cert.Reference6Ideal.Read.val_main_v130_eq _ _ _ _ _ )).trans (value_v m m' c ha), hk⟩

end Cert.InEven

end
-- ==== Proof.InOddRef.lean ====
/-
  The reference of an odd layer's input projection at an element: each result is a group of columns of the normalised
  row's projection, in heads of 64 columns with 64 zeros behind them where the result is laid out so, the queries and
  keys after their heads' norms.
-/
module

public import proofs.«01_k».proof.Proof.Gen.Reference5Ideal.Read
public import proofs.«01_k».proof.Proof.InMath
public import Idealize.ShloMosaic.Lib.Pointwise

@[expose] public section

noncomputable section

open Idealize.ShloMosaic Idealize.ShloMosaic.TcCoe Idealize.SL.Sem

namespace Cert.Reference5Ideal.InOdd
open Cert.Reference5Ideal Cert.Reference5Ideal.Gen Cert.Reference5Ideal.Read

variable (x0 : FVec Ideal S65536x1024 .f32) (x1 : FVec Ideal S1024 .f32) (x2 : FVec Ideal S1024x2320 .f32) (x3 x4 : FVec Ideal S64 .f32)

/-- The projected row at an element. -/
theorem proj_apply (r : Fin 65536) (j : Fin 2320) :
    val_main_v13 (F := Ideal) x0 x1 x2 (ix2 r j) = ∑ k : Fin 1024, FfnMath.normRow (fun k => x0 (ix2 r k)) (fun k => x1 (ix1 k)) k * x2 (ix2 k j) := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise [FfnMath.normRow]

/-- The queries at an element. -/
theorem q_apply (r : Fin 65536) (l : Fin 1024) :
    val_main_v69 (F := Ideal) x0 x1 x2 x3 (ix2 r l) = InMath.padded (fun d => InMath.headNorm
      (fun e => val_main_v13 (F := Ideal) x0 x1 x2 (ix2 r ⟨l.val / 128 * 64 + e.val, by omega⟩)) (fun e => x3 (ix1 e)) d * InMath.scale64) ⟨l.val % 128, by omega⟩ := by
  unfold val_main_v69 val_main_v62 val_main_v61 val_main_v37 val_main_v36 val_main_v35 val_main_v34 val_main_v33 val_main_v32 val_main_v31 val_main_v30 val_main_v29 val_main_v28 val_main_v27 val_main_v26 val_main_v25 val_main_v24 val_main_v23 val_main_v22
    val_main_v14 val_main_cst_2 val_main_cst_3 val_main_cst_4 val_main_cst_5 val_main_call1_v0 val_main_c_10
  generalize val_main_v13 (F := Ideal) x0 x1 x2 = y
  pointwise [InMath.padded, InMath.headNorm]
  exact InMath.dite_head (by omega) _ _ fun _ => rfl

/-- The keys at an element. -/
theorem k_apply (r : Fin 65536) (l : Fin 256) :
    val_main_v70 (F := Ideal) x0 x1 x2 x4 (ix2 r l) = InMath.padded (fun d => InMath.headNorm
      (fun e => val_main_v13 (F := Ideal) x0 x1 x2 (ix2 r ⟨512 + (l.val / 128 * 64 + e.val), by omega⟩)) (fun e => x4 (ix1 e)) d) ⟨l.val % 128, by omega⟩ := by
  unfold val_main_v70 val_main_v64 val_main_v63 val_main_v51 val_main_v50 val_main_v49 val_main_v48 val_main_v47 val_main_v46 val_main_v45 val_main_v44 val_main_v43 val_main_v42 val_main_v41 val_main_v40 val_main_v39 val_main_v38
    val_main_v15 val_main_cst_6 val_main_cst_7 val_main_cst_8 val_main_call2_v0 val_main_c_11
  generalize val_main_v13 (F := Ideal) x0 x1 x2 = y
  pointwise [InMath.padded, InMath.headNorm]
  exact InMath.dite_head (by omega) _ _ fun _ => rfl

/-- The values at an element: every head is there twice. -/
theorem v_apply (r : Fin 65536) (l : Fin 256) :
    val_main_v71 (F := Ideal) x0 x1 x2 (ix2 r l) = val_main_v13 (F := Ideal) x0 x1 x2 (ix2 r ⟨640 + (l.val / 128 * 64 + l.val % 64), by omega⟩) := by
  unfold val_main_v71 val_main_v55 val_main_v54 val_main_v53 val_main_v52 val_main_v16
  generalize val_main_v13 (F := Ideal) x0 x1 x2 = y
  pointwise

/-- The queries of the gated heads at an element. -/
theorem gq_apply (r : Fin 65536) (l : Fin 512) :
    val_main_v72 (F := Ideal) x0 x1 x2 (ix2 r l) = InMath.padded (fun d => val_main_v13 (F := Ideal) x0 x1 x2 (ix2 r ⟨768 + (l.val / 128 * 64 + d.val), by omega⟩) * InMath.eighth) ⟨l.val % 128, by omega⟩ := by
  unfold val_main_v72 val_main_v66 val_main_v65 val_main_v58 val_main_v57 val_main_v56 val_main_v17 val_main_cst_9 val_main_call3_v0 val_main_c_12
  generalize val_main_v13 (F := Ideal) x0 x1 x2 = y
  pointwise [InMath.padded]
  exact InMath.dite_head (by omega) _ _ fun _ => rfl

/-- The keys of the gated heads at an element. -/
theorem gk_apply (r : Fin 65536) (l : Fin 512) :
    val_main_v73 (F := Ideal) x0 x1 x2 (ix2 r l) = InMath.padded (fun d => val_main_v13 (F := Ideal) x0 x1 x2 (ix2 r ⟨1024 + (l.val / 128 * 64 + d.val), by omega⟩)) ⟨l.val % 128, by omega⟩ := by
  unfold val_main_v73 val_main_v68 val_main_v67 val_main_v59 val_main_v18 val_main_call4_v0 val_main_c_13
  generalize val_main_v13 (F := Ideal) x0 x1 x2 = y
  pointwise [InMath.padded]
  exact InMath.dite_head (by omega) _ _ fun _ => rfl

/-- The values of the gated heads at an element. -/
theorem gv_apply (r : Fin 65536) (l : Fin 512) :
    val_main_v74 (F := Ideal) x0 x1 x2 (ix2 r l) = val_main_v13 (F := Ideal) x0 x1 x2 (ix2 r ⟨1280 + l.val, by omega⟩) := by
  unfold val_main_v74 val_main_v19
  generalize val_main_v13 (F := Ideal) x0 x1 x2 = y
  pointwise

/-- The gates' inner columns at an element. -/
theorem ga_apply (r : Fin 65536) (l : Fin 128) :
    val_main_v75 (F := Ideal) x0 x1 x2 (ix2 r l) = if h : l.val < 16 then val_main_v13 (F := Ideal) x0 x1 x2 (ix2 r ⟨1792 + l.val, by omega⟩) else 0 := by
  unfold val_main_v75 val_main_v60 val_main_v20 val_main_call0_v0 val_main_c
  generalize val_main_v13 (F := Ideal) x0 x1 x2 = y
  pointwise [InMath.ofInt_zero]

/-- The output gates of the gated heads at an element. -/
theorem gr_apply (r : Fin 65536) (l : Fin 512) :
    val_main_v76 (F := Ideal) x0 x1 x2 (ix2 r l) = val_main_v13 (F := Ideal) x0 x1 x2 (ix2 r ⟨1808 + l.val, by omega⟩) := by
  unfold val_main_v76 val_main_v21
  generalize val_main_v13 (F := Ideal) x0 x1 x2 = y
  pointwise

end Cert.Reference5Ideal.InOdd

end
-- ==== Proof.InOddArgs.lean ====
/-
  Program Kernel5 (an odd layer's input projection) at the extended reals: what each operand of the call holds, element by
  element, as a function of the program's arguments, and what block of it a grid point sees.
-/
module

public import proofs.«01_k».proof.Proof.Gen.Kernel5Ideal.Value
public import proofs.«01_k».proof.Proof.InMath
public import Idealize.ShloMosaic.Lib.Pipeline.ValueKit
public import Idealize.ShloMosaic.Lib.StableHlo.RunRead
public import Idealize.ShloMosaic.Lib.Pointwise

@[expose] public section

noncomputable section

open Idealize.ShloMosaic Idealize.ShloMosaic.TcCoe Idealize.SL.Sem
open Idealize.ShloMosaic.Pipeline (Dat)

namespace Cert.Kernel5Ideal.InOdd
open Cert.Kernel5Ideal Cert.Kernel5Ideal.Gen

variable (m : (ℓ : Loc nD τ sig) → Buf (Elt Ideal) ℓ)

/-- The argument of rows, the norm's gain, the stacked weights and the two head gains. -/
abbrev argX (c : Dev nD) : FVec Ideal S65536x1024 .f32 := m ((c : Thread nD τ).loc main_arg0)
abbrev argG (c : Dev nD) : FVec Ideal S1024 .f32 := m ((c : Thread nD τ).loc main_arg1)
abbrev argW (c : Dev nD) : FVec Ideal S1024x2320 .f32 := m ((c : Thread nD τ).loc main_arg2)
abbrev argQ (c : Dev nD) : FVec Ideal S64 .f32 := m ((c : Thread nD τ).loc main_arg3)
abbrev argK (c : Dev nD) : FVec Ideal S64 .f32 := m ((c : Thread nD τ).loc main_arg4)

/-- Which block of its array each window holds at a grid point. -/
theorem index : ∀ t : Fin grid0.N, win0_0.index t = ![t.val, 0] ∧ win0_1.index t = ![0, 0] ∧ win0_2.index t = ![0, 0] ∧ win0_3.index t = ![0, 0]
  ∧ win0_4.index t = ![0, 0] ∧ win0_5.index t = ![0, 0] ∧ win0_6.index t = ![0, 0] ∧ win0_7.index t = ![0, 0] ∧ win0_8.index t = ![0, 0]
  ∧ win0_9.index t = ![0, 0] ∧ win0_10.index t = ![0, 0] ∧ win0_11.index t = ![0, 0] ∧ win0_12.index t = ![t.val, 0]
  ∧ win0_13.index t = ![t.val, 0] ∧ win0_14.index t = ![t.val, 0] ∧ win0_15.index t = ![t.val, 0] ∧ win0_16.index t = ![t.val, 0]
  ∧ win0_17.index t = ![t.val, 0] ∧ win0_18.index t = ![t.val, 0] ∧ win0_19.index t = ![t.val, 0] := by decide +kernel

variable (c : Dev nD) (t : Fin cfg0.N)

/-- A grid point's rows lie in the array. -/
theorem point_lt (t : Fin cfg0.N) (r : Fin 1024) : t.val * 1024 + r.val < 65536 := by
  have h := t.isLt
  have e : cfg0.N = 64 := N_0
  omega

/-- The rows a grid point sees. -/
theorem in0 (r k : Fin 1024) : iblk m c 0 t (ix2 r k) = argX m c (ix2 ⟨t.val * 1024 + r.val, point_lt t r⟩ k) := by
  blk_ext! [iblk, V, index t]

/-- The norm's gain, as the host operations leave it. -/
theorem host1 (j : Fin 1024) : (V m c main_v41 : FVec Ideal S1x1024 .f32) (ix2 0 j) = argG m c (ix1 j) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_reads_simp
  pointwise

/-- The norm's gain. -/
theorem in1 (j : Fin 1024) : iblk m c 1 t (ix2 0 j) = argG m c (ix1 j) := by
  rw [← host1]
  blk_ext! [iblk, index t]

/-- The queries' weights, as the host operations leave it. -/
theorem host2 (k : Fin 1024) (j : Fin 1024) : (V m c main_v27 : FVec Ideal S1024x1024 .bf16) (ix2 k j) = InMath.padded (fun d => argW m c (ix2 k ⟨j.val / 128 * 64 + d.val, by omega⟩)) ⟨j.val % 128, by omega⟩ := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_reads_simp
  simp only [StableHlo.TRef.toBuf, StableHlo.TRef.ofBuf, cast_eq]
  pointwise [InMath.padded]
  exact InMath.dite_head (by omega) _ _ fun _ => rfl

/-- The queries' weights. -/
theorem in2 (k : Fin 1024) (j : Fin 1024) : iblk m c 2 t (ix2 k j) = InMath.padded (fun d => argW m c (ix2 k ⟨j.val / 128 * 64 + d.val, by omega⟩)) ⟨j.val % 128, by omega⟩ := by
  rw [← host2]
  blk_ext! [iblk, index t]

/-- The keys' weights, as the host operations leave it. -/
theorem host3 (k : Fin 1024) (j : Fin 256) : (V m c main_v28 : FVec Ideal S1024x256 .bf16) (ix2 k j) = InMath.padded (fun d => argW m c (ix2 k ⟨512 + (j.val / 128 * 64 + d.val), by omega⟩)) ⟨j.val % 128, by omega⟩ := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_reads_simp
  simp only [StableHlo.TRef.toBuf, StableHlo.TRef.ofBuf, cast_eq]
  pointwise [InMath.padded]
  exact InMath.dite_head (by omega) _ _ fun _ => rfl

/-- The keys' weights. -/
theorem in3 (k : Fin 1024) (j : Fin 256) : iblk m c 3 t (ix2 k j) = InMath.padded (fun d => argW m c (ix2 k ⟨512 + (j.val / 128 * 64 + d.val), by omega⟩)) ⟨j.val % 128, by omega⟩ := by
  rw [← host3]
  blk_ext! [iblk, index t]

/-- The values' weights, as the host operations leave it. -/
theorem host4 (k : Fin 1024) (j : Fin 256) : (V m c main_v29 : FVec Ideal S1024x256 .bf16) (ix2 k j) = argW m c (ix2 k ⟨640 + (j.val / 128 * 64 + j.val % 64), by omega⟩) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_reads_simp
  pointwise

/-- The values' weights. -/
theorem in4 (k : Fin 1024) (j : Fin 256) : iblk m c 4 t (ix2 k j) = argW m c (ix2 k ⟨640 + (j.val / 128 * 64 + j.val % 64), by omega⟩) := by
  rw [← host4]
  blk_ext! [iblk, index t]

/-- The weights of the gated heads' queries, as the host operations leave it. -/
theorem host5 (k : Fin 1024) (j : Fin 512) : (V m c main_v30 : FVec Ideal S1024x512 .bf16) (ix2 k j) = InMath.padded (fun d => argW m c (ix2 k ⟨768 + (j.val / 128 * 64 + d.val), by omega⟩) * InMath.eighth) ⟨j.val % 128, by omega⟩ := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_reads_simp
  simp only [StableHlo.TRef.toBuf, StableHlo.TRef.ofBuf, cast_eq]
  pointwise [InMath.padded]
  exact InMath.dite_head (by omega) _ _ fun _ => rfl

/-- The weights of the gated heads' queries. -/
theorem in5 (k : Fin 1024) (j : Fin 512) : iblk m c 5 t (ix2 k j) = InMath.padded (fun d => argW m c (ix2 k ⟨768 + (j.val / 128 * 64 + d.val), by omega⟩) * InMath.eighth) ⟨j.val % 128, by omega⟩ := by
  rw [← host5]
  blk_ext! [iblk, index t]

/-- The weights of the gated heads' keys, as the host operations leave it. -/
theorem host6 (k : Fin 1024) (j : Fin 512) : (V m c main_v31 : FVec Ideal S1024x512 .bf16) (ix2 k j) = InMath.padded (fun d => argW m c (ix2 k ⟨1024 + (j.val / 128 * 64 + d.val), by omega⟩)) ⟨j.val % 128, by omega⟩ := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_reads_simp
  simp only [StableHlo.TRef.toBuf, StableHlo.TRef.ofBuf, cast_eq]
  pointwise [InMath.padded]
  exact InMath.dite_head (by omega) _ _ fun _ => rfl

/-- The weights of the gated heads' keys. -/
theorem in6 (k : Fin 1024) (j : Fin 512) : iblk m c 6 t (ix2 k j) = InMath.padded (fun d => argW m c (ix2 k ⟨1024 + (j.val / 128 * 64 + d.val), by omega⟩)) ⟨j.val % 128, by omega⟩ := by
  rw [← host6]
  blk_ext! [iblk, index t]

/-- The weights of the gated heads' values, as the host operations leave it. -/
theorem host7 (k : Fin 1024) (j : Fin 512) : (V m c main_v32 : FVec Ideal S1024x512 .bf16) (ix2 k j) = argW m c (ix2 k ⟨1280 + j.val, by omega⟩) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_reads_simp
  pointwise

/-- The weights of the gated heads' values. -/
theorem in7 (k : Fin 1024) (j : Fin 512) : iblk m c 7 t (ix2 k j) = argW m c (ix2 k ⟨1280 + j.val, by omega⟩) := by
  rw [← host7]
  blk_ext! [iblk, index t]

/-- The weights of the gates' inner columns, as the host operations leave it. -/
theorem host8 (k : Fin 1024) (j : Fin 128) : (V m c main_v33 : FVec Ideal S1024x128 .bf16) (ix2 k j) = if h : j.val < 16 then argW m c (ix2 k ⟨1792 + j.val, by omega⟩) else 0 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_reads_simp
  simp only [StableHlo.TRef.toBuf, StableHlo.TRef.ofBuf, cast_eq]
  pointwise [InMath.ofInt_zero]

/-- The weights of the gates' inner columns. -/
theorem in8 (k : Fin 1024) (j : Fin 128) : iblk m c 8 t (ix2 k j) = if h : j.val < 16 then argW m c (ix2 k ⟨1792 + j.val, by omega⟩) else 0 := by
  rw [← host8]
  blk_ext! [iblk, index t]

/-- The weights of the gated heads' output gates, as the host operations leave it. -/
theorem host9 (k : Fin 1024) (j : Fin 512) : (V m c main_v34 : FVec Ideal S1024x512 .bf16) (ix2 k j) = argW m c (ix2 k ⟨1808 + j.val, by omega⟩) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_reads_simp
  pointwise

/-- The weights of the gated heads' output gates. -/
theorem in9 (k : Fin 1024) (j : Fin 512) : iblk m c 9 t (ix2 k j) = argW m c (ix2 k ⟨1808 + j.val, by omega⟩) := by
  rw [← host9]
  blk_ext! [iblk, index t]

/-- The queries' gain, as the host operations leave it. -/
theorem host10 (j : Fin 128) : (V m c main_v38 : FVec Ideal S1x128 .f32) (ix2 0 j) = InMath.padded (fun d => argQ m c (ix1 d) * InMath.scale64) j := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_reads_simp
  simp only [StableHlo.TRef.toBuf, StableHlo.TRef.ofBuf, cast_eq]
  pointwise [InMath.padded, InMath.ofInt_zero]

/-- The queries' gain. -/
theorem in10 (j : Fin 128) : iblk m c 10 t (ix2 0 j) = InMath.padded (fun d => argQ m c (ix1 d) * InMath.scale64) j := by
  rw [← host10]
  blk_ext! [iblk, index t]

/-- The keys' gain, as the host operations leave it. -/
theorem host11 (j : Fin 128) : (V m c main_v40 : FVec Ideal S1x128 .f32) (ix2 0 j) = InMath.padded (fun d => argK m c (ix1 d)) j := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14,
    List.flatten_cons, List.flatten_nil, List.append_nil, List.cons_append, List.nil_append]
  after_reads_simp
  simp only [StableHlo.TRef.toBuf, StableHlo.TRef.ofBuf, cast_eq]
  pointwise [InMath.padded, InMath.ofInt_zero]

/-- The keys' gain. -/
theorem in11 (j : Fin 128) : iblk m c 11 t (ix2 0 j) = InMath.padded (fun d => argK m c (ix1 d)) j := by
  rw [← host11]
  blk_ext! [iblk, index t]

end Cert.Kernel5Ideal.InOdd

end
-- ==== Proof.InOddKernel.lean ====
/-
  Program Kernel5 (an odd layer's input projection) at the extended reals: what one grid point leaves in each output
  block, from the blocks it sees.
-/
module

public import proofs.«01_k».proof.Proof.Gen.Kernel5Ideal.Value
public import proofs.«01_k».proof.Proof.InMath
public import Idealize.ShloMosaic.Lib.Pipeline.ValueKit
public import Idealize.ShloMosaic.Lib.Pointwise

@[expose] public section

noncomputable section

open Idealize.ShloMosaic Idealize.ShloMosaic.TcCoe Idealize.SL.Sem
open Idealize.ShloMosaic.Pipeline (Dat)

namespace Cert.Kernel5Ideal.InOdd
open Cert.Kernel5Ideal Cert.Kernel5Ideal.Gen

/-- The normalised rows at an element. -/
theorem rows_apply (a : Vec Ideal S1024x1024 .f32) (g : Vec Ideal S1x1024 .f32) (r k : Fin 1024) :
    k0_pay3 a g (ix2 r k) = FfnMath.normRow (fun k => a (ix2 r k)) (fun k => g (ix2 0 k)) k := by
  unfold k0_pay3
  pointwise [FfnMath.normRow]

/-- Row `r` of the projection by the weights `w`. -/
abbrev proj {n : ℕ} (h : Vec Ideal S1024x1024 .bf16) (w : (⟨2, ![1024, n]⟩ : Shape).Idx → EReal) (r : Fin 1024) (j : Fin n) : EReal :=
  ∑ k : Fin 1024, h (ix2 r k) * w (ix2 k j)

/-- The queries before their norms at an element. -/
theorem y_apply (a : Vec Ideal S1024x1024 .f32) (g : Vec Ideal S1x1024 .f32) (w : Vec Ideal S1024x1024 .bf16) (r j : Fin 1024) :
    k0_pay4 a g w (ix2 r j) = proj (k0_pay3 a g) w r j := by
  unfold k0_pay4
  generalize k0_pay3 a g = h
  pointwise

/-- The keys before their norms at an element. -/
theorem yk_apply (h : Vec Ideal S1024x1024 .bf16) (w : Vec Ideal S1024x256 .bf16) (r : Fin 1024) (j : Fin 256) :
    k0_pay18 h w (ix2 r j) = proj h w r j := by
  unfold k0_pay18
  pointwise

/-- The first head of the queries. -/
theorem q0 (a : Vec Ideal S1024x1024 .f32) (g : Vec Ideal S1x1024 .f32) (w : Vec Ideal S1024x1024 .bf16) (s : Vec Ideal S1x128 .f32) (r : Fin 1024) (d : Fin 128) :
    k0_pay6 a g w s (ix2 r d) = InMath.padNorm (fun e => k0_pay4 a g w (ix2 r ⟨0 + e.val, by omega⟩)) (fun e => s (ix2 0 e)) d := by
  unfold k0_pay6 k0_pay5
  generalize k0_pay4 a g w = y
  pointwise [InMath.padNorm]

/-- The second head of the queries. -/
theorem q1 (a : Vec Ideal S1024x1024 .f32) (g : Vec Ideal S1x1024 .f32) (w : Vec Ideal S1024x1024 .bf16) (s : Vec Ideal S1x128 .f32) (r : Fin 1024) (d : Fin 128) :
    k0_pay9 s (k0_pay7 a g w) (k0_pay8 a g w) (ix2 r d) = InMath.padNorm (fun e => k0_pay4 a g w (ix2 r ⟨128 + e.val, by omega⟩)) (fun e => s (ix2 0 e)) d := by
  unfold k0_pay9 k0_pay8 k0_pay7
  generalize k0_pay4 a g w = y
  pointwise [InMath.padNorm]

/-- Head 2 of the queries, counted from zero. -/
theorem q2 (y : FVec Ideal S1024x1024 .f32) (s : FVec Ideal S1x128 .f32) (r : Fin 1024) (d : Fin 128) :
    k0_pay10 y s (ix2 r d) = InMath.padNorm (fun e => y (ix2 r ⟨256 + e.val, by omega⟩)) (fun e => s (ix2 0 e)) d := by
  unfold k0_pay10
  pointwise [InMath.padNorm]

/-- Head 3 of the queries, counted from zero. -/
theorem q3 (y : FVec Ideal S1024x1024 .f32) (s : FVec Ideal S1x128 .f32) (r : Fin 1024) (d : Fin 128) :
    k0_pay11 y s (ix2 r d) = InMath.padNorm (fun e => y (ix2 r ⟨384 + e.val, by omega⟩)) (fun e => s (ix2 0 e)) d := by
  unfold k0_pay11
  pointwise [InMath.padNorm]

/-- Head 4 of the queries, counted from zero. -/
theorem q4 (y : FVec Ideal S1024x1024 .f32) (s : FVec Ideal S1x128 .f32) (r : Fin 1024) (d : Fin 128) :
    k0_pay14 s (k0_pay12 y) (k0_pay13 y) (ix2 r d) = InMath.padNorm (fun e => y (ix2 r ⟨512 + e.val, by omega⟩)) (fun e => s (ix2 0 e)) d := by
  unfold k0_pay14 k0_pay13 k0_pay12
  pointwise [InMath.padNorm]

/-- Head 5 of the queries, counted from zero. -/
theorem q5 (y : FVec Ideal S1024x1024 .f32) (s : FVec Ideal S1x128 .f32) (r : Fin 1024) (d : Fin 128) :
    k0_pay15 y s (ix2 r d) = InMath.padNorm (fun e => y (ix2 r ⟨640 + e.val, by omega⟩)) (fun e => s (ix2 0 e)) d := by
  unfold k0_pay15
  pointwise [InMath.padNorm]

/-- Head 6 of the queries, counted from zero. -/
theorem q6 (y : FVec Ideal S1024x1024 .f32) (s : FVec Ideal S1x128 .f32) (r : Fin 1024) (d : Fin 128) :
    k0_pay16 y s (ix2 r d) = InMath.padNorm (fun e => y (ix2 r ⟨768 + e.val, by omega⟩)) (fun e => s (ix2 0 e)) d := by
  unfold k0_pay16
  pointwise [InMath.padNorm]

/-- Head 7 of the queries, counted from zero. -/
theorem q7 (y : FVec Ideal S1024x1024 .f32) (s : FVec Ideal S1x128 .f32) (r : Fin 1024) (d : Fin 128) :
    k0_pay17 y s (ix2 r d) = InMath.padNorm (fun e => y (ix2 r ⟨896 + e.val, by omega⟩)) (fun e => s (ix2 0 e)) d := by
  unfold k0_pay17
  pointwise [InMath.padNorm]

/-- The first head of the keys. -/
theorem k0 (h : FVec Ideal S1024x1024 .bf16) (w : Vec Ideal S1024x256 .bf16) (s : Vec Ideal S1x128 .f32) (r : Fin 1024) (d : Fin 128) :
    k0_pay20 h w s (ix2 r d) = InMath.padNorm (fun e => k0_pay18 h w (ix2 r ⟨0 + e.val, by omega⟩)) (fun e => s (ix2 0 e)) d := by
  unfold k0_pay20 k0_pay19
  generalize k0_pay18 h w = y
  pointwise [InMath.padNorm]

/-- The second head of the keys. -/
theorem k1 (h : FVec Ideal S1024x1024 .bf16) (w : Vec Ideal S1024x256 .bf16) (s : Vec Ideal S1x128 .f32) (r : Fin 1024) (d : Fin 128) :
    k0_pay24 (k0_pay19 s) (k0_pay21 h w) (k0_pay22 h w) k0_pay23 (ix2 r d) = InMath.padNorm (fun e => k0_pay18 h w (ix2 r ⟨128 + e.val, by omega⟩)) (fun e => s (ix2 0 e)) d := by
  unfold k0_pay24 k0_pay23 k0_pay22 k0_pay21 k0_pay19
  generalize k0_pay18 h w = y
  pointwise [InMath.padNorm]

/-- The values at an element. -/
theorem v_pay (h : FVec Ideal S1024x1024 .bf16) (w : Vec Ideal S1024x256 .bf16) (r : Fin 1024) (j : Fin 256) :
    k0_pay25 h w (ix2 r j) = proj h w r j := by
  unfold k0_pay25
  pointwise

/-- The gated heads' queries at an element. -/
theorem gq_pay (h : FVec Ideal S1024x1024 .bf16) (w : Vec Ideal S1024x512 .bf16) (r : Fin 1024) (j : Fin 512) :
    k0_pay26 h w (ix2 r j) = proj h w r j := by
  unfold k0_pay26
  pointwise

/-- The gated heads' keys at an element. -/
theorem gk_pay (h : FVec Ideal S1024x1024 .bf16) (w : Vec Ideal S1024x512 .bf16) (r : Fin 1024) (j : Fin 512) :
    k0_pay27 h w (ix2 r j) = proj h w r j := by
  unfold k0_pay27
  pointwise

/-- The gated heads' values at an element. -/
theorem gv_pay (h : FVec Ideal S1024x1024 .bf16) (w : Vec Ideal S1024x512 .bf16) (r : Fin 1024) (j : Fin 512) :
    k0_pay28 h w (ix2 r j) = proj h w r j := by
  unfold k0_pay28
  pointwise

/-- The gates' inner columns at an element. -/
theorem ga_pay (h : FVec Ideal S1024x1024 .bf16) (w : Vec Ideal S1024x128 .bf16) (r : Fin 1024) (j : Fin 128) :
    k0_pay1 h w (ix2 r j) = proj h w r j := by
  unfold k0_pay1
  pointwise

/-- The gated heads' output gates at an element. -/
theorem gr_pay (h : FVec Ideal S1024x1024 .bf16) (w : Vec Ideal S1024x512 .bf16) (r : Fin 1024) (j : Fin 512) :
    k0_pay2 h w (ix2 r j) = proj h w r j := by
  unfold k0_pay2
  pointwise

end Cert.Kernel5Ideal.InOdd

end
-- ==== Proof.InOddOut.lean ====
/-
  Program Kernel5 (an odd layer's input projection) at the extended reals: what the body's stores leave in each
  output block, column by column.
-/
module

public import proofs.«01_k».proof.Proof.InOddKernel

@[expose] public section

noncomputable section

open Idealize.ShloMosaic Idealize.ShloMosaic.TcCoe Idealize.SL.Sem
open Idealize.ShloMosaic.Pipeline (Dat)

namespace Cert.Kernel5Ideal.InOdd
open Cert.Kernel5Ideal Cert.Kernel5Ideal.Gen

/-- A load of a whole block is the block. -/
theorem ld0 {e : EltTy} (x : Vec Ideal S1024x1024 e) : View.ld x r0_0 = x := by
  funext i
  obtain ⟨a, b, rfl⟩ : ∃ (a : Fin 1024) (b : Fin 1024), i = ix2 a b := ⟨i 0, i 1, eq_ix2 i⟩
  pointwise
theorem ld1 {e : EltTy} (x : Vec Ideal S1x1024 e) : View.ld x r0_1 = x := by
  funext i
  obtain ⟨a, b, rfl⟩ : ∃ (a : Fin 1) (b : Fin 1024), i = ix2 a b := ⟨i 0, i 1, eq_ix2 i⟩
  obtain rfl : a = 0 := Subsingleton.elim _ _
  pointwise
theorem ld2 {e : EltTy} (x : Vec Ideal S1x128 e) : View.ld x r0_2 = x := by
  funext i
  obtain ⟨a, b, rfl⟩ : ∃ (a : Fin 1) (b : Fin 128), i = ix2 a b := ⟨i 0, i 1, eq_ix2 i⟩
  obtain rfl : a = 0 := Subsingleton.elim _ _
  pointwise
theorem ld11 {e : EltTy} (x : Vec Ideal S1024x256 e) : View.ld x r0_11 = x := by
  funext i
  obtain ⟨a, b, rfl⟩ : ∃ (a : Fin 1024) (b : Fin 256), i = ix2 a b := ⟨i 0, i 1, eq_ix2 i⟩
  pointwise
theorem ld14 {e : EltTy} (x : Vec Ideal S1024x512 e) : View.ld x r0_14 = x := by
  funext i
  obtain ⟨a, b, rfl⟩ : ∃ (a : Fin 1024) (b : Fin 512), i = ix2 a b := ⟨i 0, i 1, eq_ix2 i⟩
  pointwise
theorem ld15 {e : EltTy} (x : Vec Ideal S1024x128 e) : View.ld x r0_15 = x := by
  funext i
  obtain ⟨a, b, rfl⟩ : ∃ (a : Fin 1024) (b : Fin 128), i = ix2 a b := ⟨i 0, i 1, eq_ix2 i⟩
  pointwise

/-- The gain is taken as it is. -/
theorem pay5 (s : Vec Ideal S1x128 .f32) : k0_pay5 s = s := by
  funext i
  obtain ⟨a, b, rfl⟩ : ∃ (a : Fin 1) (b : Fin 128), i = ix2 a b := ⟨i 0, i 1, eq_ix2 i⟩
  obtain rfl : a = 0 := Subsingleton.elim _ _
  unfold k0_pay5
  pointwise

/-- The norm of head `i` at a column, by the column's place in the whole block. -/
theorem norm_tile {n : ℕ} (i : ℕ) (f : Fin n → EReal) (g : Fin 128 → EReal) (d : Fin 128) (l : Fin n) (hl : l.val = i + d.val) (hi : i % 128 = 0)
    (h : ∀ e : Fin 128, i + e.val < n) (h' : ∀ e : Fin 128, l.val / 128 * 128 + e.val < n) :
    InMath.padNorm (fun e => f ⟨i + e.val, h e⟩) g d = InMath.padNorm (fun e => f ⟨l.val / 128 * 128 + e.val, h' e⟩) g ⟨l.val % 128, by omega⟩ := by
  have hd : d = ⟨l.val % 128, by omega⟩ := Fin.ext (by show d.val = l.val % 128; omega)
  have hf : (fun e : Fin 128 => f ⟨i + e.val, h e⟩) = fun e => f ⟨l.val / 128 * 128 + e.val, h' e⟩ :=
    funext fun e => congrArg f (Fin.ext (by show i + e.val = l.val / 128 * 128 + e.val; omega))
  rw [← hd, hf]

variable (x0 : Vec Ideal S1024x1024 .f32) (x1 : Vec Ideal S1x1024 .f32) (x2 : Vec Ideal S1024x1024 .bf16) (x3 : Vec Ideal S1024x256 .bf16) (x4 : Vec Ideal S1024x256 .bf16) (x5 x6 x7 : Vec Ideal S1024x512 .bf16) (x8 : Vec Ideal S1024x128 .bf16) (x9 : Vec Ideal S1024x512 .bf16) (x10 x11 : Vec Ideal S1x128 .f32)

/-- What a grid point leaves in the block of queries. -/
theorem out12_apply (r : Fin 1024) (l : Fin 1024) :
    out0_12 x0 x1 x2 x3 x4 x5 x6 x7 x8 x9 x10 x11 (ix2 r l) = InMath.padNorm (fun e => proj (k0_pay3 x0 x1) x2 r ⟨l.val / 128 * 128 + e.val, by omega⟩) (fun e => x10 (ix2 0 e)) ⟨l.val % 128, by omega⟩ := by
  generalize hy : (ix2 r l : S1024x1024.Idx) = y
  unfold out0_12 k0_pay30 k0_pay31
  canon_tiles x h
  all_goals subst hy
  · obtain ⟨r', d, rfl⟩ : ∃ (a : Fin 1024) (b : Fin 128), x = ix2 a b := ⟨x 0, x 1, eq_ix2 x⟩
    obtain rfl : r = r' := Fin.ext h0
    simp only [ld0, ld1, ld2, ld11, pay5]
    rw [q7]
    simp only [y_apply]
    exact norm_tile 896 (proj (k0_pay3 x0 x1) x2 r) _ d l h1 (by norm_num) _ _
  · obtain ⟨r', d, rfl⟩ : ∃ (a : Fin 1024) (b : Fin 128), x = ix2 a b := ⟨x 0, x 1, eq_ix2 x⟩
    obtain rfl : r = r' := Fin.ext h0
    simp only [ld0, ld1, ld2, ld11, pay5]
    rw [q6]
    simp only [y_apply]
    exact norm_tile 768 (proj (k0_pay3 x0 x1) x2 r) _ d l h1 (by norm_num) _ _
  · obtain ⟨r', d, rfl⟩ : ∃ (a : Fin 1024) (b : Fin 128), x = ix2 a b := ⟨x 0, x 1, eq_ix2 x⟩
    obtain rfl : r = r' := Fin.ext h0
    simp only [ld0, ld1, ld2, ld11, pay5]
    rw [q5]
    simp only [y_apply]
    exact norm_tile 640 (proj (k0_pay3 x0 x1) x2 r) _ d l h1 (by norm_num) _ _
  · obtain ⟨r', d, rfl⟩ : ∃ (a : Fin 1024) (b : Fin 128), x = ix2 a b := ⟨x 0, x 1, eq_ix2 x⟩
    obtain rfl : r = r' := Fin.ext h0
    simp only [ld0, ld1, ld2, ld11, pay5]
    rw [q4]
    simp only [y_apply]
    exact norm_tile 512 (proj (k0_pay3 x0 x1) x2 r) _ d l h1 (by norm_num) _ _
  · obtain ⟨r', d, rfl⟩ : ∃ (a : Fin 1024) (b : Fin 128), x = ix2 a b := ⟨x 0, x 1, eq_ix2 x⟩
    obtain rfl : r = r' := Fin.ext h0
    simp only [ld0, ld1, ld2, ld11, pay5]
    rw [q3]
    simp only [y_apply]
    exact norm_tile 384 (proj (k0_pay3 x0 x1) x2 r) _ d l h1 (by norm_num) _ _
  · obtain ⟨r', d, rfl⟩ : ∃ (a : Fin 1024) (b : Fin 128), x = ix2 a b := ⟨x 0, x 1, eq_ix2 x⟩
    obtain rfl : r = r' := Fin.ext h0
    simp only [ld0, ld1, ld2, ld11, pay5]
    rw [q2]
    simp only [y_apply]
    exact norm_tile 256 (proj (k0_pay3 x0 x1) x2 r) _ d l h1 (by norm_num) _ _
  · obtain ⟨r', d, rfl⟩ : ∃ (a : Fin 1024) (b : Fin 128), x = ix2 a b := ⟨x 0, x 1, eq_ix2 x⟩
    obtain rfl : r = r' := Fin.ext h0
    simp only [ld0, ld1, ld2, ld11, pay5]
    rw [q1]
    simp only [y_apply]
    exact norm_tile 128 (proj (k0_pay3 x0 x1) x2 r) _ d l h1 (by norm_num) _ _
  · obtain ⟨r', d, rfl⟩ : ∃ (a : Fin 1024) (b : Fin 128), x = ix2 a b := ⟨x 0, x 1, eq_ix2 x⟩
    obtain rfl : r = r' := Fin.ext h0
    simp only [ld0, ld1, ld2, ld11, pay5]
    rw [q0]
    simp only [y_apply]
    exact norm_tile 0 (proj (k0_pay3 x0 x1) x2 r) _ d l (h1.trans (Nat.zero_add _).symm) (by norm_num) _ _

/-- What a grid point leaves in the block of keys. -/
theorem out13_apply (r : Fin 1024) (l : Fin 256) :
    out0_13 x0 x1 x2 x3 x4 x5 x6 x7 x8 x9 x10 x11 (ix2 r l) = InMath.padNorm (fun e => proj (k0_pay3 x0 x1) x3 r ⟨l.val / 128 * 128 + e.val, by omega⟩) (fun e => x11 (ix2 0 e)) ⟨l.val % 128, by omega⟩ := by
  generalize hy : (ix2 r l : S1024x256.Idx) = y
  unfold out0_13 k0_pay29
  canon_tiles x h
  all_goals subst hy
  · obtain ⟨r', d, rfl⟩ : ∃ (a : Fin 1024) (b : Fin 128), x = ix2 a b := ⟨x 0, x 1, eq_ix2 x⟩
    obtain rfl : r = r' := Fin.ext h0
    simp only [ld0, ld1, ld2, ld11, pay5]
    rw [k1]
    simp only [yk_apply]
    exact norm_tile 128 (proj (k0_pay3 x0 x1) x3 r) _ d l h1 (by norm_num) _ _
  · obtain ⟨r', d, rfl⟩ : ∃ (a : Fin 1024) (b : Fin 128), x = ix2 a b := ⟨x 0, x 1, eq_ix2 x⟩
    obtain rfl : r = r' := Fin.ext h0
    simp only [ld0, ld1, ld2, ld11, pay5]
    rw [k0]
    simp only [yk_apply]
    exact norm_tile 0 (proj (k0_pay3 x0 x1) x3 r) _ d l (h1.trans (Nat.zero_add _).symm) (by norm_num) _ _

/-- What a grid point leaves in the block of the values. -/
theorem out14_apply (r : Fin 1024) (l : Fin 256) :
    out0_14 x0 x1 x2 x3 x4 x5 x6 x7 x8 x9 x10 x11 (ix2 r l) = proj (k0_pay3 x0 x1) x4 r l := by
  generalize hy : (ix2 r l : S1024x256.Idx) = y
  unfold out0_14 k0_pay29
  canon_tiles x h
  subst hy
  obtain ⟨r', l', rfl⟩ : ∃ (a : Fin 1024) (b : Fin 256), x = ix2 a b := ⟨x 0, x 1, eq_ix2 x⟩
  obtain rfl : r = r' := Fin.ext h0
  obtain rfl : l = l' := Fin.ext h1
  simp only [ld0, ld1, ld11, ld14, ld15]
  rw [v_pay]

/-- What a grid point leaves in the block of the gated heads' queries. -/
theorem out15_apply (r : Fin 1024) (l : Fin 512) :
    out0_15 x0 x1 x2 x3 x4 x5 x6 x7 x8 x9 x10 x11 (ix2 r l) = proj (k0_pay3 x0 x1) x5 r l := by
  generalize hy : (ix2 r l : S1024x512.Idx) = y
  unfold out0_15 k0_pay29
  canon_tiles x h
  subst hy
  obtain ⟨r', l', rfl⟩ : ∃ (a : Fin 1024) (b : Fin 512), x = ix2 a b := ⟨x 0, x 1, eq_ix2 x⟩
  obtain rfl : r = r' := Fin.ext h0
  obtain rfl : l = l' := Fin.ext h1
  simp only [ld0, ld1, ld11, ld14, ld15]
  rw [gq_pay]

/-- What a grid point leaves in the block of the gated heads' keys. -/
theorem out16_apply (r : Fin 1024) (l : Fin 512) :
    out0_16 x0 x1 x2 x3 x4 x5 x6 x7 x8 x9 x10 x11 (ix2 r l) = proj (k0_pay3 x0 x1) x6 r l := by
  generalize hy : (ix2 r l : S1024x512.Idx) = y
  unfold out0_16 k0_pay29
  canon_tiles x h
  subst hy
  obtain ⟨r', l', rfl⟩ : ∃ (a : Fin 1024) (b : Fin 512), x = ix2 a b := ⟨x 0, x 1, eq_ix2 x⟩
  obtain rfl : r = r' := Fin.ext h0
  obtain rfl : l = l' := Fin.ext h1
  simp only [ld0, ld1, ld11, ld14, ld15]
  rw [gk_pay]

/-- What a grid point leaves in the block of the gated heads' values. -/
theorem out17_apply (r : Fin 1024) (l : Fin 512) :
    out0_17 x0 x1 x2 x3 x4 x5 x6 x7 x8 x9 x10 x11 (ix2 r l) = proj (k0_pay3 x0 x1) x7 r l := by
  generalize hy : (ix2 r l : S1024x512.Idx) = y
  unfold out0_17 k0_pay29
  canon_tiles x h
  subst hy
  obtain ⟨r', l', rfl⟩ : ∃ (a : Fin 1024) (b : Fin 512), x = ix2 a b := ⟨x 0, x 1, eq_ix2 x⟩
  obtain rfl : r = r' := Fin.ext h0
  obtain rfl : l = l' := Fin.ext h1
  simp only [ld0, ld1, ld11, ld14, ld15]
  rw [gv_pay]

/-- What a grid point leaves in the block of the gates' inner columns. -/
theorem out18_apply (r : Fin 1024) (l : Fin 128) :
    out0_18 x0 x1 x2 x3 x4 x5 x6 x7 x8 x9 x10 x11 (ix2 r l) = proj (k0_pay3 x0 x1) x8 r l := by
  generalize hy : (ix2 r l : S1024x128.Idx) = y
  unfold out0_18 k0_pay29
  canon_tiles x h
  subst hy
  obtain ⟨r', l', rfl⟩ : ∃ (a : Fin 1024) (b : Fin 128), x = ix2 a b := ⟨x 0, x 1, eq_ix2 x⟩
  obtain rfl : r = r' := Fin.ext h0
  obtain rfl : l = l' := Fin.ext h1
  simp only [ld0, ld1, ld11, ld14, ld15]
  rw [ga_pay]

/-- What a grid point leaves in the block of the gated heads' output gates. -/
theorem out19_apply (r : Fin 1024) (l : Fin 512) :
    out0_19 x0 x1 x2 x3 x4 x5 x6 x7 x8 x9 x10 x11 (ix2 r l) = proj (k0_pay3 x0 x1) x9 r l := by
  generalize hy : (ix2 r l : S1024x512.Idx) = y
  unfold out0_19 k0_pay29
  canon_tiles x h
  subst hy
  obtain ⟨r', l', rfl⟩ : ∃ (a : Fin 1024) (b : Fin 512), x = ix2 a b := ⟨x 0, x 1, eq_ix2 x⟩
  obtain rfl : r = r' := Fin.ext h0
  obtain rfl : l = l' := Fin.ext h1
  simp only [ld0, ld1, ld11, ld14, ld15]
  rw [gr_pay]

end Cert.Kernel5Ideal.InOdd

end
-- ==== Proof.InOddFinal.lean ====
/-
  Program Kernel5 (an odd layer's input projection) at the extended reals: what its eight result arrays hold after the
  run, each as one function of the arguments.
-/
module

public import proofs.«01_k».proof.Proof.InOddArgs
public import proofs.«01_k».proof.Proof.InOddOut

@[expose] public section

noncomputable section

open Idealize.ShloMosaic Idealize.ShloMosaic.TcCoe Idealize.SL.Sem
open Idealize.ShloMosaic.Pipeline (Dat)

namespace Cert.Kernel5Ideal.InOdd
open Cert.Kernel5Ideal Cert.Kernel5Ideal.Gen

variable (m : (ℓ : Loc nD τ sig) → Buf (Elt Ideal) ℓ) (c : Dev nD)

/-- Row `r` of the projection at column `j` of the stacked weights. -/
def Y (r : Fin 65536) (j : Fin 2320) : EReal :=
  ∑ k : Fin 1024, FfnMath.normRow (fun k => argX m c (ix2 r k)) (fun k => argG m c (ix1 k)) k * argW m c (ix2 k j)

/-- A grid point's rows are rows of the argument, normalised. -/
theorem rows_eq (t : Fin cfg0.N) (r k : Fin 1024) : k0_pay3 (iblk m c 0 t) (iblk m c 1 t) (ix2 r k) =
    FfnMath.normRow (fun k => argX m c (ix2 ⟨t.val * 1024 + r.val, point_lt t r⟩ k)) (fun k => argG m c (ix1 k)) k := by
  rw [rows_apply]
  simp only [in0, in1]

/-- The queries, as one function of the arguments. -/
def G12 : Buf (Elt Ideal) ((c : Thread nD τ).loc main_v42_0) := fun i =>
  have h1 : (i 1).val < 1024 := (i 1).isLt
  InMath.padded (fun d => InMath.headNorm (fun e => Y m c (i 0) ⟨(i 1).val / 128 * 64 + e.val, by omega⟩) (fun e => argQ m c (ix1 e)) d * InMath.scale64) ⟨(i 1).val % 128, by omega⟩

/-- The keys, as one function of the arguments. -/
def G13 : Buf (Elt Ideal) ((c : Thread nD τ).loc main_v42_1) := fun i =>
  have h1 : (i 1).val < 256 := (i 1).isLt
  InMath.padded (fun d => InMath.headNorm (fun e => Y m c (i 0) ⟨512 + ((i 1).val / 128 * 64 + e.val), by omega⟩) (fun e => argK m c (ix1 e)) d) ⟨(i 1).val % 128, by omega⟩

/-- The values, as one function of the arguments. -/
def G14 : Buf (Elt Ideal) ((c : Thread nD τ).loc main_v42_2) := fun i =>
  have h1 : (i 1).val < 256 := (i 1).isLt
  Y m c (i 0) ⟨640 + ((i 1).val / 128 * 64 + (i 1).val % 64), by omega⟩

/-- The gated heads' queries, as one function of the arguments. -/
def G15 : Buf (Elt Ideal) ((c : Thread nD τ).loc main_v42_3) := fun i =>
  have h1 : (i 1).val < 512 := (i 1).isLt
  InMath.padded (fun d => Y m c (i 0) ⟨768 + ((i 1).val / 128 * 64 + d.val), by omega⟩ * InMath.eighth) ⟨(i 1).val % 128, by omega⟩

/-- The gated heads' keys, as one function of the arguments. -/
def G16 : Buf (Elt Ideal) ((c : Thread nD τ).loc main_v42_4) := fun i =>
  have h1 : (i 1).val < 512 := (i 1).isLt
  InMath.padded (fun d => Y m c (i 0) ⟨1024 + ((i 1).val / 128 * 64 + d.val), by omega⟩) ⟨(i 1).val % 128, by omega⟩

/-- The gated heads' values, as one function of the arguments. -/
def G17 : Buf (Elt Ideal) ((c : Thread nD τ).loc main_v42_5) := fun i =>
  have h1 : (i 1).val < 512 := (i 1).isLt
  Y m c (i 0) ⟨1280 + (i 1).val, by omega⟩

/-- The gates' inner columns, as one function of the arguments. -/
def G18 : Buf (Elt Ideal) ((c : Thread nD τ).loc main_v42_6) := fun i =>
  have h1 : (i 1).val < 128 := (i 1).isLt
  (if h : (i 1).val < 16 then Y m c (i 0) ⟨1792 + (i 1).val, by omega⟩ else (0 : EReal) : EReal)

/-- The gated heads' output gates, as one function of the arguments. -/
def G19 : Buf (Elt Ideal) ((c : Thread nD τ).loc main_v42_7) := fun i =>
  have h1 : (i 1).val < 512 := (i 1).isLt
  Y m c (i 0) ⟨1808 + (i 1).val, by omega⟩

/-- The array of the queries after the run. -/
theorem final12 : (dats m 0 c).arrAt 12 cfg0.N = G12 m c := by
  refine (dats m 0 c).arrAt_eq_of_covers 12 _ (by decide +kernel) fun t hf y => ?_
  blk_simp
  rw [after0_12]
  obtain ⟨r, l, rfl⟩ : ∃ (a : Fin 1024) (b : Fin 1024), y = ix2 a b := ⟨y 0, y 1, eq_ix2 y⟩
  have ei : ((View.whole main_v42_0).slice (win0_12.rect t)).emb (ix2 r l) = ix2 ⟨t.val * 1024 + r.val, point_lt t r⟩ l := by
    blk_ext! [index t]
  rw [ei]
  refine (out12_apply _ _ _ _ _ _ _ _ _ _ _ _ r l).trans ?_
  have hq : (fun e : Fin 128 => proj (k0_pay3 (iblk m c 0 t) (iblk m c 1 t)) (iblk m c 2 t) r ⟨l.val / 128 * 128 + e.val, by omega⟩)
      = InMath.padded (fun d => Y m c ⟨t.val * 1024 + r.val, point_lt t r⟩ ⟨l.val / 128 * 64 + d.val, by omega⟩) := by
    funext e
    simp only [proj, rows_eq, in2, InMath.sum_mul_padded]
    simp only [show (l.val / 128 * 128 + e.val) / 128 = l.val / 128 by omega, show (l.val / 128 * 128 + e.val) % 128 = e.val by omega]
    rfl
  have hg : (fun e : Fin 128 => iblk m c 10 t (ix2 0 e)) = InMath.padded (fun d => argQ m c (ix1 d) * InMath.scale64) := funext fun e => in10 m c t e
  rw [hq, hg, InMath.padNorm_padded]
  exact congrArg (fun f => InMath.padded f ⟨l.val % 128, by omega⟩) (funext fun d => InMath.headNorm_scale _ _ _ d)

/-- The array of the keys after the run. -/
theorem final13 : (dats m 0 c).arrAt 13 cfg0.N = G13 m c := by
  refine (dats m 0 c).arrAt_eq_of_covers 13 _ (by decide +kernel) fun t hf y => ?_
  blk_simp
  rw [after0_13]
  obtain ⟨r, l, rfl⟩ : ∃ (a : Fin 1024) (b : Fin 256), y = ix2 a b := ⟨y 0, y 1, eq_ix2 y⟩
  have ei : ((View.whole main_v42_1).slice (win0_13.rect t)).emb (ix2 r l) = ix2 ⟨t.val * 1024 + r.val, point_lt t r⟩ l := by
    blk_ext! [index t]
  rw [ei]
  refine (out13_apply _ _ _ _ _ _ _ _ _ _ _ _ r l).trans ?_
  have hq : (fun e : Fin 128 => proj (k0_pay3 (iblk m c 0 t) (iblk m c 1 t)) (iblk m c 3 t) r ⟨l.val / 128 * 128 + e.val, by omega⟩)
      = InMath.padded (fun d => Y m c ⟨t.val * 1024 + r.val, point_lt t r⟩ ⟨512 + (l.val / 128 * 64 + d.val), by omega⟩) := by
    funext e
    simp only [proj, rows_eq, in3, InMath.sum_mul_padded]
    simp only [show (l.val / 128 * 128 + e.val) / 128 = l.val / 128 by omega, show (l.val / 128 * 128 + e.val) % 128 = e.val by omega]
    rfl
  have hg : (fun e : Fin 128 => iblk m c 11 t (ix2 0 e)) = InMath.padded (fun d => argK m c (ix1 d)) := funext fun e => in11 m c t e
  rw [hq, hg, InMath.padNorm_padded]
  rfl

/-- The array of the values after the run. -/
theorem final14 : (dats m 0 c).arrAt 14 cfg0.N = G14 m c := by
  refine (dats m 0 c).arrAt_eq_of_covers 14 _ (by decide +kernel) fun t hf y => ?_
  blk_simp
  rw [after0_14]
  obtain ⟨r, l, rfl⟩ : ∃ (a : Fin 1024) (b : Fin 256), y = ix2 a b := ⟨y 0, y 1, eq_ix2 y⟩
  have ei : ((View.whole main_v42_2).slice (win0_14.rect t)).emb (ix2 r l) = ix2 ⟨t.val * 1024 + r.val, point_lt t r⟩ l := by
    blk_ext! [index t]
  rw [ei]
  refine (out14_apply _ _ _ _ _ _ _ _ _ _ _ _ r l).trans ?_
  simp only [proj, rows_eq, in4]
  rfl

/-- The array of the gated heads' values after the run. -/
theorem final17 : (dats m 0 c).arrAt 17 cfg0.N = G17 m c := by
  refine (dats m 0 c).arrAt_eq_of_covers 17 _ (by decide +kernel) fun t hf y => ?_
  blk_simp
  rw [after0_17]
  obtain ⟨r, l, rfl⟩ : ∃ (a : Fin 1024) (b : Fin 512), y = ix2 a b := ⟨y 0, y 1, eq_ix2 y⟩
  have ei : ((View.whole main_v42_5).slice (win0_17.rect t)).emb (ix2 r l) = ix2 ⟨t.val * 1024 + r.val, point_lt t r⟩ l := by
    blk_ext! [index t]
  rw [ei]
  refine (out17_apply _ _ _ _ _ _ _ _ _ _ _ _ r l).trans ?_
  simp only [proj, rows_eq, in7]
  rfl

/-- The array of the gated heads' output gates after the run. -/
theorem final19 : (dats m 0 c).arrAt 19 cfg0.N = G19 m c := by
  refine (dats m 0 c).arrAt_eq_of_covers 19 _ (by decide +kernel) fun t hf y => ?_
  blk_simp
  rw [after0_19]
  obtain ⟨r, l, rfl⟩ : ∃ (a : Fin 1024) (b : Fin 512), y = ix2 a b := ⟨y 0, y 1, eq_ix2 y⟩
  have ei : ((View.whole main_v42_7).slice (win0_19.rect t)).emb (ix2 r l) = ix2 ⟨t.val * 1024 + r.val, point_lt t r⟩ l := by
    blk_ext! [index t]
  rw [ei]
  refine (out19_apply _ _ _ _ _ _ _ _ _ _ _ _ r l).trans ?_
  simp only [proj, rows_eq, in9]
  rfl

/-- The array of the gated heads' queries after the run. -/
theorem final15 : (dats m 0 c).arrAt 15 cfg0.N = G15 m c := by
  refine (dats m 0 c).arrAt_eq_of_covers 15 _ (by decide +kernel) fun t hf y => ?_
  blk_simp
  rw [after0_15]
  obtain ⟨r, l, rfl⟩ : ∃ (a : Fin 1024) (b : Fin 512), y = ix2 a b := ⟨y 0, y 1, eq_ix2 y⟩
  have ei : ((View.whole main_v42_3).slice (win0_15.rect t)).emb (ix2 r l) = ix2 ⟨t.val * 1024 + r.val, point_lt t r⟩ l := by
    blk_ext! [index t]
  rw [ei]
  refine (out15_apply _ _ _ _ _ _ _ _ _ _ _ _ r l).trans ?_
  simp only [proj, rows_eq, in5, InMath.sum_mul_padded, InMath.sum_mul_eighth]
  rfl

/-- The array of the gated heads' keys after the run. -/
theorem final16 : (dats m 0 c).arrAt 16 cfg0.N = G16 m c := by
  refine (dats m 0 c).arrAt_eq_of_covers 16 _ (by decide +kernel) fun t hf y => ?_
  blk_simp
  rw [after0_16]
  obtain ⟨r, l, rfl⟩ : ∃ (a : Fin 1024) (b : Fin 512), y = ix2 a b := ⟨y 0, y 1, eq_ix2 y⟩
  have ei : ((View.whole main_v42_4).slice (win0_16.rect t)).emb (ix2 r l) = ix2 ⟨t.val * 1024 + r.val, point_lt t r⟩ l := by
    blk_ext! [index t]
  rw [ei]
  refine (out16_apply _ _ _ _ _ _ _ _ _ _ _ _ r l).trans ?_
  simp only [proj, rows_eq, in6, InMath.sum_mul_padded]
  rfl

/-- The array of the gates' inner columns after the run. -/
theorem final18 : (dats m 0 c).arrAt 18 cfg0.N = G18 m c := by
  refine (dats m 0 c).arrAt_eq_of_covers 18 _ (by decide +kernel) fun t hf y => ?_
  blk_simp
  rw [after0_18]
  obtain ⟨r, l, rfl⟩ : ∃ (a : Fin 1024) (b : Fin 128), y = ix2 a b := ⟨y 0, y 1, eq_ix2 y⟩
  have ei : ((View.whole main_v42_6).slice (win0_18.rect t)).emb (ix2 r l) = ix2 ⟨t.val * 1024 + r.val, point_lt t r⟩ l := by
    blk_ext! [index t]
  rw [ei]
  refine (out18_apply _ _ _ _ _ _ _ _ _ _ _ _ r l).trans ?_
  simp only [proj, rows_eq, in8]
  show _ = if h : l.val < 16 then _ else _
  by_cases h : l.val < 16
  · simp only [dif_pos h]
    rfl
  · simp only [dif_neg h, mul_zero, Finset.sum_const_zero]

end Cert.Kernel5Ideal.InOdd

end
-- ==== Proof.InOddClaims.lean ====
/-
  The input projection of an odd layer: the reference's eight results, from the kernel's arguments, are the functions
  that the call's arrays hold, and so the two programs' results are equal.
-/
module

public import proofs.«01_k».proof.Defs
public import proofs.«01_k».proof.Proof.Gen.Kernel5Ideal
public import proofs.«01_k».proof.Proof.Gen.Reference5Ideal
public import proofs.«01_k».proof.Proof.Gen.Reference5Ideal.Run
public import proofs.«01_k».proof.Proof.InOddRef
public import proofs.«01_k».proof.Proof.InOddFinal

@[expose] public section

noncomputable section

open Idealize.ShloMosaic Idealize.ShloMosaic.TcCoe Idealize.SL.Sem

namespace Cert.InOdd

/-- The reference's run leaves its arguments and every counter as they were. -/
theorem reference_frame : Cert.quiescent_Reference5Ideal (hReference5Ideal := Cert.Reference5Ideal.Gen.facts) := fun m ρ _ =>
  (θ_run Cert.Reference5Ideal.defs _ _).mono (fun r h => ⟨fun c => (h c).2.2.2.2.2.2.2.2, sem_eq_zero_of_no_sems (by decide) r.2⟩)
    (Cert.Reference5Ideal.Value.run (F := Ideal) m ρ)

variable (m : (ℓ : Loc Cert.Kernel5Ideal.nD Cert.Kernel5Ideal.τ Cert.Kernel5Ideal.sig) → Buf (Elt Ideal) ℓ)
  (m' : (ℓ : Loc Cert.Reference5Ideal.nD Cert.Reference5Ideal.τ Cert.Reference5Ideal.sig) → Buf (Elt Ideal) ℓ) (c : Dev Cert.Kernel5Ideal.nD)

/-- The two programs start from the same arguments. -/
abbrev Agree : Prop :=
  m' ((c : Thread Cert.Reference5Ideal.nD Cert.Reference5Ideal.τ).loc Cert.Reference5Ideal.main_arg0) = m ((c : Thread Cert.Kernel5Ideal.nD Cert.Kernel5Ideal.τ).loc Cert.Kernel5Ideal.main_arg0)
    ∧ m' ((c : Thread Cert.Reference5Ideal.nD Cert.Reference5Ideal.τ).loc Cert.Reference5Ideal.main_arg1) = m ((c : Thread Cert.Kernel5Ideal.nD Cert.Kernel5Ideal.τ).loc Cert.Kernel5Ideal.main_arg1)
    ∧ m' ((c : Thread Cert.Reference5Ideal.nD Cert.Reference5Ideal.τ).loc Cert.Reference5Ideal.main_arg2) = m ((c : Thread Cert.Kernel5Ideal.nD Cert.Kernel5Ideal.τ).loc Cert.Kernel5Ideal.main_arg2)
    ∧ m' ((c : Thread Cert.Reference5Ideal.nD Cert.Reference5Ideal.τ).loc Cert.Reference5Ideal.main_arg3) = m ((c : Thread Cert.Kernel5Ideal.nD Cert.Kernel5Ideal.τ).loc Cert.Kernel5Ideal.main_arg3)
    ∧ m' ((c : Thread Cert.Reference5Ideal.nD Cert.Reference5Ideal.τ).loc Cert.Reference5Ideal.main_arg4) = m ((c : Thread Cert.Kernel5Ideal.nD Cert.Kernel5Ideal.τ).loc Cert.Kernel5Ideal.main_arg4)

/-- The reference's queries, from the kernel's arguments. -/
theorem value_q (h : Agree m m' c) : Cert.Reference5Ideal.Read.val_main_v69 (F := Ideal) (m' ((c : Thread Cert.Reference5Ideal.nD Cert.Reference5Ideal.τ).loc Cert.Reference5Ideal.main_arg0)) (m' ((c : Thread Cert.Reference5Ideal.nD Cert.Reference5Ideal.τ).loc Cert.Reference5Ideal.main_arg1)) (m' ((c : Thread Cert.Reference5Ideal.nD Cert.Reference5Ideal.τ).loc Cert.Reference5Ideal.main_arg2)) (m' ((c : Thread Cert.Reference5Ideal.nD Cert.Reference5Ideal.τ).loc Cert.Reference5Ideal.main_arg3))
      = Cert.Kernel5Ideal.InOdd.G12 m c := by
  obtain ⟨h0, h1, h2, h3, h4⟩ := h
  rw [h0, h1, h2, h3]
  funext i
  obtain ⟨r, l, rfl⟩ : ∃ (a : Fin 65536) (b : Fin 1024), i = ix2 a b := ⟨i 0, i 1, eq_ix2 i⟩
  refine (Cert.Reference5Ideal.InOdd.q_apply _ _ _ _ r l).trans ?_
  simp only [Cert.Reference5Ideal.InOdd.proj_apply]
  rfl

/-- The reference's keys, from the kernel's arguments. -/
theorem value_k (h : Agree m m' c) : Cert.Reference5Ideal.Read.val_main_v70 (F := Ideal) (m' ((c : Thread Cert.Reference5Ideal.nD Cert.Reference5Ideal.τ).loc Cert.Reference5Ideal.main_arg0)) (m' ((c : Thread Cert.Reference5Ideal.nD Cert.Reference5Ideal.τ).loc Cert.Reference5Ideal.main_arg1)) (m' ((c : Thread Cert.Reference5Ideal.nD Cert.Reference5Ideal.τ).loc Cert.Reference5Ideal.main_arg2)) (m' ((c : Thread Cert.Reference5Ideal.nD Cert.Reference5Ideal.τ).loc Cert.Reference5Ideal.main_arg4))
      = Cert.Kernel5Ideal.InOdd.G13 m c := by
  obtain ⟨h0, h1, h2, h3, h4⟩ := h
  rw [h0, h1, h2, h4]
  funext i
  obtain ⟨r, l, rfl⟩ : ∃ (a : Fin 65536) (b : Fin 256), i = ix2 a b := ⟨i 0, i 1, eq_ix2 i⟩
  refine (Cert.Reference5Ideal.InOdd.k_apply _ _ _ _ r l).trans ?_
  simp only [Cert.Reference5Ideal.InOdd.proj_apply]
  rfl

/-- The reference's values, from the kernel's arguments. -/
theorem value_v (h : Agree m m' c) : Cert.Reference5Ideal.Read.val_main_v71 (F := Ideal) (m' ((c : Thread Cert.Reference5Ideal.nD Cert.Reference5Ideal.τ).loc Cert.Reference5Ideal.main_arg0)) (m' ((c : Thread Cert.Reference5Ideal.nD Cert.Reference5Ideal.τ).loc Cert.Reference5Ideal.main_arg1)) (m' ((c : Thread Cert.Reference5Ideal.nD Cert.Reference5Ideal.τ).loc Cert.Reference5Ideal.main_arg2))
      = Cert.Kernel5Ideal.InOdd.G14 m c := by
  obtain ⟨h0, h1, h2, h3, h4⟩ := h
  rw [h0, h1, h2]
  funext i
  obtain ⟨r, l, rfl⟩ : ∃ (a : Fin 65536) (b : Fin 256), i = ix2 a b := ⟨i 0, i 1, eq_ix2 i⟩
  refine (Cert.Reference5Ideal.InOdd.v_apply _ _ _ r l).trans ?_
  simp only [Cert.Reference5Ideal.InOdd.proj_apply]
  rfl

/-- The reference's gated heads' queries, from the kernel's arguments. -/
theorem value_gq (h : Agree m m' c) : Cert.Reference5Ideal.Read.val_main_v72 (F := Ideal) (m' ((c : Thread Cert.Reference5Ideal.nD Cert.Reference5Ideal.τ).loc Cert.Reference5Ideal.main_arg0)) (m' ((c : Thread Cert.Reference5Ideal.nD Cert.Reference5Ideal.τ).loc Cert.Reference5Ideal.main_arg1)) (m' ((c : Thread Cert.Reference5Ideal.nD Cert.Reference5Ideal.τ).loc Cert.Reference5Ideal.main_arg2))
      = Cert.Kernel5Ideal.InOdd.G15 m c := by
  obtain ⟨h0, h1, h2, h3, h4⟩ := h
  rw [h0, h1, h2]
  funext i
  obtain ⟨r, l, rfl⟩ : ∃ (a : Fin 65536) (b : Fin 512), i = ix2 a b := ⟨i 0, i 1, eq_ix2 i⟩
  refine (Cert.Reference5Ideal.InOdd.gq_apply _ _ _ r l).trans ?_
  simp only [Cert.Reference5Ideal.InOdd.proj_apply]
  rfl

/-- The reference's gated heads' keys, from the kernel's arguments. -/
theorem value_gk (h : Agree m m' c) : Cert.Reference5Ideal.Read.val_main_v73 (F := Ideal) (m' ((c : Thread Cert.Reference5Ideal.nD Cert.Reference5Ideal.τ).loc Cert.Reference5Ideal.main_arg0)) (m' ((c : Thread Cert.Reference5Ideal.nD Cert.Reference5Ideal.τ).loc Cert.Reference5Ideal.main_arg1)) (m' ((c : Thread Cert.Reference5Ideal.nD Cert.Reference5Ideal.τ).loc Cert.Reference5Ideal.main_arg2))
      = Cert.Kernel5Ideal.InOdd.G16 m c := by
  obtain ⟨h0, h1, h2, h3, h4⟩ := h
  rw [h0, h1, h2]
  funext i
  obtain ⟨r, l, rfl⟩ : ∃ (a : Fin 65536) (b : Fin 512), i = ix2 a b := ⟨i 0, i 1, eq_ix2 i⟩
  refine (Cert.Reference5Ideal.InOdd.gk_apply _ _ _ r l).trans ?_
  simp only [Cert.Reference5Ideal.InOdd.proj_apply]
  rfl

/-- The reference's gated heads' values, from the kernel's arguments. -/
theorem value_gv (h : Agree m m' c) : Cert.Reference5Ideal.Read.val_main_v74 (F := Ideal) (m' ((c : Thread Cert.Reference5Ideal.nD Cert.Reference5Ideal.τ).loc Cert.Reference5Ideal.main_arg0)) (m' ((c : Thread Cert.Reference5Ideal.nD Cert.Reference5Ideal.τ).loc Cert.Reference5Ideal.main_arg1)) (m' ((c : Thread Cert.Reference5Ideal.nD Cert.Reference5Ideal.τ).loc Cert.Reference5Ideal.main_arg2))
      = Cert.Kernel5Ideal.InOdd.G17 m c := by
  obtain ⟨h0, h1, h2, h3, h4⟩ := h
  rw [h0, h1, h2]
  funext i
  obtain ⟨r, l, rfl⟩ : ∃ (a : Fin 65536) (b : Fin 512), i = ix2 a b := ⟨i 0, i 1, eq_ix2 i⟩
  refine (Cert.Reference5Ideal.InOdd.gv_apply _ _ _ r l).trans ?_
  simp only [Cert.Reference5Ideal.InOdd.proj_apply]
  rfl

/-- The reference's gates' inner columns, from the kernel's arguments. -/
theorem value_ga (h : Agree m m' c) : Cert.Reference5Ideal.Read.val_main_v75 (F := Ideal) (m' ((c : Thread Cert.Reference5Ideal.nD Cert.Reference5Ideal.τ).loc Cert.Reference5Ideal.main_arg0)) (m' ((c : Thread Cert.Reference5Ideal.nD Cert.Reference5Ideal.τ).loc Cert.Reference5Ideal.main_arg1)) (m' ((c : Thread Cert.Reference5Ideal.nD Cert.Reference5Ideal.τ).loc Cert.Reference5Ideal.main_arg2))
      = Cert.Kernel5Ideal.InOdd.G18 m c := by
  obtain ⟨h0, h1, h2, h3, h4⟩ := h
  rw [h0, h1, h2]
  funext i
  obtain ⟨r, l, rfl⟩ : ∃ (a : Fin 65536) (b : Fin 128), i = ix2 a b := ⟨i 0, i 1, eq_ix2 i⟩
  refine (Cert.Reference5Ideal.InOdd.ga_apply _ _ _ r l).trans ?_
  simp only [Cert.Reference5Ideal.InOdd.proj_apply]
  rfl

/-- The reference's gated heads' output gates, from the kernel's arguments. -/
theorem value_gr (h : Agree m m' c) : Cert.Reference5Ideal.Read.val_main_v76 (F := Ideal) (m' ((c : Thread Cert.Reference5Ideal.nD Cert.Reference5Ideal.τ).loc Cert.Reference5Ideal.main_arg0)) (m' ((c : Thread Cert.Reference5Ideal.nD Cert.Reference5Ideal.τ).loc Cert.Reference5Ideal.main_arg1)) (m' ((c : Thread Cert.Reference5Ideal.nD Cert.Reference5Ideal.τ).loc Cert.Reference5Ideal.main_arg2))
      = Cert.Kernel5Ideal.InOdd.G19 m c := by
  obtain ⟨h0, h1, h2, h3, h4⟩ := h
  rw [h0, h1, h2]
  funext i
  obtain ⟨r, l, rfl⟩ : ∃ (a : Fin 65536) (b : Fin 512), i = ix2 a b := ⟨i 0, i 1, eq_ix2 i⟩
  refine (Cert.Reference5Ideal.InOdd.gr_apply _ _ _ r l).trans ?_
  simp only [Cert.Reference5Ideal.InOdd.proj_apply]
  rfl

set_option maxHeartbeats 2000000 in
/-- The call's results and the reference's are equal. -/
theorem algebraic : Cert.algebraic_Kernel5Ideal_Reference5Ideal (hKernel5Ideal := Cert.Kernel5Ideal.Gen.facts)
    (hReference5Ideal := Cert.Reference5Ideal.Gen.facts) := by
  intro m ρ m' ρ' _ hagree
  refine ⟨fun c => Cert.Kernel5Ideal.InOdd.G12 m c, fun c => Cert.Kernel5Ideal.InOdd.G13 m c, fun c => Cert.Kernel5Ideal.InOdd.G14 m c, fun c => Cert.Kernel5Ideal.InOdd.G15 m c, fun c => Cert.Kernel5Ideal.InOdd.G16 m c, fun c => Cert.Kernel5Ideal.InOdd.G17 m c, fun c => Cert.Kernel5Ideal.InOdd.G18 m c, fun c => Cert.Kernel5Ideal.InOdd.G19 m c, ?_, ?_⟩
  · refine (θ_run Cert.Kernel5Ideal.defs _ _).mono (fun r h c => ?_) (Cert.Kernel5Ideal.Value.run_blocks m ρ)
    obtain ⟨h0, h1, h2, h3, h4, h5, h6, h7, hk⟩ := h c
    exact ⟨h0.trans (Cert.Kernel5Ideal.InOdd.final12 m c), h1.trans (Cert.Kernel5Ideal.InOdd.final13 m c), h2.trans (Cert.Kernel5Ideal.InOdd.final14 m c), h3.trans (Cert.Kernel5Ideal.InOdd.final15 m c), h4.trans (Cert.Kernel5Ideal.InOdd.final16 m c), h5.trans (Cert.Kernel5Ideal.InOdd.final17 m c), h6.trans (Cert.Kernel5Ideal.InOdd.final18 m c), h7.trans (Cert.Kernel5Ideal.InOdd.final19 m c), hk⟩
  · refine (θ_run Cert.Reference5Ideal.defs _ _).mono (fun r h c => ?_) (Cert.Reference5Ideal.Value.run (F := Ideal) m' ρ')
    have ha := hagree c
    obtain ⟨h0, h1, h2, h3, h4, h5, h6, h7, hk⟩ := h c
    exact ⟨(h0.trans (Cert.Reference5Ideal.Read.val_main_v69_eq _ _ _ _ )).trans (value_q m m' c ha),
      (h1.trans (Cert.Reference5Ideal.Read.val_main_v70_eq _ _ _ _ )).trans (value_k m m' c ha),
      (h2.trans (Cert.Reference5Ideal.Read.val_main_v71_eq _ _ _ )).trans (value_v m m' c ha),
      (h3.trans (Cert.Reference5Ideal.Read.val_main_v72_eq _ _ _ )).trans (value_gq m m' c ha),
      (h4.trans (Cert.Reference5Ideal.Read.val_main_v73_eq _ _ _ )).trans (value_gk m m' c ha),
      (h5.trans (Cert.Reference5Ideal.Read.val_main_v74_eq _ _ _ )).trans (value_gv m m' c ha),
      (h6.trans (Cert.Reference5Ideal.Read.val_main_v75_eq _ _ _ )).trans (value_ga m m' c ha),
      (h7.trans (Cert.Reference5Ideal.Read.val_main_v76_eq _ _ _ )).trans (value_gr m m' c ha), hk⟩

end Cert.InOdd

end
-- ==== Proof.lean ====
/-
  The proof of `Cert.Claim`: the facts the programs state, the frames (the kernels' are the generated modules',
  the even input projection's those of `Proof/InEvenFrame.lean` and `Proof/InEvenFrameBits.lean`; the references'
  follow from their runs), and the equalities, which `Proof/AttnClaims.lean`,
  `Proof/FfnClaims.lean`, `Proof/InOddClaims.lean` and `Proof/InEvenClaims.lean` prove.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel6
public import proofs.«01_k».proof.Proof.InEvenFrameBits
public import proofs.«01_k».proof.Proof.Gen.Kernel6Ideal
public import proofs.«01_k».proof.Proof.InEvenFrame
public import proofs.«01_k».proof.Proof.Gen.Reference6Ideal
public import proofs.«01_k».proof.Proof.Gen.ReferenceIdeal.Run
public import proofs.«01_k».proof.Proof.Gen.Pre_finite_qk
public import proofs.«01_k».proof.Proof.AttnClaims
public import proofs.«01_k».proof.Proof.FfnClaims
public import proofs.«01_k».proof.Proof.Gen.Pre_rope_layout
public import proofs.«01_k».proof.Proof.InEvenClaims
public import proofs.«01_k».proof.Proof.InOddClaims
public import Idealize.ShloMosaic.Adequacy
public import Idealize.ShloMosaic.Init

@[expose] public section

noncomputable section

namespace Cert.Proof

open Idealize.ShloMosaic Idealize.SL.Sem

/-- The reference of the attention call leaves its arguments and every counter as they were. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The claim. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_finite_qk.Gen.facts, Cert.Pre_rope_layout.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    fun m ρ _ => Cert.Kernel2.Gen.frame m ρ,
    fun m ρ _ => Cert.Kernel2Ideal.Gen.frame m ρ,
    Cert.Ffn2.reference_frame,
    fun m ρ _ => Cert.Kernel3.Gen.frame m ρ,
    fun m ρ _ => Cert.Kernel3Ideal.Gen.frame m ρ,
    Cert.Ffn3.reference_frame,
    fun m ρ _ => Cert.Kernel4.Gen.frame m ρ,
    fun m ρ _ => Cert.Kernel4Ideal.Gen.frame m ρ,
    Cert.Ffn4.reference_frame,
    fun m ρ _ => Cert.Kernel5.Gen.frame m ρ,
    fun m ρ _ => Cert.Kernel5Ideal.Gen.frame m ρ,
    Cert.InOdd.reference_frame,
    fun m ρ _ => Cert.Kernel6.Gen.frame m ρ,
    fun m ρ _ => Cert.Kernel6Ideal.Gen.frame m ρ,
    fun m ρ _ => Cert.Kernel6Ideal.Gen.frame m ρ,
    Cert.InEven.reference_frame,
    fun m ρ _ => Cert.InEven.reference_frame m ρ trivial,
    trivial,
    Cert.Attn.algebraic,
    trivial,
    Cert.Ffn2.algebraic,
    trivial,
    Cert.Ffn3.algebraic,
    trivial,
    Cert.Ffn4.algebraic,
    trivial,
    Cert.InOdd.algebraic,
    IdealRules.named_const.statement _ _ _ _ _ rfl,
    Cert.InEven.algebraic⟩

end Cert.Proof

end
